-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate_weights [hPre_finite_gate_weights : Cert.Pre_finite_gate_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite_gate_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite_gate_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite_gate_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate_weights [hPre_finite_gate_weights : Cert.Pre_finite_gate_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite_gate_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite_gate_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite_gate_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_silu_weights [hPre_finite_silu_weights : Cert.Pre_finite_silu_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_silu_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_silu_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_silu_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_silu_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_silu_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_silu_weights [hPre_finite_silu_weights : Cert.Pre_finite_silu_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_silu_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_silu_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_silu_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_silu_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_silu_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_even_weights [hPre_finite_even_weights : Cert.Pre_finite_even_weights.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_even_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_even_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_even_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite_even_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_even_weights [hPre_finite_even_weights : Cert.Pre_finite_even_weights.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_even_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_even_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_even_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite_even_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_gate_weights [hKernel2Ideal : Cert.Kernel2Ideal.Facts] [hPre_finite_gate_weights : Cert.Pre_finite_gate_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_gate_weights [hReference2Ideal : Cert.Reference2Ideal.Facts] [hPre_finite_gate_weights : Cert.Pre_finite_gate_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_silu_weights [hKernel3Ideal : Cert.Kernel3Ideal.Facts] [hPre_finite_silu_weights : Cert.Pre_finite_silu_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_silu_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_silu_weights [hReference3Ideal : Cert.Reference3Ideal.Facts] [hPre_finite_silu_weights : Cert.Pre_finite_silu_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_silu_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_even_weights [hKernel4Ideal : Cert.Kernel4Ideal.Facts] [hPre_finite_even_weights : Cert.Pre_finite_even_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_even_weights m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_even_weights [hReference4Ideal : Cert.Reference4Ideal.Facts] [hPre_finite_even_weights : Cert.Pre_finite_even_weights.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_even_weights m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_gate_weights [hKernel2Ideal : Cert.Kernel2Ideal.Facts] [hReference2Ideal : Cert.Reference2Ideal.Facts] [hPre_finite_gate_weights : Cert.Pre_finite_gate_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite_silu_weights [hKernel3Ideal : Cert.Kernel3Ideal.Facts] [hReference3Ideal : Cert.Reference3Ideal.Facts] [hPre_finite_silu_weights : Cert.Pre_finite_silu_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_silu_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v109) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_even_weights [hKernel4Ideal : Cert.Kernel4Ideal.Facts] [hReference4Ideal : Cert.Reference4Ideal.Facts] [hPre_finite_even_weights : Cert.Pre_finite_even_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_even_weights m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_v90) = v2 c
          ∧ r.2.mem ((c.tc : Thread Cert.Reference4Ideal.nD Cert.Reference4Ideal.τ).loc Cert.Reference4Ideal.main_v96) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_gate_weights : Cert.Pre_finite_gate_weights.Facts) (hPre_finite_silu_weights : Cert.Pre_finite_silu_weights.Facts) (hPre_finite_even_weights : Cert.Pre_finite_even_weights.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gate_weights (hKernel2Ideal := hKernel2Ideal) (hPre_finite_gate_weights := hPre_finite_gate_weights)
    ∧ quiescent_Reference2Ideal (hReference2Ideal := hReference2Ideal)
    ∧ quiescent_Reference2Ideal_pre_finite_gate_weights (hReference2Ideal := hReference2Ideal) (hPre_finite_gate_weights := hPre_finite_gate_weights)
    ∧ quiescent_Kernel3 (hKernel3 := hKernel3)
    ∧ quiescent_Kernel3Ideal (hKernel3Ideal := hKernel3Ideal)
    ∧ quiescent_Kernel3Ideal_pre_finite_silu_weights (hKernel3Ideal := hKernel3Ideal) (hPre_finite_silu_weights := hPre_finite_silu_weights)
    ∧ quiescent_Reference3Ideal (hReference3Ideal := hReference3Ideal)
    ∧ quiescent_Reference3Ideal_pre_finite_silu_weights (hReference3Ideal := hReference3Ideal) (hPre_finite_silu_weights := hPre_finite_silu_weights)
    ∧ quiescent_Kernel4 (hKernel4 := hKernel4)
    ∧ quiescent_Kernel4Ideal (hKernel4Ideal := hKernel4Ideal)
    ∧ quiescent_Kernel4Ideal_pre_finite_even_weights (hKernel4Ideal := hKernel4Ideal) (hPre_finite_even_weights := hPre_finite_even_weights)
    ∧ quiescent_Reference4Ideal (hReference4Ideal := hReference4Ideal)
    ∧ quiescent_Reference4Ideal_pre_finite_even_weights (hReference4Ideal := hReference4Ideal) (hPre_finite_even_weights := hPre_finite_even_weights)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_gate_weights (hKernel2Ideal := hKernel2Ideal) (hReference2Ideal := hReference2Ideal) (hPre_finite_gate_weights := hPre_finite_gate_weights)
    ∧ preserves_Kernel3_Kernel3Ideal
    ∧ algebraic_Kernel3Ideal_Reference3Ideal_pre_finite_silu_weights (hKernel3Ideal := hKernel3Ideal) (hReference3Ideal := hReference3Ideal) (hPre_finite_silu_weights := hPre_finite_silu_weights)
    ∧ preserves_Kernel4_Kernel4Ideal
    ∧ algebraic_Kernel4Ideal_Reference4Ideal_pre_finite_even_weights (hKernel4Ideal := hKernel4Ideal) (hReference4Ideal := hReference4Ideal) (hPre_finite_even_weights := hPre_finite_even_weights)
-- ==== Pre_finite_even_weights.lean ====
abbrev S32768x1024 : Shape := ⟨2, ![32768, 1024]⟩
abbrev S2x4x1024 : Shape := ⟨3, ![2, 4, 1024]⟩
abbrev S1024x3600 : Shape := ⟨2, ![1024, 3600]⟩
abbrev S4x1536 : Shape := ⟨2, ![4, 1536]⟩
abbrev S1x1x1024 : Shape := ⟨3, ![1, 1, 1024]⟩
abbrev S1024 : Shape := ⟨1, ![1024]⟩
abbrev S1024x1536 : Shape := ⟨2, ![1024, 1536]⟩
abbrev S1024x512 : Shape := ⟨2, ![1024, 512]⟩
abbrev S_ : Shape := ⟨0, ![]⟩

class Facts : Prop where
  slices_S2x4x1024_S1x1x1024_0_0_0 : S2x4x1024.Slices ![0, 0, 0] S1x1x1024
  shapeCasts_S1x1x1024_S1024 : S1x1x1024.ShapeCasts S1024
  slices_S1024x3600_S1024x1536_0_1544 : S1024x3600.Slices ![0, 1544] S1024x1536
  slices_S1024x3600_S1024x512_0_3088 : S1024x3600.Slices ![0, 3088] S1024x512
  bcast_S_S1024 : S_.BroadcastsInDim S1024 (![] : Fin 0 → Fin S1024.rank)
  bcast_S_S1024x1536 : S_.BroadcastsInDim S1024x1536 (![] : Fin 0 → Fin S1024x1536.rank)
  bcast_S_S1024x512 : S_.BroadcastsInDim S1024x512 (![] : Fin 0 → Fin S1024x512.rank)
  bcast_S_S4x1536 : S_.BroadcastsInDim S4x1536 (![] : Fin 0 → Fin S4x1536.rank)

variable [Facts]

def fn {F : FTy → Type} [FloatOps F] (main_arg0 : FVec F S32768x1024 .f32) (main_arg1 : FVec F S2x4x1024 .f32) (main_arg2 : FVec F S1024x3600 .f32) (main_arg3 : FVec F S4x1536 .f32) : IVec S1024 1 × IVec S1024x1536 1 × IVec S1024x512 1 × IVec S4x1536 1 :=
  let main_v0 : FVec F S1x1x1024 .f32 := (extractStridedSlice S1x1x1024 ![0, 0, 0] · slices_S2x4x1024_S1x1x1024_0_0_0) main_arg1
  let main_v1 : FVec F S1024 .f32 := shapeCast S1024 main_v0 shapeCasts_S1x1x1024_S1024
  let main_v2 : FVec F S1024x1536 .f32 := (extractStridedSlice S1024x1536 ![0, 1544] · slices_S1024x3600_S1024x1536_0_1544) main_arg2
  let main_v3 : FVec F S1024x512 .f32 := (extractStridedSlice S1024x512 ![0, 3088] · slices_S1024x3600_S1024x512_0_3088) main_arg2
  let main_v4 : FVec F S1024 .f32 := Host.absf main_v1
  let main_cst : FVec F S_ .f32 := constant S_ .f32 0x7F800000#32
  let main_v5 : FVec F S1024 .f32 := broadcastInDim S1024 ![] bcast_S_S1024 main_cst
  let main_v6 : IVec S1024 1 := cmpf .olt main_v4 main_v5
  let main_v7 : FVec F S1024x1536 .f32 := Host.absf main_v2
  let main_cst_0 : FVec F S_ .f32 := constant S_ .f32 0x7F800000#32
  let main_v8 : FVec F S1024x1536 .f32 := broadcastInDim S1024x1536 ![] bcast_S_S1024x1536 main_cst_0
  let main_v9 : IVec S1024x1536 1 := cmpf .olt main_v7 main_v8
  let main_v10 : FVec F S1024x512 .f32 := Host.absf main_v3
  let main_cst_1 : FVec F S_ .f32 := constant S_ .f32 0x7F800000#32
  let main_v11 : FVec F S1024x512 .f32 := broadcastInDim S1024x512 ![] bcast_S_S1024x512 main_cst_1
  let main_v12 : IVec S1024x512 1 := cmpf .olt main_v10 main_v11
  let main_v13 : FVec F S4x1536 .f32 := Host.absf main_arg3
  let main_cst_2 : FVec F S_ .f32 := constant S_ .f32 0x7F800000#32
  let main_v14 : FVec F S4x1536 .f32 := broadcastInDim S4x1536 ![] bcast_S_S4x1536 main_cst_2
  let main_v15 : IVec S4x1536 1 := cmpf .olt main_v13 main_v14
  (main_v6, main_v9, main_v12, main_v15)
-- ==== Pre_finite_gate_weights.lean ====
abbrev S32768x512 : Shape := ⟨2, ![32768, 512]⟩
abbrev S32768x1024 : Shape := ⟨2, ![32768, 1024]⟩
abbrev S2x4x1024 : Shape := ⟨3, ![2, 4, 1024]⟩
abbrev S2x1024x1024 : Shape := ⟨3, ![2, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1x1024 : Shape := ⟨3, ![1, 1, 1024]⟩
abbrev S1024 : Shape := ⟨1, ![1024]⟩
abbrev S1x1024x2816 : Shape := ⟨3, ![1, 1024, 2816]⟩
abbrev S1024x2816 : Shape := ⟨2, ![1024, 2816]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S_ : Shape := ⟨0, ![]⟩

class Facts : Prop where
  slices_S2x4x1024_S1x1x1024_1_2_0 : S2x4x1024.Slices ![1, 2, 0] S1x1x1024
  shapeCasts_S1x1x1024_S1024 : S1x1x1024.ShapeCasts S1024
  slices_S2x1024x5632_S1x1024x2816_1_0_0 : S2x1024x5632.Slices ![1, 0, 0] S1x1024x2816
  shapeCasts_S1x1024x2816_S1024x2816 : S1x1024x2816.ShapeCasts S1024x2816
  slices_S2x3x5632_S1x3x2816_1_0_0 : S2x3x5632.Slices ![1, 0, 0] S1x3x2816
  shapeCasts_S1x3x2816_S3x2816 : S1x3x2816.ShapeCasts S3x2816
  slices_S2x5632_S1x2816_1_0 : S2x5632.Slices ![1, 0] S1x2816
  shapeCasts_S1x2816_S2816 : S1x2816.ShapeCasts S2816
  bcast_S_S1024 : S_.BroadcastsInDim S1024 (![] : Fin 0 → Fin S1024.rank)
  bcast_S_S1024x2816 : S_.BroadcastsInDim S1024x2816 (![] : Fin 0 → Fin S1024x2816.rank)
  bcast_S_S3x2816 : S_.BroadcastsInDim S3x2816 (![] : Fin 0 → Fin S3x2816.rank)
  bcast_S_S2816 : S_.BroadcastsInDim S2816 (![] : Fin 0 → Fin S2816.rank)

variable [Facts]

def fn {F : FTy → Type} [FloatOps F] (main_arg0 : FVec F S32768x512 .bf16) (main_arg1 : FVec F S32768x512 .bf16) (main_arg2 : FVec F S32768x1024 .f32) (main_arg3 : FVec F S2x4x1024 .f32) (main_arg4 : FVec F S2x1024x1024 .f32) (main_arg5 : FVec F S2x1024x5632 .f32) (main_arg6 : FVec F S2x3x5632 .f32) (main_arg7 : FVec F S2x5632 .f32) (main_arg8 : FVec F S2x2816x1024 .f32) : IVec S1024 1 × IVec S1024x2816 1 × IVec S3x2816 1 × IVec S2816 1 :=
  let main_v0 : FVec F S1x1x1024 .f32 := (extractStridedSlice S1x1x1024 ![1, 2, 0] · slices_S2x4x1024_S1x1x1024_1_2_0) main_arg3
  let main_v1 : FVec F S1024 .f32 := shapeCast S1024 main_v0 shapeCasts_S1x1x1024_S1024
  let main_v2 : FVec F S1x1024x2816 .f32 := (extractStridedSlice S1x1024x2816 ![1, 0, 0] · slices_S2x1024x5632_S1x1024x2816_1_0_0) main_arg5
  let main_v3 : FVec F S1024x2816 .f32 := shapeCast S1024x2816 main_v2 shapeCasts_S1x1024x2816_S1024x2816
  let main_v4 : FVec F S1x3x2816 .f32 := (extractStridedSlice S1x3x2816 ![1, 0, 0] · slices_S2x3x5632_S1x3x2816_1_0_0) main_arg6
  let main_v5 : FVec F S3x2816 .f32 := shapeCast S3x2816 main_v4 shapeCasts_S1x3x2816_S3x2816
  let main_v6 : FVec F S1x2816 .f32 := (extractStridedSlice S1x2816 ![1, 0] · slices_S2x5632_S1x2816_1_0) main_arg7
  let main_v7 : FVec F S2816 .f32 := shapeCast S2816 main_v6 shapeCasts_S1x2816_S2816
  let main_v8 : FVec F S1024 .f32 := Host.absf main_v1
  let main_cst : FVec F S_ .f32 := constant S_ .f32 0x7F800000#32
  let main_v9 : FVec F S1024 .f32 := broadcastInDim S1024 ![] bcast_S_S1024 main_cst
  let main_v10 : IVec S1024 1 := cmpf .olt main_v8 main_v9
  let main_v11 : FVec F S1024x2816 .f32 := Host.absf main_v3
  let main_cst_0 : FVec F S_ .f32 := constant S_ .f32 0x7F800000#32
  let main_v12 : FVec F S1024x2816 .f32 := broadcastInDim S1024x2816 ![] bcast_S_S1024x2816 main_cst_0
  let main_v13 : IVec S1024x2816 1 := cmpf .olt main_v11 main_v12
  let main_v14 : FVec F S3x2816 .f32 := Host.absf main_v5
  let main_cst_1 : FVec F S_ .f32 := constant S_ .f32 0x7F800000#32
  let main_v15 : FVec F S3x2816 .f32 := broadcastInDim S3x2816 ![] bcast_S_S3x2816 main_cst_1
  let main_v16 : IVec S3x2816 1 := cmpf .olt main_v14 main_v15
  let main_v17 : FVec F S2816 .f32 := Host.absf main_v7
  let main_cst_2 : FVec F S_ .f32 := constant S_ .f32 0x7F800000#32
  let main_v18 : FVec F S2816 .f32 := broadcastInDim S2816 ![] bcast_S_S2816 main_cst_2
  let main_v19 : IVec S2816 1 := cmpf .olt main_v17 main_v18
  (main_v10, main_v13, main_v16, main_v19)
-- ==== Pre_finite_silu_weights.lean ====
abbrev S32768x1024 : Shape := ⟨2, ![32768, 1024]⟩
abbrev S2x4x1024 : Shape := ⟨3, ![2, 4, 1024]⟩
abbrev S1024x3592 : Shape := ⟨2, ![1024, 3592]⟩
abbrev S2x512 : Shape := ⟨2, ![2, 512]⟩
abbrev S4x1024 : Shape := ⟨2, ![4, 1024]⟩
abbrev S1024 : Shape := ⟨1, ![1024]⟩
abbrev S1x1x1024 : Shape := ⟨3, ![1, 1, 1024]⟩
abbrev S1024x512 : Shape := ⟨2, ![1024, 512]⟩
abbrev S1024x2048 : Shape := ⟨2, ![1024, 2048]⟩
abbrev S_ : Shape := ⟨0, ![]⟩

class Facts : Prop where
  slices_S2x4x1024_S1x1x1024_1_0_0 : S2x4x1024.Slices ![1, 0, 0] S1x1x1024
  shapeCasts_S1x1x1024_S1024 : S1x1x1024.ShapeCasts S1024
  slices_S1024x3592_S1024x512_0_0 : S1024x3592.Slices ![0, 0] S1024x512
  slices_S1024x3592_S1024x2048_0_1536 : S1024x3592.Slices ![0, 1536] S1024x2048
  bcast_S_S1024 : S_.BroadcastsInDim S1024 (![] : Fin 0 → Fin S1024.rank)
  bcast_S_S1024x512 : S_.BroadcastsInDim S1024x512 (![] : Fin 0 → Fin S1024x512.rank)
  bcast_S_S1024x2048 : S_.BroadcastsInDim S1024x2048 (![] : Fin 0 → Fin S1024x2048.rank)
  bcast_S_S4x1024 : S_.BroadcastsInDim S4x1024 (![] : Fin 0 → Fin S4x1024.rank)

variable [Facts]

def fn {F : FTy → Type} [FloatOps F] (main_arg0 : FVec F S32768x1024 .f32) (main_arg1 : FVec F S2x4x1024 .f32) (main_arg2 : FVec F S1024x3592 .f32) (main_arg3 : FVec F S2x512 .f32) (main_arg4 : FVec F S4x1024 .f32) (main_arg5 : FVec F S1024 .f32) : IVec S1024 1 × IVec S1024x512 1 × IVec S1024x2048 1 × IVec S4x1024 1 × IVec S1024 1 :=
  let main_v0 : FVec F S1x1x1024 .f32 := (extractStridedSlice S1x1x1024 ![1, 0, 0] · slices_S2x4x1024_S1x1x1024_1_0_0) main_arg1
  let main_v1 : FVec F S1024 .f32 := shapeCast S1024 main_v0 shapeCasts_S1x1x1024_S1024
  let main_v2 : FVec F S1024x512 .f32 := (extractStridedSlice S1024x512 ![0, 0] · slices_S1024x3592_S1024x512_0_0) main_arg2
  let main_v3 : FVec F S1024x2048 .f32 := (extractStridedSlice S1024x2048 ![0, 1536] · slices_S1024x3592_S1024x2048_0_1536) main_arg2
  let main_v4 : FVec F S1024 .f32 := Host.absf main_v1
  let main_cst : FVec F S_ .f32 := constant S_ .f32 0x7F800000#32
  let main_v5 : FVec F S1024 .f32 := broadcastInDim S1024 ![] bcast_S_S1024 main_cst
  let main_v6 : IVec S1024 1 := cmpf .olt main_v4 main_v5
  let main_v7 : FVec F S1024x512 .f32 := Host.absf main_v2
  let main_cst_0 : FVec F S_ .f32 := constant S_ .f32 0x7F800000#32
  let main_v8 : FVec F S1024x512 .f32 := broadcastInDim S1024x512 ![] bcast_S_S1024x512 main_cst_0
  let main_v9 : IVec S1024x512 1 := cmpf .olt main_v7 main_v8
  let main_v10 : FVec F S1024x2048 .f32 := Host.absf main_v3
  let main_cst_1 : FVec F S_ .f32 := constant S_ .f32 0x7F800000#32
  let main_v11 : FVec F S1024x2048 .f32 := broadcastInDim S1024x2048 ![] bcast_S_S1024x2048 main_cst_1
  let main_v12 : IVec S1024x2048 1 := cmpf .olt main_v10 main_v11
  let main_v13 : FVec F S4x1024 .f32 := Host.absf main_arg4
  let main_cst_2 : FVec F S_ .f32 := constant S_ .f32 0x7F800000#32
  let main_v14 : FVec F S4x1024 .f32 := broadcastInDim S4x1024 ![] bcast_S_S4x1024 main_cst_2
  let main_v15 : IVec S4x1024 1 := cmpf .olt main_v13 main_v14
  let main_v16 : FVec F S1024 .f32 := Host.absf main_arg5
  let main_cst_3 : FVec F S_ .f32 := constant S_ .f32 0x7F800000#32
  let main_v17 : FVec F S1024 .f32 := broadcastInDim S1024 ![] bcast_S_S1024 main_cst_3
  let main_v18 : IVec S1024 1 := cmpf .olt main_v16 main_v17
  (main_v6, main_v9, main_v12, main_v15, main_v18)
-- ==== Kernel.lean ====
abbrev S32768x4224 : Shape := ⟨2, ![32768, 4224]⟩
abbrev S8 : Shape := ⟨1, ![8]⟩
abbrev S512 : Shape := ⟨1, ![512]⟩
abbrev S_ : Shape := ⟨0, ![]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S32768x512 : Shape := ⟨2, ![32768, 512]⟩
abbrev S512x1024 : Shape := ⟨2, ![512, 1024]⟩
abbrev S512x512 : Shape := ⟨2, ![512, 512]⟩
abbrev S512x128 : Shape := ⟨2, ![512, 128]⟩
abbrev S4x128x128 : Shape := ⟨3, ![4, 128, 128]⟩
abbrev S128x128 : Shape := ⟨2, ![128, 128]⟩
abbrev S128x1024 : Shape := ⟨2, ![128, 1024]⟩
abbrev S8x128 : Shape := ⟨2, ![8, 128]⟩
abbrev S128x1 : Shape := ⟨2, ![128, 1]⟩
abbrev S1x128x128 : Shape := ⟨3, ![1, 128, 128]⟩
abbrev S256x128 : Shape := ⟨2, ![256, 128]⟩
abbrev S128x256 : Shape := ⟨2, ![128, 256]⟩
abbrev S1x256 : Shape := ⟨2, ![1, 256]⟩

abbrev nBuf : Space → Nat
  | .hbm => 18
  | .vmem => 13
  | .smem => 0
  | _ => 0

abbrev bufTy : (tb : Table) → Fin (tcTables nBuf tb) → BufTy
  | .hbm, ⟨0, _⟩ => ⟨S32768x4224, .f32⟩
  | .hbm, ⟨1, _⟩ => ⟨S8, .f32⟩
  | .hbm, ⟨2, _⟩ => ⟨S8, .f32⟩
  | .hbm, ⟨3, _⟩ => ⟨S8, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S1x512, .f32⟩
  | .hbm, ⟨17, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | _, _ => ⟨S32768x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let c0_i32 : BitVec 32 := 0#32
  ![v1.toNat, c32_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x4224 : Shape := ⟨2, ![32768, 4224]⟩
abbrev S8 : Shape := ⟨1, ![8]⟩
abbrev S512 : Shape := ⟨1, ![512]⟩
abbrev S32768x1024 : Shape := ⟨2, ![32768, 1024]⟩
abbrev S16x2048x1024 : Shape := ⟨3, ![16, 2048, 1024]⟩
abbrev S32768x512 : Shape := ⟨2, ![32768, 512]⟩
abbrev S16x2048x512 : Shape := ⟨3, ![16, 2048, 512]⟩
abbrev S32768x8 : Shape := ⟨2, ![32768, 8]⟩
abbrev S16x2048x8 : Shape := ⟨3, ![16, 2048, 8]⟩
abbrev S16x2048x256 : Shape := ⟨3, ![16, 2048, 256]⟩
abbrev S16x2048x2x128 : Shape := ⟨4, ![16, 2048, 2, 128]⟩
abbrev S16x2048x2x4x128 : Shape := ⟨5, ![16, 2048, 2, 4, 128]⟩
abbrev S16x2048x8x128 : Shape := ⟨4, ![16, 2048, 8, 128]⟩
abbrev S16x2048x8x64 : Shape := ⟨4, ![16, 2048, 8, 64]⟩
abbrev S1x1x8 : Shape := ⟨3, ![1, 1, 8]⟩
abbrev S_ : Shape := ⟨0, ![]⟩
abbrev S16x2048x8x1 : Shape := ⟨4, ![16, 2048, 8, 1]⟩
abbrev S16x16x128x8x64 : Shape := ⟨5, ![16, 16, 128, 8, 64]⟩
abbrev S16x8x16x128x64 : Shape := ⟨5, ![16, 8, 16, 128, 64]⟩
abbrev S16x16x128x8x128 : Shape := ⟨5, ![16, 16, 128, 8, 128]⟩
abbrev S16x8x16x128x128 : Shape := ⟨5, ![16, 8, 16, 128, 128]⟩
abbrev S16x16x128x8 : Shape := ⟨4, ![16, 16, 128, 8]⟩
abbrev S16x8x16x128 : Shape := ⟨4, ![16, 8, 16, 128]⟩
abbrev S128x128 : Shape := ⟨2, ![128, 128]⟩
abbrev S16x8x16x128x1 : Shape := ⟨5, ![16, 8, 16, 128, 1]⟩
abbrev S16x8x16x1x128 : Shape := ⟨5, ![16, 8, 16, 1, 128]⟩
abbrev S16x8x16x1 : Shape := ⟨4, ![16, 8, 16, 1]⟩
abbrev S16x8x16x64x128 : Shape := ⟨5, ![16, 8, 16, 64, 128]⟩
abbrev S16x8x16 : Shape := ⟨3, ![16, 8, 16]⟩
abbrev S16x8x64x128 : Shape := ⟨4, ![16, 8, 64, 128]⟩
abbrev S16x8x1 : Shape := ⟨3, ![16, 8, 1]⟩
abbrev S16x8 : Shape := ⟨2, ![16, 8]⟩
abbrev S16x8x1x1 : Shape := ⟨4, ![16, 8, 1, 1]⟩
abbrev S16x8x1x64x128 : Shape := ⟨5, ![16, 8, 1, 64, 128]⟩
abbrev S8x1 : Shape := ⟨2, ![8, 1]⟩
abbrev S1x1x8x1 : Shape := ⟨4, ![1, 1, 8, 1]⟩
abbrev S16x2048x2x256 : Shape := ⟨4, ![16, 2048, 2, 256]⟩
abbrev S2x256 : Shape := ⟨2, ![2, 256]⟩
abbrev S16x2048x2 : Shape := ⟨3, ![16, 2048, 2]⟩
abbrev S16x2048x2x1 : Shape := ⟨4, ![16, 2048, 2, 1]⟩
abbrev S1x1x2x256 : Shape := ⟨4, ![1, 1, 2, 256]⟩

abbrev nBuf : Space → Nat
  | .hbm => 275
  | .vmem => 0
  | .smem => 0
  | _ => 0

abbrev hbmTy0_0 (i : Nat) : BufTy := match i % 128 with
  | 0 => ⟨S32768x4224, .f32⟩
  | 1 => ⟨S8, .f32⟩
  | 2 => ⟨S8, .f32⟩
  | 3 => ⟨S8, .f32⟩
  | 4 => ⟨S512, .f32⟩
  | 5 => ⟨S32768x1024, .f32⟩
  | 6 => ⟨S16x2048x1024, .f32⟩
  | 7 => ⟨S32768x512, .f32⟩
  | 8 => ⟨S16x2048x512, .f32⟩
  | 9 => ⟨S32768x8, .f32⟩
  | 10 => ⟨S16x2048x8, .f32⟩
  | 11 => ⟨S16x2048x512, .f32⟩
  | 12 => ⟨S16x2048x256, .f32⟩
  | 13 => ⟨S16x2048x256, .f32⟩
  | 14 => ⟨S16x2048x2x128, .f32⟩
  | 15 => ⟨S16x2048x2x4x128, .f32⟩
  | 16 => ⟨S16x2048x8x128, .f32⟩
  | 17 => ⟨S16x2048x2x128, .f32⟩
  | 18 => ⟨S16x2048x2x4x128, .f32⟩
  | 19 => ⟨S16x2048x8x128, .f32⟩
  | 20 => ⟨S16x2048x8x64, .f32⟩
  | 21 => ⟨S1x1x8, .f32⟩
  | 22 => ⟨S16x2048x8, .f32⟩
  | 23 => ⟨S16x2048x8, .f32⟩
  | 24 => ⟨S_, .f32⟩
  | 25 => ⟨S16x2048x8, .f32⟩
  | 26 => ⟨S16x2048x8, .f32⟩
  | 27 => ⟨S16x2048x8, .f32⟩
  | 28 => ⟨S16x2048x8, .f32⟩
  | 29 => ⟨S16x2048x8, .i1⟩
  | 30 => ⟨S16x2048x8, .f32⟩
  | 31 => ⟨S16x2048x8, .f32⟩
  | 32 => ⟨S16x2048x8, .f32⟩
  | 33 => ⟨S16x2048x8, .f32⟩
  | 34 => ⟨S16x2048x8, .f32⟩
  | 35 => ⟨S16x2048x8, .f32⟩
  | 36 => ⟨S16x2048x8, .f32⟩
  | 37 => ⟨S16x2048x8, .f32⟩
  | 38 => ⟨S8, .f32⟩
  | 39 => ⟨S8, .f32⟩
  | 40 => ⟨S16x2048x8x1, .f32⟩
  | 41 => ⟨S16x2048x8x64, .f32⟩
  | 42 => ⟨S16x2048x8x64, .f32⟩
  | 43 => ⟨S16x16x128x8x64, .f32⟩
  | 44 => ⟨S16x8x16x128x64, .f32⟩
  | 45 => ⟨S16x16x128x8x128, .f32⟩
  | 46 => ⟨S16x8x16x128x128, .f32⟩
  | 47 => ⟨S16x16x128x8x128, .f32⟩
  | 48 => ⟨S16x8x16x128x128, .f32⟩
  | 49 => ⟨S1x1x8, .f32⟩
  | 50 => ⟨S16x2048x8, .f32⟩
  | 51 => ⟨S16x2048x8, .f32⟩
  | 52 => ⟨S16x16x128x8, .f32⟩
  | 53 => ⟨S16x8x16x128, .f32⟩
  | 54 => ⟨S_, .f32⟩
  | 55 => ⟨S_, .f32⟩
  | 56 => ⟨S16x8x16x128, .f32⟩
  | 57 => ⟨S_, .i1⟩
  | 58 => ⟨S128x128, .i1⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .i1⟩
  | 66 => ⟨S128x128, .i1⟩
  | 67 => ⟨S128x128, .i1⟩
  | 68 => ⟨S16x8x16x128x1, .f32⟩
  | 69 => ⟨S16x8x16x1x128, .f32⟩
  | 70 => ⟨S16x8x16x128x128, .f32⟩
  | 71 => ⟨S16x8x16x128x128, .f32⟩
  | 72 => ⟨S16x8x16x128x128, .f32⟩
  | 73 => ⟨S_, .f32⟩
  | 74 => ⟨S_, .f32⟩
  | 75 => ⟨S16x8x16x128x128, .i1⟩
  | 76 => ⟨S16x8x16x128x128, .f32⟩
  | 77 => ⟨S16x8x16x128x128, .f32⟩
  | 78 => ⟨S16x8x16x128x128, .f32⟩
  | 79 => ⟨S16x8x16x128x128, .f32⟩
  | 80 => ⟨S16x8x16x128x128, .f32⟩
  | 81 => ⟨S16x8x16x128x64, .f32⟩
  | 82 => ⟨S16x8x16x1, .f32⟩
  | 83 => ⟨S16x8x16x128, .f32⟩
  | 84 => ⟨S16x8x16x128, .f32⟩
  | 85 => ⟨S16x8x16x128, .f32⟩
  | 86 => ⟨S16x8x16x128x1, .f32⟩
  | 87 => ⟨S16x8x16x128x128, .f32⟩
  | 88 => ⟨S16x8x16x128x128, .f32⟩
  | 89 => ⟨S16x8x16x64x128, .f32⟩
  | 90 => ⟨S16x8x16x1, .f32⟩
  | 91 => ⟨S16x8x16, .f32⟩
  | 92 => ⟨S16x8x16, .f32⟩
  | 93 => ⟨S_, .f32⟩
  | 94 => ⟨S16x8x64x128, .f32⟩
  | 95 => ⟨S16x8x1, .f32⟩
  | 96 => ⟨S16x8, .f32⟩
  | 97 => ⟨S16x8x1x1, .f32⟩
  | 98 => ⟨S16x8x64x128, .f32⟩
  | 99 => ⟨S16x8x64x128, .f32⟩
  | 100 => ⟨S16x8x1x64x128, .f32⟩
  | 101 => ⟨S16x8x64x128, .f32⟩
  | 102 => ⟨S16x8x64x128, .f32⟩
  | 103 => ⟨S16x8x1, .f32⟩
  | 104 => ⟨S16x8, .f32⟩
  | 105 => ⟨S16x8x1x1, .f32⟩
  | 106 => ⟨S16x8x64x128, .f32⟩
  | 107 => ⟨S16x8x64x128, .f32⟩
  | 108 => ⟨S16x8x1x64x128, .f32⟩
  | 109 => ⟨S16x8x64x128, .f32⟩
  | 110 => ⟨S16x8x64x128, .f32⟩
  | 111 => ⟨S16x8x1, .f32⟩
  | 112 => ⟨S16x8, .f32⟩
  | 113 => ⟨S16x8x1x1, .f32⟩
  | 114 => ⟨S16x8x64x128, .f32⟩
  | 115 => ⟨S16x8x64x128, .f32⟩
  | 116 => ⟨S16x8x1x64x128, .f32⟩
  | 117 => ⟨S16x8x64x128, .f32⟩
  | 118 => ⟨S16x8x64x128, .f32⟩
  | 119 => ⟨S16x8x1, .f32⟩
  | 120 => ⟨S16x8, .f32⟩
  | 121 => ⟨S16x8x1x1, .f32⟩
  | 122 => ⟨S16x8x64x128, .f32⟩
  | 123 => ⟨S16x8x64x128, .f32⟩
  | 124 => ⟨S16x8x1x64x128, .f32⟩
  | 125 => ⟨S16x8x64x128, .f32⟩
  | 126 => ⟨S16x8x64x128, .f32⟩
  | 127 => ⟨S16x8x1, .f32⟩
  | _ => ⟨S32768x4224, .f32⟩

abbrev hbmTy0_1 (i : Nat) : BufTy := match i % 128 with
  | 0 => ⟨S16x8, .f32⟩
  | 1 => ⟨S16x8x1x1, .f32⟩
  | 2 => ⟨S16x8x64x128, .f32⟩
  | 3 => ⟨S16x8x64x128, .f32⟩
  | 4 => ⟨S16x8x1x64x128, .f32⟩
  | 5 => ⟨S16x8x64x128, .f32⟩
  | 6 => ⟨S16x8x64x128, .f32⟩
  | 7 => ⟨S16x8x1, .f32⟩
  | 8 => ⟨S16x8, .f32⟩
  | 9 => ⟨S16x8x1x1, .f32⟩
  | 10 => ⟨S16x8x64x128, .f32⟩
  | 11 => ⟨S16x8x64x128, .f32⟩
  | 12 => ⟨S16x8x1x64x128, .f32⟩
  | 13 => ⟨S16x8x64x128, .f32⟩
  | 14 => ⟨S16x8x64x128, .f32⟩
  | 15 => ⟨S16x8x1, .f32⟩
  | 16 => ⟨S16x8, .f32⟩
  | 17 => ⟨S16x8x1x1, .f32⟩
  | 18 => ⟨S16x8x64x128, .f32⟩
  | 19 => ⟨S16x8x64x128, .f32⟩
  | 20 => ⟨S16x8x1x64x128, .f32⟩
  | 21 => ⟨S16x8x64x128, .f32⟩
  | 22 => ⟨S16x8x64x128, .f32⟩
  | 23 => ⟨S16x8x1, .f32⟩
  | 24 => ⟨S16x8, .f32⟩
  | 25 => ⟨S16x8x1x1, .f32⟩
  | 26 => ⟨S16x8x64x128, .f32⟩
  | 27 => ⟨S16x8x64x128, .f32⟩
  | 28 => ⟨S16x8x1x64x128, .f32⟩
  | 29 => ⟨S16x8x64x128, .f32⟩
  | 30 => ⟨S16x8x64x128, .f32⟩
  | 31 => ⟨S16x8x1, .f32⟩
  | 32 => ⟨S16x8, .f32⟩
  | 33 => ⟨S16x8x1x1, .f32⟩
  | 34 => ⟨S16x8x64x128, .f32⟩
  | 35 => ⟨S16x8x64x128, .f32⟩
  | 36 => ⟨S16x8x1x64x128, .f32⟩
  | 37 => ⟨S16x8x64x128, .f32⟩
  | 38 => ⟨S16x8x64x128, .f32⟩
  | 39 => ⟨S16x8x1, .f32⟩
  | 40 => ⟨S16x8, .f32⟩
  | 41 => ⟨S16x8x1x1, .f32⟩
  | 42 => ⟨S16x8x64x128, .f32⟩
  | 43 => ⟨S16x8x64x128, .f32⟩
  | 44 => ⟨S16x8x1x64x128, .f32⟩
  | 45 => ⟨S16x8x64x128, .f32⟩
  | 46 => ⟨S16x8x64x128, .f32⟩
  | 47 => ⟨S16x8x1, .f32⟩
  | 48 => ⟨S16x8, .f32⟩
  | 49 => ⟨S16x8x1x1, .f32⟩
  | 50 => ⟨S16x8x64x128, .f32⟩
  | 51 => ⟨S16x8x64x128, .f32⟩
  | 52 => ⟨S16x8x1x64x128, .f32⟩
  | 53 => ⟨S16x8x64x128, .f32⟩
  | 54 => ⟨S16x8x64x128, .f32⟩
  | 55 => ⟨S16x8x1, .f32⟩
  | 56 => ⟨S16x8, .f32⟩
  | 57 => ⟨S16x8x1x1, .f32⟩
  | 58 => ⟨S16x8x64x128, .f32⟩
  | 59 => ⟨S16x8x64x128, .f32⟩
  | 60 => ⟨S16x8x1x64x128, .f32⟩
  | 61 => ⟨S16x8x64x128, .f32⟩
  | 62 => ⟨S16x8x64x128, .f32⟩
  | 63 => ⟨S16x8x1, .f32⟩
  | 64 => ⟨S16x8, .f32⟩
  | 65 => ⟨S16x8x1x1, .f32⟩
  | 66 => ⟨S16x8x64x128, .f32⟩
  | 67 => ⟨S16x8x64x128, .f32⟩
  | 68 => ⟨S16x8x1x64x128, .f32⟩
  | 69 => ⟨S16x8x64x128, .f32⟩
  | 70 => ⟨S16x8x64x128, .f32⟩
  | 71 => ⟨S16x8x1, .f32⟩
  | 72 => ⟨S16x8, .f32⟩
  | 73 => ⟨S16x8x1x1, .f32⟩
  | 74 => ⟨S16x8x64x128, .f32⟩
  | 75 => ⟨S16x8x64x128, .f32⟩
  | 76 => ⟨S16x8x1x64x128, .f32⟩
  | 77 => ⟨S16x8x64x128, .f32⟩
  | 78 => ⟨S16x8x64x128, .f32⟩
  | 79 => ⟨S16x8x1, .f32⟩
  | 80 => ⟨S16x8, .f32⟩
  | 81 => ⟨S16x8x1x1, .f32⟩
  | 82 => ⟨S16x8x64x128, .f32⟩
  | 83 => ⟨S16x8x64x128, .f32⟩
  | 84 => ⟨S16x8x1x64x128, .f32⟩
  | 85 => ⟨S16x8x64x128, .f32⟩
  | 86 => ⟨S16x8x64x128, .f32⟩
  | 87 => ⟨S16x8x1, .f32⟩
  | 88 => ⟨S16x8, .f32⟩
  | 89 => ⟨S16x8x1x1, .f32⟩
  | 90 => ⟨S16x8x64x128, .f32⟩
  | 91 => ⟨S16x8x64x128, .f32⟩
  | 92 => ⟨S16x8x1x64x128, .f32⟩
  | 93 => ⟨S16x8x64x128, .f32⟩
  | 94 => ⟨S16x8x64x128, .f32⟩
  | 95 => ⟨S16x8x1x64x128, .f32⟩
  | 96 => ⟨S16x8x1x64x128, .f32⟩
  | 97 => ⟨S16x8x1x64x128, .f32⟩
  | 98 => ⟨S16x8x1x64x128, .f32⟩
  | 99 => ⟨S16x8x1x64x128, .f32⟩
  | 100 => ⟨S16x8x1x64x128, .f32⟩
  | 101 => ⟨S16x8x1x64x128, .f32⟩
  | 102 => ⟨S16x8x1x64x128, .f32⟩
  | 103 => ⟨S16x8x1x64x128, .f32⟩
  | 104 => ⟨S16x8x1x64x128, .f32⟩
  | 105 => ⟨S16x8x1x64x128, .f32⟩
  | 106 => ⟨S16x8x1x64x128, .f32⟩
  | 107 => ⟨S16x8x1x64x128, .f32⟩
  | 108 => ⟨S16x8x1x64x128, .f32⟩
  | 109 => ⟨S16x8x1x64x128, .f32⟩
  | 110 => ⟨S16x8x1x64x128, .f32⟩
  | 111 => ⟨S16x8x16x64x128, .f32⟩
  | 112 => ⟨S16x8x16x128, .f32⟩
  | 113 => ⟨S16x8x16x128x1, .f32⟩
  | 114 => ⟨S16x8x16x128x128, .f32⟩
  | 115 => ⟨S16x8x16x128x128, .f32⟩
  | 116 => ⟨S16x8x16x128x64, .f32⟩
  | 117 => ⟨S16x8x16x128x64, .f32⟩
  | 118 => ⟨S16x16x128x8x64, .f32⟩
  | 119 => ⟨S16x2048x8x64, .f32⟩
  | 120 => ⟨S8x1, .f32⟩
  | 121 => ⟨S1x1x8x1, .f32⟩
  | 122 => ⟨S16x2048x8x64, .f32⟩
  | 123 => ⟨S16x2048x8x64, .f32⟩
  | 124 => ⟨S16x2048x8x64, .f32⟩
  | 125 => ⟨S16x2048x512, .f32⟩
  | 126 => ⟨S16x2048x512, .f32⟩
  | 127 => ⟨S16x2048x2x256, .f32⟩
  | _ => ⟨S32768x4224, .f32⟩

abbrev hbmTy0_2 (i : Nat) : BufTy := match i % 128 with
  | 0 => ⟨S2x256, .f32⟩
  | 1 => ⟨S16x2048x2x256, .f32⟩
  | 2 => ⟨S_, .f32⟩
  | 3 => ⟨S16x2048x2, .f32⟩
  | 4 => ⟨S16x2048x2x1, .f32⟩
  | 5 => ⟨S_, .f32⟩
  | 6 => ⟨S16x2048x2x1, .f32⟩
  | 7 => ⟨S16x2048x2x1, .f32⟩
  | 8 => ⟨S_, .f32⟩
  | 9 => ⟨S16x2048x2x1, .f32⟩
  | 10 => ⟨S16x2048x2x1, .f32⟩
  | 11 => ⟨S16x2048x2x1, .f32⟩
  | 12 => ⟨S16x2048x2x256, .f32⟩
  | 13 => ⟨S16x2048x2x256, .f32⟩
  | 14 => ⟨S1x1x2x256, .f32⟩
  | 15 => ⟨S16x2048x2x256, .f32⟩
  | 16 => ⟨S16x2048x2x256, .f32⟩
  | 17 => ⟨S32768x512, .f32⟩
  | 18 => ⟨S32768x512, .bf16⟩
  | _ => ⟨S32768x4224, .f32⟩

abbrev hbmTy (i : Nat) : BufTy := match i / 128 with
  | 0 => hbmTy0_0 i
  | 1 => hbmTy0_1 i
  | 2 => hbmTy0_2 i
  | _ => ⟨S32768x4224, .f32⟩

abbrev bufTy : (tb : Table) → Fin (tcTables nBuf tb) → BufTy
  | .hbm, ⟨i, _⟩ => hbmTy i
  | _, _ => ⟨S32768x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_call0_cst : Ref sig .tc := ⟨.hbm, 54, rfl⟩
abbrev main_call1_call0_v0 : Ref sig .tc := ⟨.hbm, 55, rfl⟩
abbrev main_v36 : Ref sig .tc := ⟨.hbm, 56, rfl⟩
abbrev main_c : Ref sig .tc := ⟨.hbm, 57, rfl⟩
abbrev main_v37 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_cst_1 : Ref sig .tc := ⟨.hbm, 258, rfl⟩
abbrev main_v224 : Ref sig .tc := ⟨.hbm, 259, rfl⟩
abbrev main_v225 : Ref sig .tc := ⟨.hbm, 260, rfl⟩
abbrev main_cst_2 : Ref sig .tc := ⟨.hbm, 261, rfl⟩
abbrev main_v226 : Ref sig .tc := ⟨.hbm, 262, rfl⟩
abbrev main_v227 : Ref sig .tc := ⟨.hbm, 263, rfl⟩
abbrev main_cst_3 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩

abbrev nD : Nat := 1
abbrev τ : Topo := Topo.v7x

variable {F : FTy → Type} [FloatOps F]
-- ==== Kernel2.lean ====
abbrev S32768x512 : Shape := ⟨2, ![32768, 512]⟩
abbrev S32768x1024 : Shape := ⟨2, ![32768, 1024]⟩
abbrev S2x4x1024 : Shape := ⟨3, ![2, 4, 1024]⟩
abbrev S2x1024x1024 : Shape := ⟨3, ![2, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S512x512 : Shape := ⟨2, ![512, 512]⟩
abbrev S1x1024x1024 : Shape := ⟨3, ![1, 1024, 1024]⟩
abbrev S512x1024 : Shape := ⟨2, ![512, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S8x5632 : Shape := ⟨2, ![8, 5632]⟩
abbrev S512x2816 : Shape := ⟨2, ![512, 2816]⟩
abbrev S1x512x1024 : Shape := ⟨3, ![1, 512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S520x256 : Shape := ⟨2, ![520, 256]⟩
abbrev S1x1x256 : Shape := ⟨3, ![1, 1, 256]⟩
abbrev S1x256 : Shape := ⟨2, ![1, 256]⟩
abbrev S512x1536 : Shape := ⟨2, ![512, 1536]⟩
abbrev S1x1536x1024 : Shape := ⟨3, ![1, 1536, 1024]⟩
abbrev S1536x1024 : Shape := ⟨2, ![1536, 1024]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 25
  | .vmem => 18
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S2x4x1024, .f32⟩
  | .hbm, ⟨4, _⟩ => ⟨S2x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1024x1024, .bf16⟩
  | .hbm, ⟨10, _⟩ => ⟨S2x1024x5632, .bf16⟩
  | .hbm, ⟨11, _⟩ => ⟨S2x2816x1024, .bf16⟩
  | .hbm, ⟨12, _⟩ => ⟨S2x1x5632, .f32⟩
  | .hbm, ⟨13, _⟩ => ⟨S1x4x1024, .f32⟩
  | .hbm, ⟨14, _⟩ => ⟨S4x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024x5632, .bf16⟩
  | .local _ .vmem, ⟨10, _⟩ => ⟨S1x3x5632, .f32⟩
  | .local _ .vmem, ⟨11, _⟩ => ⟨S1x1x5632, .f32⟩
  | .local _ .vmem, ⟨12, _⟩ => ⟨S1x2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x5632, .f32⟩
  | .local _ .vmem, ⟨17, _⟩ => ⟨S512x2816, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S32768x512 : Shape := ⟨2, ![32768, 512]⟩
abbrev S32768x1024 : Shape := ⟨2, ![32768, 1024]⟩
abbrev S2x4x1024 : Shape := ⟨3, ![2, 4, 1024]⟩
abbrev S2x1024x1024 : Shape := ⟨3, ![2, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x4x1024 : Shape := ⟨3, ![1, 4, 1024]⟩
abbrev S4x1024 : Shape := ⟨2, ![4, 1024]⟩
abbrev S16x2048x1024 : Shape := ⟨3, ![16, 2048, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2050x5632 : Shape := ⟨3, ![16, 2050, 5632]⟩
abbrev S1x1x5632 : Shape := ⟨3, ![1, 1, 5632]⟩
abbrev S16x2048x2816 : Shape := ⟨3, ![16, 2048, 2816]⟩

abbrev nBuf : Space → Nat
  | .hbm => 124
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S2x4x1024, .f32⟩
  | .hbm, ⟨4, _⟩ => ⟨S2x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S1x4x1024, .f32⟩
  | .hbm, ⟨10, _⟩ => ⟨S4x1024, .f32⟩
  | .hbm, ⟨11, _⟩ => ⟨S32768x512, .f32⟩
  | .hbm, ⟨12, _⟩ => ⟨S32768x512, .f32⟩
  | .hbm, ⟨13, _⟩ => ⟨S32768x1024, .f32⟩
  | .hbm, ⟨14, _⟩ => ⟨S16x2048x1024, .f32⟩
  | .hbm, ⟨15, _⟩ => ⟨S1x1024x1024, .f32⟩
  | .hbm, ⟨16, _⟩ => ⟨S1024x1024, .f32⟩
  | .hbm, ⟨17, _⟩ => ⟨S16x2048x1024, .f32⟩
  | .hbm, ⟨18, _⟩ => ⟨S16x2048x1024, .f32⟩
  | .hbm, ⟨19, _⟩ => ⟨S1x1024, .f32⟩
  | .hbm, ⟨20, _⟩ => ⟨S1024, .f32⟩
  | .hbm, ⟨21, _⟩ => ⟨S16x2048x1024, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S1x1024, .f32⟩
  | .hbm, ⟨39, _⟩ => ⟨S1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S1x1024x5632, .f32⟩
  | .hbm, ⟨57, _⟩ => ⟨S1024x5632, .f32⟩
  | .hbm, ⟨58, _⟩ => ⟨S1x3x5632, .f32⟩
  | .hbm, ⟨59, _⟩ => ⟨S3x5632, .f32⟩
  | .hbm, ⟨60, _⟩ => ⟨S1x5632, .f32⟩
  | .hbm, ⟨61, _⟩ => ⟨S5632, .f32⟩
  | .hbm, ⟨62, _⟩ => ⟨S1x2816x1024, .f32⟩
  | .hbm, ⟨63, _⟩ => ⟨S2816x1024, .f32⟩
  | .hbm, ⟨64, _⟩ => ⟨S16x2048x5632, .f32⟩
  | .hbm, ⟨65, _⟩ => ⟨S_, .i32⟩
  | .hbm, ⟨66, _⟩ => ⟨S_, .f32⟩
  | .hbm, ⟨67, _⟩ => ⟨S16x2050x5632, .f32⟩
  | .hbm, ⟨68, _⟩ => ⟨S16x2048x5632, .f32⟩
  | .hbm, ⟨69, _⟩ => ⟨S1x5632, .f32⟩
  | .hbm, ⟨70, _⟩ => ⟨S5632, .f32⟩
  | .hbm, ⟨71, _⟩ => ⟨S1x1x5632, .f32⟩
  | .hbm, ⟨72, _⟩ => ⟨S16x2048x5632, .f32⟩
  | .hbm, ⟨73, _⟩ => ⟨S16x2048x5632, .f32⟩
  | .hbm, ⟨74, _⟩ => ⟨S16x2048x5632, .f32⟩
  | .hbm, ⟨75, _⟩ => ⟨S1x5632, .f32⟩
  | .hbm, ⟨76, _⟩ => ⟨S5632, .f32⟩
  | .hbm, ⟨77, _⟩ => ⟨S1x1x5632, .f32⟩
  | .hbm, ⟨78, _⟩ => ⟨S16x2048x5632, .f32⟩
  | .hbm, ⟨79, _⟩ => ⟨S16x2048x5632, .f32⟩
  | .hbm, ⟨80, _⟩ => ⟨S16x2048x5632, .f32⟩
  | .hbm, ⟨81, _⟩ => ⟨S16x2048x5632, .f32⟩
  | .hbm, ⟨82, _⟩ => ⟨S1x5632, .f32⟩
  | .hbm, ⟨83, _⟩ => ⟨S5632, .f32⟩
  | .hbm, ⟨84, _⟩ => ⟨S1x1x5632, .f32⟩
  | .hbm, ⟨85, _⟩ => ⟨S16x2048x5632, .f32⟩
  | .hbm, ⟨86, _⟩ => ⟨S16x2048x5632, .f32⟩
  | .hbm, ⟨87, _⟩ => ⟨S16x2048x5632, .f32⟩
  | .hbm, ⟨88, _⟩ => ⟨S1x1x5632, .f32⟩
  | .hbm, ⟨89, _⟩ => ⟨S16x2048x5632, .f32⟩
  | .hbm, ⟨90, _⟩ => ⟨S16x2048x5632, .f32⟩
  | .hbm, ⟨91, _⟩ => ⟨S16x2048x2816, .f32⟩
  | .hbm, ⟨92, _⟩ => ⟨S16x2048x2816, .f32⟩
  | .hbm, ⟨93, _⟩ => ⟨S16x2048x2816, .f32⟩
  | .hbm, ⟨94, _⟩ => ⟨S16x2048x2816, .f32⟩
  | .hbm, ⟨95, _⟩ => ⟨S_, .f32⟩
  | .hbm, ⟨96, _⟩ => ⟨S16x2048x2816, .f32⟩
  | .hbm, ⟨97, _⟩ => ⟨S16x2048x2816, .f32⟩
  | .hbm, ⟨98, _⟩ => ⟨S_, .f32⟩
  | .hbm, ⟨99, _⟩ => ⟨S16x2048x2816, .f32⟩
  | .hbm, ⟨100, _⟩ => ⟨S16x2048x2816, .f32⟩
  | .hbm, ⟨101, _⟩ => ⟨S16x2048x2816, .f32⟩
  | .hbm, ⟨102, _⟩ => ⟨S16x2048x2816, .f32⟩
  | .hbm, ⟨103, _⟩ => ⟨S16x2048x1024, .f32⟩
  | .hbm, ⟨104, _⟩ => ⟨S1x1024, .f32⟩
  | .hbm, ⟨105, _⟩ => ⟨S1024, .f32⟩
  | .hbm, ⟨106, _⟩ => ⟨S16x2048x1024, .f32⟩
  | .hbm, ⟨107, _⟩ => ⟨S_, .f32⟩
  | .hbm, ⟨108, _⟩ => ⟨S16x2048, .f32⟩
  | .hbm, ⟨109, _⟩ => ⟨S16x2048x1, .f32⟩
  | .hbm, ⟨110, _⟩ => ⟨S_, .f32⟩
  | .hbm, ⟨111, _⟩ => ⟨S16x2048x1, .f32⟩
  | .hbm, ⟨112, _⟩ => ⟨S16x2048x1, .f32⟩
  | .hbm, ⟨113, _⟩ => ⟨S_, .f32⟩
  | .hbm, ⟨114, _⟩ => ⟨S16x2048x1, .f32⟩
  | .hbm, ⟨115, _⟩ => ⟨S16x2048x1, .f32⟩
  | .hbm, ⟨116, _⟩ => ⟨S16x2048x1, .f32⟩
  | .hbm, ⟨117, _⟩ => ⟨S16x2048x1024, .f32⟩
  | .hbm, ⟨118, _⟩ => ⟨S16x2048x1024, .f32⟩
  | .hbm, ⟨119, _⟩ => ⟨S1x1x1024, .f32⟩
  | .hbm, ⟨120, _⟩ => ⟨S16x2048x1024, .f32⟩
  | .hbm, ⟨121, _⟩ => ⟨S16x2048x1024, .f32⟩
  | .hbm, ⟨122, _⟩ => ⟨S16x2048x1024, .f32⟩
  | .hbm, ⟨123, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_5 : Ref sig .tc := ⟨.hbm, 107, rfl⟩
abbrev main_v82 : Ref sig .tc := ⟨.hbm, 108, rfl⟩
abbrev main_v83 : Ref sig .tc := ⟨.hbm, 109, rfl⟩
abbrev main_cst_6 : Ref sig .tc := ⟨.hbm, 110, rfl⟩
abbrev main_v84 : Ref sig .tc := ⟨.hbm, 111, rfl⟩
abbrev main_v85 : Ref sig .tc := ⟨.hbm, 112, rfl⟩
abbrev main_cst_7 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Kernel3.lean ====
abbrev S32768x1024 : Shape := ⟨2, ![32768, 1024]⟩
abbrev S2x4x1024 : Shape := ⟨3, ![2, 4, 1024]⟩
abbrev S1024x3592 : Shape := ⟨2, ![1024, 3592]⟩
abbrev S2x512 : Shape := ⟨2, ![2, 512]⟩
abbrev S4x1024 : Shape := ⟨2, ![4, 1024]⟩
abbrev S1024 : Shape := ⟨1, ![1024]⟩
abbrev S_ : Shape := ⟨0, ![]⟩
abbrev S1024x120 : Shape := ⟨2, ![1024, 120]⟩
abbrev S1024x1024 : Shape := ⟨2, ![1024, 1024]⟩
abbrev S1024x2560 : Shape := ⟨2, ![1024, 2560]⟩
abbrev S1024x8 : Shape := ⟨2, ![1024, 8]⟩
abbrev S1024x3712 : Shape := ⟨2, ![1024, 3712]⟩
abbrev S1x4x1024 : Shape := ⟨3, ![1, 4, 1024]⟩
abbrev S1x1024 : Shape := ⟨2, ![1, 1024]⟩
abbrev S32768x4224 : Shape := ⟨2, ![32768, 4224]⟩
abbrev S512x1024 : Shape := ⟨2, ![512, 1024]⟩
abbrev S512x4224 : Shape := ⟨2, ![512, 4224]⟩
abbrev S8x1024 : Shape := ⟨2, ![8, 1024]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S8x512 : Shape := ⟨2, ![8, 512]⟩
abbrev S520x512 : Shape := ⟨2, ![520, 512]⟩
abbrev S1024x128 : Shape := ⟨2, ![1024, 128]⟩
abbrev S512x128 : Shape := ⟨2, ![512, 128]⟩

abbrev nBuf : Space → Nat
  | .hbm => 20
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S2x4x1024, .f32⟩
  | .hbm, ⟨2, _⟩ => ⟨S1024x3592, .f32⟩
  | .hbm, ⟨3, _⟩ => ⟨S2x512, .f32⟩
  | .hbm, ⟨4, _⟩ => ⟨S4x1024, .f32⟩
  | .hbm, ⟨5, _⟩ => ⟨S1024, .f32⟩
  | .hbm, ⟨6, _⟩ => ⟨S_, .bf16⟩
  | .hbm, ⟨7, _⟩ => ⟨S1024x120, .bf16⟩
  | .hbm, ⟨8, _⟩ => ⟨S1024x3592, .bf16⟩
  | .hbm, ⟨9, _⟩ => ⟨S1024x1024, .bf16⟩
  | .hbm, ⟨10, _⟩ => ⟨S1024x2560, .bf16⟩
  | .hbm, ⟨11, _⟩ => ⟨S1024x8, .bf16⟩
  | .hbm, ⟨12, _⟩ => ⟨S1024x3712, .bf16⟩
  | .hbm, ⟨13, _⟩ => ⟨S1x4x1024, .f32⟩
  | .hbm, ⟨14, _⟩ => ⟨S4x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S32768x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S2x512, .f32⟩
  | .local _ .vmem, ⟨5, _⟩ => ⟨S4x1024, .f32⟩
  | .local _ .vmem, ⟨6, _⟩ => ⟨S1x1024, .f32⟩
  | .local _ .vmem, ⟨7, _⟩ => ⟨S512x4224, .f32⟩
  | .local _ .vmem, ⟨8, _⟩ => ⟨S512x4224, .f32⟩
  | .local _ .vmem, ⟨9, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S2x4x1024 : Shape := ⟨3, ![2, 4, 1024]⟩
abbrev S1024x3592 : Shape := ⟨2, ![1024, 3592]⟩
abbrev S2x512 : Shape := ⟨2, ![2, 512]⟩
abbrev S4x1024 : Shape := ⟨2, ![4, 1024]⟩
abbrev S1024 : Shape := ⟨1, ![1024]⟩
abbrev S16x2048x1024 : Shape := ⟨3, ![16, 2048, 1024]⟩
abbrev S1x4x1024 : Shape := ⟨3, ![1, 4, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3592 : Shape := ⟨3, ![16, 2048, 3592]⟩
abbrev S16x2048x512 : Shape := ⟨3, ![16, 2048, 512]⟩
abbrev S16x2048x8 : Shape := ⟨3, ![16, 2048, 8]⟩
abbrev S512 : Shape := ⟨1, ![512]⟩
abbrev S1x512 : Shape := ⟨2, ![1, 512]⟩
abbrev S1x1x512 : Shape := ⟨3, ![1, 1, 512]⟩
abbrev S16x2051x1024 : Shape := ⟨3, ![16, 2051, 1024]⟩
abbrev S16x2048x120 : Shape := ⟨3, ![16, 2048, 120]⟩
abbrev S16x2048x4224 : Shape := ⟨3, ![16, 2048, 4224]⟩
abbrev S32768x4224 : Shape := ⟨2, ![32768, 4224]⟩

abbrev nBuf : Space → Nat
  | .hbm => 165
  | .vmem => 0
  | .smem => 0
  | _ => 0

abbrev hbmTy0_0 (i : Nat) : BufTy := match i % 128 with
  | 0 => ⟨S32768x1024, .f32⟩
  | 1 => ⟨S2x4x1024, .f32⟩
  | 2 => ⟨S1024x3592, .f32⟩
  | 3 => ⟨S2x512, .f32⟩
  | 4 => ⟨S4x1024, .f32⟩
  | 5 => ⟨S1024, .f32⟩
  | 6 => ⟨S16x2048x1024, .f32⟩
  | 7 => ⟨S1x4x1024, .f32⟩
  | 8 => ⟨S4x1024, .f32⟩
  | 9 => ⟨S1x1024, .f32⟩
  | 10 => ⟨S1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S16x2048x3592, .f32⟩
  | 28 => ⟨S16x2048x512, .f32⟩
  | 29 => ⟨S16x2048x512, .f32⟩
  | 30 => ⟨S16x2048x512, .f32⟩
  | 31 => ⟨S16x2048x512, .f32⟩
  | 32 => ⟨S16x2048x512, .f32⟩
  | 33 => ⟨S16x2048x1024, .f32⟩
  | 34 => ⟨S16x2048x8, .f32⟩
  | 35 => ⟨S_, .f32⟩
  | 36 => ⟨S512, .f32⟩
  | 37 => ⟨S_, .f32⟩
  | 38 => ⟨S512, .f32⟩
  | 39 => ⟨S512, .f32⟩
  | 40 => ⟨S1x512, .f32⟩
  | 41 => ⟨S2x512, .f32⟩
  | 42 => ⟨S2x512, .f32⟩
  | 43 => ⟨S2x512, .f32⟩
  | 44 => ⟨S_, .f32⟩
  | 45 => ⟨S512, .f32⟩
  | 46 => ⟨S1x512, .f32⟩
  | 47 => ⟨S2x512, .f32⟩
  | 48 => ⟨S2x512, .f32⟩
  | 49 => ⟨S_, .f32⟩
  | 50 => ⟨S_, .f32⟩
  | 51 => ⟨S2x512, .f32⟩
  | 52 => ⟨S1x512, .f32⟩
  | 53 => ⟨S512, .f32⟩
  | 54 => ⟨S1x512, .f32⟩
  | 55 => ⟨S2x512, .f32⟩
  | 56 => ⟨S2x512, .f32⟩
  | 57 => ⟨S1x512, .f32⟩
  | 58 => ⟨S512, .f32⟩
  | 59 => ⟨S_, .f32⟩
  | 60 => ⟨S512, .f32⟩
  | 61 => ⟨S512, .f32⟩
  | 62 => ⟨S16x2048x512, .f32⟩
  | 63 => ⟨S16x2048x512, .f32⟩
  | 64 => ⟨S_, .f32⟩
  | 65 => ⟨S16x2048x512, .f32⟩
  | 66 => ⟨S16x2048x512, .f32⟩
  | 67 => ⟨S_, .f32⟩
  | 68 => ⟨S16x2048x512, .f32⟩
  | 69 => ⟨S16x2048x512, .f32⟩
  | 70 => ⟨S1x1x512, .f32⟩
  | 71 => ⟨S16x2048x512, .f32⟩
  | 72 => ⟨S16x2048x512, .f32⟩
  | 73 => ⟨S1x1x512, .f32⟩
  | 74 => ⟨S16x2048x512, .f32⟩
  | 75 => ⟨S16x2048x512, .f32⟩
  | 76 => ⟨S_, .f32⟩
  | 77 => ⟨S512, .f32⟩
  | 78 => ⟨S512, .f32⟩
  | 79 => ⟨S16x2048x512, .f32⟩
  | 80 => ⟨S16x2048x512, .f32⟩
  | 81 => ⟨S16x2048x512, .f32⟩
  | 82 => ⟨S_, .f32⟩
  | 83 => ⟨S16x2048x512, .f32⟩
  | 84 => ⟨S16x2048x512, .f32⟩
  | 85 => ⟨S_, .f32⟩
  | 86 => ⟨S16x2048x512, .f32⟩
  | 87 => ⟨S16x2048x512, .f32⟩
  | 88 => ⟨S1x1x512, .f32⟩
  | 89 => ⟨S16x2048x512, .f32⟩
  | 90 => ⟨S16x2048x512, .f32⟩
  | 91 => ⟨S_, .i32⟩
  | 92 => ⟨S_, .f32⟩
  | 93 => ⟨S16x2051x1024, .f32⟩
  | 94 => ⟨S16x2048x1024, .f32⟩
  | 95 => ⟨S1x1024, .f32⟩
  | 96 => ⟨S1024, .f32⟩
  | 97 => ⟨S1x1x1024, .f32⟩
  | 98 => ⟨S16x2048x1024, .f32⟩
  | 99 => ⟨S16x2048x1024, .f32⟩
  | 100 => ⟨S16x2048x1024, .f32⟩
  | 101 => ⟨S1x1024, .f32⟩
  | 102 => ⟨S1024, .f32⟩
  | 103 => ⟨S1x1x1024, .f32⟩
  | 104 => ⟨S16x2048x1024, .f32⟩
  | 105 => ⟨S16x2048x1024, .f32⟩
  | 106 => ⟨S16x2048x1024, .f32⟩
  | 107 => ⟨S16x2048x1024, .f32⟩
  | 108 => ⟨S1x1024, .f32⟩
  | 109 => ⟨S1024, .f32⟩
  | 110 => ⟨S1x1x1024, .f32⟩
  | 111 => ⟨S16x2048x1024, .f32⟩
  | 112 => ⟨S16x2048x1024, .f32⟩
  | 113 => ⟨S16x2048x1024, .f32⟩
  | 114 => ⟨S16x2048x1024, .f32⟩
  | 115 => ⟨S1x1024, .f32⟩
  | 116 => ⟨S1024, .f32⟩
  | 117 => ⟨S1x1x1024, .f32⟩
  | 118 => ⟨S16x2048x1024, .f32⟩
  | 119 => ⟨S16x2048x1024, .f32⟩
  | 120 => ⟨S16x2048x1024, .f32⟩
  | 121 => ⟨S1x1x1024, .f32⟩
  | 122 => ⟨S16x2048x1024, .f32⟩
  | 123 => ⟨S16x2048x1024, .f32⟩
  | 124 => ⟨S16x2048x1024, .f32⟩
  | 125 => ⟨S16x2048x1024, .f32⟩
  | 126 => ⟨S_, .f32⟩
  | 127 => ⟨S16x2048x1024, .f32⟩
  | _ => ⟨S32768x1024, .f32⟩

abbrev hbmTy0_1 (i : Nat) : BufTy := match i % 128 with
  | 0 => ⟨S16x2048x1024, .f32⟩
  | 1 => ⟨S_, .f32⟩
  | 2 => ⟨S16x2048x1024, .f32⟩
  | 3 => ⟨S16x2048x1024, .f32⟩
  | 4 => ⟨S16x2048x1024, .f32⟩
  | 5 => ⟨S16x2048x512, .f32⟩
  | 6 => ⟨S16x2048x512, .f32⟩
  | 7 => ⟨S_, .f32⟩
  | 8 => ⟨S16x2048x512, .f32⟩
  | 9 => ⟨S16x2048x512, .f32⟩
  | 10 => ⟨S_, .f32⟩
  | 11 => ⟨S16x2048x512, .f32⟩
  | 12 => ⟨S16x2048x512, .f32⟩
  | 13 => ⟨S16x2048x512, .f32⟩
  | 14 => ⟨S16x2048x512, .f32⟩
  | 15 => ⟨S16x2048x512, .f32⟩
  | 16 => ⟨S16x2048x512, .f32⟩
  | 17 => ⟨S_, .f32⟩
  | 18 => ⟨S16x2048x512, .f32⟩
  | 19 => ⟨S16x2048x512, .f32⟩
  | 20 => ⟨S_, .f32⟩
  | 21 => ⟨S16x2048x512, .f32⟩
  | 22 => ⟨S16x2048x512, .f32⟩
  | 23 => ⟨S16x2048x512, .f32⟩
  | 24 => ⟨S16x2048x512, .f32⟩
  | 25 => ⟨S16x2048x512, .f32⟩
  | 26 => ⟨S_, .f32⟩
  | 27 => ⟨S16x2048x512, .f32⟩
  | 28 => ⟨S16x2048x512, .f32⟩
  | 29 => ⟨S_, .f32⟩
  | 30 => ⟨S16x2048x512, .f32⟩
  | 31 => ⟨S16x2048x512, .f32⟩
  | 32 => ⟨S16x2048x512, .f32⟩
  | 33 => ⟨S_, .f32⟩
  | 34 => ⟨S16x2048x120, .f32⟩
  | 35 => ⟨S16x2048x4224, .f32⟩
  | 36 => ⟨S32768x4224, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_call0_cst : Ref sig .tc := ⟨.hbm, 49, rfl⟩
abbrev main_call0_call0_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c : Ref sig .tc := ⟨.hbm, 91, rfl⟩
abbrev main_call1_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_call2_v0 : Ref sig .tc := ⟨.hbm, 124, rfl⟩
abbrev main_call2_v1 : Ref sig .tc := ⟨.hbm, 125, rfl⟩
abbrev main_call2_cst : Ref sig .tc := ⟨.hbm, 126, rfl⟩
abbrev main_call2_v2 : Ref sig .tc := ⟨.hbm, 127, rfl⟩
abbrev main_call2_v3 : Ref sig .tc := ⟨.hbm, 128, rfl⟩
abbrev main_call2_cst_0 : Ref sig .tc := ⟨.hbm, 129, rfl⟩
abbrev main_call2_v4 : Ref sig .tc := ⟨.hbm, 130, rfl⟩
abbrev main_call2_v5 : Ref sig .tc := ⟨.hbm, 131, rfl⟩
abbrev main_v102 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v103 : Ref sig .tc := ⟨.hbm, 141, rfl⟩
abbrev main_v104 : Ref sig .tc := ⟨.hbm, 142, rfl⟩
abbrev main_call4_v0 : Ref sig .tc := ⟨.hbm, 143, rfl⟩
abbrev main_call4_v1 : Ref sig .tc := ⟨.hbm, 144, rfl⟩
abbrev main_call4_cst : Ref sig .tc := ⟨.hbm, 145, rfl⟩
abbrev main_call4_v2 : Ref sig .tc := ⟨.hbm, 146, rfl⟩
abbrev main_call4_v3 : Ref sig .tc := ⟨.hbm, 147, rfl⟩
abbrev main_call4_cst_0 : Ref sig .tc := ⟨.hbm, 148, rfl⟩
abbrev main_call4_v4 : Ref sig .tc := ⟨.hbm, 149, rfl⟩
abbrev main_call4_v5 : Ref sig .tc := ⟨.hbm, 150, rfl⟩
abbrev main_v105 : Ref sig .tc := ⟨.hbm, 151, rfl⟩
abbrev main_call5_v0 : Ref sig .tc := ⟨.hbm, 152, rfl⟩
abbrev main_call5_v1 : Ref sig .tc := ⟨.hbm, 153, rfl⟩
abbrev main_call5_cst : Ref sig .tc := ⟨.hbm, 154, rfl⟩
abbrev main_call5_v2 : Ref sig .tc := ⟨.hbm, 155, rfl⟩
abbrev main_call5_v3 : Ref sig .tc := ⟨.hbm, 156, rfl⟩
abbrev main_call5_cst_0 : Ref sig .tc := ⟨.hbm, 157, rfl⟩
abbrev main_call5_v4 : Ref sig .tc := ⟨.hbm, 158, rfl⟩
abbrev main_call5_v5 : Ref sig .tc := ⟨.hbm, 159, rfl⟩
abbrev main_v106 : Ref sig .tc := ⟨.hbm, 160, rfl⟩
abbrev main_cst_11 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩

abbrev nD : Nat := 1
abbrev τ : Topo := Topo.v7x

variable {F : FTy → Type} [FloatOps F]
-- ==== Kernel4.lean ====
abbrev S32768x1024 : Shape := ⟨2, ![32768, 1024]⟩
abbrev S2x4x1024 : Shape := ⟨3, ![2, 4, 1024]⟩
abbrev S1024x3600 : Shape := ⟨2, ![1024, 3600]⟩
abbrev S4x1536 : Shape := ⟨2, ![4, 1536]⟩
abbrev S_ : Shape := ⟨0, ![]⟩
abbrev S1024x112 : Shape := ⟨2, ![1024, 112]⟩
abbrev S1024x1536 : Shape := ⟨2, ![1024, 1536]⟩
abbrev S1024x512 : Shape := ⟨2, ![1024, 512]⟩
abbrev S1024x8 : Shape := ⟨2, ![1024, 8]⟩
abbrev S1024x3712 : Shape := ⟨2, ![1024, 3712]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S32768x1536 : Shape := ⟨2, ![32768, 1536]⟩
abbrev S32768x512 : Shape := ⟨2, ![32768, 512]⟩
abbrev S32768x128 : Shape := ⟨2, ![32768, 128]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S8x1536 : Shape := ⟨2, ![8, 1536]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x256 : Shape := ⟨2, ![8, 256]⟩
abbrev S264x256 : Shape := ⟨2, ![264, 256]⟩
abbrev S1x256 : Shape := ⟨2, ![1, 256]⟩
abbrev S1024x128 : Shape := ⟨2, ![1024, 128]⟩

abbrev nBuf : Space → Nat
  | .hbm => 22
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S2x4x1024, .f32⟩
  | .hbm, ⟨2, _⟩ => ⟨S1024x3600, .f32⟩
  | .hbm, ⟨3, _⟩ => ⟨S4x1536, .f32⟩
  | .hbm, ⟨4, _⟩ => ⟨S_, .bf16⟩
  | .hbm, ⟨5, _⟩ => ⟨S1024x112, .bf16⟩
  | .hbm, ⟨6, _⟩ => ⟨S1024x3600, .bf16⟩
  | .hbm, ⟨7, _⟩ => ⟨S1024x1536, .bf16⟩
  | .hbm, ⟨8, _⟩ => ⟨S1024x1536, .bf16⟩
  | .hbm, ⟨9, _⟩ => ⟨S1024x512, .bf16⟩
  | .hbm, ⟨10, _⟩ => ⟨S1024x8, .bf16⟩
  | .hbm, ⟨11, _⟩ => ⟨S1024x8, .bf16⟩
  | .hbm, ⟨12, _⟩ => ⟨S1024x3712, .bf16⟩
  | .hbm, ⟨13, _⟩ => ⟨S1x4x1024, .f32⟩
  | .hbm, ⟨14, _⟩ => ⟨S4x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S32768x1536, .bf16⟩
  | .hbm, ⟨19, _⟩ => ⟨S32768x1536, .f32⟩
  | .hbm, ⟨20, _⟩ => ⟨S32768x512, .f32⟩
  | .hbm, ⟨21, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S4x1536, .f32⟩
  | .local _ .vmem, ⟨5, _⟩ => ⟨S256x1536, .bf16⟩
  | .local _ .vmem, ⟨6, _⟩ => ⟨S256x1536, .bf16⟩
  | .local _ .vmem, ⟨7, _⟩ => ⟨S256x1536, .f32⟩
  | .local _ .vmem, ⟨8, _⟩ => ⟨S256x1536, .f32⟩
  | .local _ .vmem, ⟨9, _⟩ => ⟨S256x512, .f32⟩
  | .local _ .vmem, ⟨10, _⟩ => ⟨S256x512, .f32⟩
  | .local _ .vmem, ⟨11, _⟩ => ⟨S256x128, .f32⟩
  | .local _ .vmem, ⟨12, _⟩ => ⟨S256x128, .f32⟩
  | .local _ .vmem, ⟨13, _⟩ => ⟨S8x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S2x4x1024 : Shape := ⟨3, ![2, 4, 1024]⟩
abbrev S1024x3600 : Shape := ⟨2, ![1024, 3600]⟩
abbrev S4x1536 : Shape := ⟨2, ![4, 1536]⟩
abbrev S16x2048x1024 : Shape := ⟨3, ![16, 2048, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3600 : Shape := ⟨3, ![16, 2048, 3600]⟩
abbrev S16x2048x512 : Shape := ⟨3, ![16, 2048, 512]⟩
abbrev S16x2048x8 : Shape := ⟨3, ![16, 2048, 8]⟩
abbrev S16x2048x1536 : Shape := ⟨3, ![16, 2048, 1536]⟩
abbrev S16x2048x4 : Shape := ⟨3, ![16, 2048, 4]⟩
abbrev S16x2051x1536 : Shape := ⟨3, ![16, 2051, 1536]⟩
abbrev S1x1536 : Shape := ⟨2, ![1, 1536]⟩
abbrev S1536 : Shape := ⟨1, ![1536]⟩
abbrev S1x1x1536 : Shape := ⟨3, ![1, 1, 1536]⟩
abbrev S16x2048x4x128 : Shape := ⟨4, ![16, 2048, 4, 128]⟩
abbrev S16x2048x4x1 : Shape := ⟨4, ![16, 2048, 4, 1]⟩
abbrev S32768x512 : Shape := ⟨2, ![32768, 512]⟩
abbrev S32768x1536 : Shape := ⟨2, ![32768, 1536]⟩
abbrev S16x2048x112 : Shape := ⟨3, ![16, 2048, 112]⟩
abbrev S32768x8 : Shape := ⟨2, ![32768, 8]⟩
abbrev S32768x4 : Shape := ⟨2, ![32768, 4]⟩
abbrev S32768x112 : Shape := ⟨2, ![32768, 112]⟩
abbrev S32768x128 : Shape := ⟨2, ![32768, 128]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x4x1024, .f32⟩
  | .hbm, ⟨2, _⟩ => ⟨S1024x3600, .f32⟩
  | .hbm, ⟨3, _⟩ => ⟨S4x1536, .f32⟩
  | .hbm, ⟨4, _⟩ => ⟨S16x2048x1024, .f32⟩
  | .hbm, ⟨5, _⟩ => ⟨S1x4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x3600, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x8, .f32⟩
  | .hbm, ⟨30, _⟩ => ⟨S16x2048x1536, .f32⟩
  | .hbm, ⟨31, _⟩ => ⟨S16x2048x4, .f32⟩
  | .hbm, ⟨32, _⟩ => ⟨S16x2048x4, .f32⟩
  | .hbm, ⟨33, _⟩ => ⟨S16x2048x512, .f32⟩
  | .hbm, ⟨34, _⟩ => ⟨S_, .i32⟩
  | .hbm, ⟨35, _⟩ => ⟨S_, .f32⟩
  | .hbm, ⟨36, _⟩ => ⟨S16x2051x1536, .f32⟩
  | .hbm, ⟨37, _⟩ => ⟨S16x2048x1536, .f32⟩
  | .hbm, ⟨38, _⟩ => ⟨S1x1536, .f32⟩
  | .hbm, ⟨39, _⟩ => ⟨S1536, .f32⟩
  | .hbm, ⟨40, _⟩ => ⟨S1x1x1536, .f32⟩
  | .hbm, ⟨41, _⟩ => ⟨S16x2048x1536, .f32⟩
  | .hbm, ⟨42, _⟩ => ⟨S16x2048x1536, .f32⟩
  | .hbm, ⟨43, _⟩ => ⟨S16x2048x1536, .f32⟩
  | .hbm, ⟨44, _⟩ => ⟨S1x1536, .f32⟩
  | .hbm, ⟨45, _⟩ => ⟨S1536, .f32⟩
  | .hbm, ⟨46, _⟩ => ⟨S1x1x1536, .f32⟩
  | .hbm, ⟨47, _⟩ => ⟨S16x2048x1536, .f32⟩
  | .hbm, ⟨48, _⟩ => ⟨S16x2048x1536, .f32⟩
  | .hbm, ⟨49, _⟩ => ⟨S16x2048x1536, .f32⟩
  | .hbm, ⟨50, _⟩ => ⟨S16x2048x1536, .f32⟩
  | .hbm, ⟨51, _⟩ => ⟨S1x1536, .f32⟩
  | .hbm, ⟨52, _⟩ => ⟨S1536, .f32⟩
  | .hbm, ⟨53, _⟩ => ⟨S1x1x1536, .f32⟩
  | .hbm, ⟨54, _⟩ => ⟨S16x2048x1536, .f32⟩
  | .hbm, ⟨55, _⟩ => ⟨S16x2048x1536, .f32⟩
  | .hbm, ⟨56, _⟩ => ⟨S16x2048x1536, .f32⟩
  | .hbm, ⟨57, _⟩ => ⟨S16x2048x1536, .f32⟩
  | .hbm, ⟨58, _⟩ => ⟨S1x1536, .f32⟩
  | .hbm, ⟨59, _⟩ => ⟨S1536, .f32⟩
  | .hbm, ⟨60, _⟩ => ⟨S1x1x1536, .f32⟩
  | .hbm, ⟨61, _⟩ => ⟨S16x2048x1536, .f32⟩
  | .hbm, ⟨62, _⟩ => ⟨S16x2048x1536, .f32⟩
  | .hbm, ⟨63, _⟩ => ⟨S16x2048x1536, .f32⟩
  | .hbm, ⟨64, _⟩ => ⟨S16x2048x1536, .f32⟩
  | .hbm, ⟨65, _⟩ => ⟨S16x2048x1536, .f32⟩
  | .hbm, ⟨66, _⟩ => ⟨S_, .f32⟩
  | .hbm, ⟨67, _⟩ => ⟨S16x2048x1536, .f32⟩
  | .hbm, ⟨68, _⟩ => ⟨S16x2048x1536, .f32⟩
  | .hbm, ⟨69, _⟩ => ⟨S_, .f32⟩
  | .hbm, ⟨70, _⟩ => ⟨S16x2048x1536, .f32⟩
  | .hbm, ⟨71, _⟩ => ⟨S16x2048x1536, .f32⟩
  | .hbm, ⟨72, _⟩ => ⟨S16x2048x1536, .f32⟩
  | .hbm, ⟨73, _⟩ => ⟨S16x2048x512, .f32⟩
  | .hbm, ⟨74, _⟩ => ⟨S16x2048x512, .f32⟩
  | .hbm, ⟨75, _⟩ => ⟨S16x2048x512, .f32⟩
  | .hbm, ⟨76, _⟩ => ⟨S16x2048x4x128, .f32⟩
  | .hbm, ⟨77, _⟩ => ⟨S16x2048x4x128, .f32⟩
  | .hbm, ⟨78, _⟩ => ⟨S_, .f32⟩
  | .hbm, ⟨79, _⟩ => ⟨S16x2048x4, .f32⟩
  | .hbm, ⟨80, _⟩ => ⟨S16x2048x4x1, .f32⟩
  | .hbm, ⟨81, _⟩ => ⟨S_, .f32⟩
  | .hbm, ⟨82, _⟩ => ⟨S16x2048x4x1, .f32⟩
  | .hbm, ⟨83, _⟩ => ⟨S16x2048x4x1, .f32⟩
  | .hbm, ⟨84, _⟩ => ⟨S16x2048x4x1, .f32⟩
  | .hbm, ⟨85, _⟩ => ⟨S16x2048x4x128, .f32⟩
  | .hbm, ⟨86, _⟩ => ⟨S16x2048x4x128, .f32⟩
  | .hbm, ⟨87, _⟩ => ⟨S_, .f32⟩
  | .hbm, ⟨88, _⟩ => ⟨S16x2048x4x128, .f32⟩
  | .hbm, ⟨89, _⟩ => ⟨S16x2048x4x128, .f32⟩
  | .hbm, ⟨90, _⟩ => ⟨S16x2048x4x128, .f32⟩
  | .hbm, ⟨91, _⟩ => ⟨S16x2048x4x128, .f32⟩
  | .hbm, ⟨92, _⟩ => ⟨S_, .f32⟩
  | .hbm, ⟨93, _⟩ => ⟨S16x2048x4, .f32⟩
  | .hbm, ⟨94, _⟩ => ⟨S16x2048x4x1, .f32⟩
  | .hbm, ⟨95, _⟩ => ⟨S_, .f32⟩
  | .hbm, ⟨96, _⟩ => ⟨S16x2048x4x1, .f32⟩
  | .hbm, ⟨97, _⟩ => ⟨S16x2048x4x1, .f32⟩
  | .hbm, ⟨98, _⟩ => ⟨S16x2048x4x1, .f32⟩
  | .hbm, ⟨99, _⟩ => ⟨S16x2048x4x128, .f32⟩
  | .hbm, ⟨100, _⟩ => ⟨S16x2048x4x128, .f32⟩
  | .hbm, ⟨101, _⟩ => ⟨S16x2048x4x128, .f32⟩
  | .hbm, ⟨102, _⟩ => ⟨S32768x512, .f32⟩
  | .hbm, ⟨103, _⟩ => ⟨S32768x512, .f32⟩
  | .hbm, ⟨104, _⟩ => ⟨S32768x512, .f32⟩
  | .hbm, ⟨105, _⟩ => ⟨S32768x1536, .f32⟩
  | .hbm, ⟨106, _⟩ => ⟨S32768x1536, .bf16⟩
  | .hbm, ⟨107, _⟩ => ⟨S32768x512, .f32⟩
  | .hbm, ⟨108, _⟩ => ⟨S32768x512, .f32⟩
  | .hbm, ⟨109, _⟩ => ⟨S32768x512, .f32⟩
  | .hbm, ⟨110, _⟩ => ⟨S32768x1536, .f32⟩
  | .hbm, ⟨111, _⟩ => ⟨S16x2048x512, .f32⟩
  | .hbm, ⟨112, _⟩ => ⟨S16x2048x512, .f32⟩
  | .hbm, ⟨113, _⟩ => ⟨S_, .f32⟩
  | .hbm, ⟨114, _⟩ => ⟨S16x2048x512, .f32⟩
  | .hbm, ⟨115, _⟩ => ⟨S16x2048x512, .f32⟩
  | .hbm, ⟨116, _⟩ => ⟨S_, .f32⟩
  | .hbm, ⟨117, _⟩ => ⟨S16x2048x512, .f32⟩
  | .hbm, ⟨118, _⟩ => ⟨S16x2048x512, .f32⟩
  | .hbm, ⟨119, _⟩ => ⟨S16x2048x512, .f32⟩
  | .hbm, ⟨120, _⟩ => ⟨S32768x512, .f32⟩
  | .hbm, ⟨121, _⟩ => ⟨S_, .f32⟩
  | .hbm, ⟨122, _⟩ => ⟨S16x2048x112, .f32⟩
  | .hbm, ⟨123, _⟩ => ⟨S32768x8, .f32⟩
  | .hbm, ⟨124, _⟩ => ⟨S32768x4, .f32⟩
  | .hbm, ⟨125, _⟩ => ⟨S32768x4, .f32⟩
  | .hbm, ⟨126, _⟩ => ⟨S32768x112, .f32⟩
  | .hbm, ⟨127, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_2 : Ref sig .tc := ⟨.hbm, 78, rfl⟩
abbrev main_v61 : Ref sig .tc := ⟨.hbm, 79, rfl⟩
abbrev main_v62 : Ref sig .tc := ⟨.hbm, 80, rfl⟩
abbrev main_cst_3 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_4 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_5 : Ref sig .tc := ⟨.hbm, 92, rfl⟩
abbrev main_v72 : Ref sig .tc := ⟨.hbm, 93, rfl⟩
abbrev main_v73 : Ref sig .tc := ⟨.hbm, 94, rfl⟩
abbrev main_cst_6 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v89 : Ref sig .tc := ⟨.hbm, 119, rfl⟩
abbrev main_v90 : Ref sig .tc := ⟨.hbm, 120, rfl⟩
abbrev main_cst_7 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Proof.SsdStages.lean ====
/- The stages of one 128-row chunk of the state-space-duality kernel, as functions of the vectors they read, at any chunk, head pair and
   head. The body writes them out once per chunk and pair; `SsdPieces.lean` shows that what it stores are these functions, and
   `SsdStageVals.lean` reads each at an index. -/
module

public import proofs.«01_k».proof.Proof.Gen.KernelIdeal.Skeleton
public import Idealize.ShloMosaic.Lib.Pipeline.ValueKit

@[expose] public section

set_option maxRecDepth 16384

noncomputable section

namespace Cert.KernelIdeal.Ssd

open Cert.KernelIdeal Cert.KernelIdeal.Gen Idealize.ShloMosaic Idealize.ShloMosaic.TcCoe Idealize.SL.Sem

variable {F : FTy → Type} [FloatOps F]

/-! ## The slices, at any chunk, group, pair and head -/

theorem slRows : ∀ ck : Fin 4, S512x128.Slices ![128 * ck.val, 0] S128x128 := by decide
theorem slCol : ∀ h : Fin 8, S128x128.Slices ![0, h.val] S128x1 := by decide
theorem slRow : ∀ h : Fin 8, S8x128.Slices ![h.val, 0] S1x128 := by decide
theorem slPair : ∀ p : Fin 4, S128x1024.Slices ![0, 128 * p.val] S128x128 := by decide
theorem slB : ∀ g : Fin 2, S128x1024.Slices ![0, 512 + 128 * g.val] S128x128 := by decide
theorem slC : ∀ g : Fin 2, S128x1024.Slices ![0, 768 + 128 * g.val] S128x128 := by decide
theorem inX : ∀ ck : Fin 4, ∀ a, (![128 * ck.val, 0] : Fin 2 → Nat) a + S128x1024.size a ≤ S512x1024.size a := by decide
theorem inZ : ∀ (ck : Fin 4) (g : Fin 2), ∀ a, (![128 * ck.val, 256 * g.val] : Fin 2 → Nat) a + S128x256.size a ≤ S512x512.size a := by decide
theorem inD : ∀ p : Fin 4, ∀ a, (![0, 128 * p.val] : Fin 2 → Nat) a + S1x128.size a ≤ S1x512.size a := by decide
theorem inG : ∀ g : Fin 2, ∀ a, (![0, 256 * g.val] : Fin 2 → Nat) a + S1x256.size a ≤ S1x512.size a := by decide
theorem inS : ∀ p : Fin 4, ∀ a, (![p.val, 0, 0] : Fin 3 → Nat) a + S1x128x128.size a ≤ S4x128x128.size a := by decide

/-- The group of a pair, and the two heads of a pair. -/
def grp (p : Fin 4) : Fin 2 := ⟨p.val / 2, by omega⟩
def hd (p : Fin 4) (e : Fin 2) : Fin 8 := ⟨2 * p.val + e.val, by omega⟩

/-! ## One chunk -/

/-- The three parts that a product with a 0/1 matrix is taken over: `x` rounded, what the rounding left rounded, and the rest rounded. -/
def part0 (x : FVec F S128x128 .f32) : FVec F S128x128 .bf16 := truncf .bf16 x bitsLt_bf16_f32
def rest1 (x : FVec F S128x128 .f32) : FVec F S128x128 .f32 := subf x (extf .f32 (part0 x) bitsLt_bf16_f32)
def part1 (x : FVec F S128x128 .f32) : FVec F S128x128 .bf16 := truncf .bf16 (rest1 x) bitsLt_bf16_f32
def part2 (x : FVec F S128x128 .f32) : FVec F S128x128 .bf16 :=
  truncf .bf16 (subf (rest1 x) (extf .f32 (part1 x) bitsLt_bf16_f32)) bitsLt_bf16_f32

/-- The lower triangle times `x`: the running sums down the rows. -/
def triDot (y : FVec F S128x128 .bf16) : FVec F S128x128 .f32 :=
  matmul dot_S128x128_S128x128_S128x128_1_0_0_1_n_n none (k0_pay5 (F := F)) y (constant S128x128 .f32 0x00000000#32)
def runSum (x : FVec F S128x128 .f32) : FVec F S128x128 .f32 :=
  addf (addf (triDot (part0 x)) (triDot (part1 x))) (triDot (part2 x))

/-- The 0/1 matrix that picks the first eight columns as rows, and the product with it. -/
def pick : FVec F S8x128 .bf16 :=
  truncf .bf16 (sitofp .f32 (extui 32 (cmpi .eq (iota .tc S8x128 32 [1] iota_S8x128_d1_w32)
    (addi (iota .tc S8x128 32 [0] iota_S8x128_d0_w32) (broadcast S8x128 0#32))) natLt_1_32)) bitsLt_bf16_f32
def pickDot (y : FVec F S128x128 .bf16) : FVec F S8x128 .f32 :=
  matmul dot_S8x128_S128x128_S8x128_1_1_0_0_n_n none (pick (F := F)) y (constant S8x128 .f32 0x00000000#32)
def asRows (x : FVec F S128x128 .f32) : FVec F S8x128 .f32 :=
  addf (addf (pickDot (part0 x)) (pickDot (part1 x))) (pickDot (part2 x))

/-- Column `h` over all lanes, and row `h` over all rows. -/
def colAll (x : FVec F S128x128 .f32) (h : Fin 8) : FVec F S128x128 .f32 :=
  broadcastTo S128x128 (shapeCast S128x1 (extractStridedSlice S128x1 ![0, h.val] x (slCol h)) shapeCasts_S128x1_S128x1) broadcasts_S128x1_S128x128
def rowAll (x : FVec F S8x128 .f32) (h : Fin 8) : FVec F S128x128 .f32 :=
  broadcastTo S128x128 (extractStridedSlice S1x128 ![h.val, 0] x (slRow h)) broadcasts_S1x128_S128x128

/-- The left half of the lanes from `a`, the right half from `b`. -/
def lanes (a b : FVec F S128x128 .f32) : FVec F S128x128 .f32 :=
  select (broadcastTo S128x128 (shapeCast S1x128 k0_pay7 shapeCasts_S1x128_S1x128) broadcasts_S1x128_S128x128) a b

/-- The chunk's rows of the step sizes, and the running sums of the decay exponents. -/
def dtRows (x2 : Vec F S512x128 .f32) (x4 : Vec F S1x128 .f32) (ck : Fin 4) : FVec F S128x128 .f32 :=
  extractStridedSlice S128x128 ![128 * ck.val, 0] (k0_pay3 x2 x4) (slRows ck)
def acs (x2 : Vec F S512x128 .f32) (x3 x4 : Vec F S1x128 .f32) (ck : Fin 4) : FVec F S128x128 .f32 :=
  runSum (mulf (dtRows x2 x4 ck) (broadcastTo S128x128 (k0_pay6 x3) broadcasts_S1x128_S128x128))

/-- The slices of a chunk's rows: a group's `B` and `C`, their products, a pair's channels, and these times the step sizes. -/
def xB (x : Vec F S128x1024 .f32) (g : Fin 2) : FVec F S128x128 .f32 := extractStridedSlice S128x128 ![0, 512 + 128 * g.val] x (slB g)
def xC (x : Vec F S128x1024 .f32) (g : Fin 2) : FVec F S128x128 .f32 := extractStridedSlice S128x128 ![0, 768 + 128 * g.val] x (slC g)
def cb (x : Vec F S128x1024 .f32) (g : Fin 2) : FVec F S128x128 .f32 :=
  matmul dot_S128x128_S128x128_S128x128_1_1_0_0_n_n none (truncf .bf16 (xC x g) bitsLt_bf16_f32) (truncf .bf16 (xB x g) bitsLt_bf16_f32)
    (constant S128x128 .f32 0x00000000#32)
def xs (x : Vec F S128x1024 .f32) (p : Fin 4) : FVec F S128x128 .f32 := extractStridedSlice S128x128 ![0, 128 * p.val] x (slPair p)
def xdt (x : Vec F S128x1024 .f32) (dt : FVec F S128x128 .f32) (p : Fin 4) : FVec F S128x128 .bf16 :=
  truncf .bf16 (mulf (xs x p) (lanes (colAll dt (hd p 0)) (colAll dt (hd p 1)))) bitsLt_bf16_f32

/-- A head's output rows over the pair's lanes, before the channel scale: the chunk's own part and the carried state's, in one product. -/
def headOut (x : Vec F S128x1024 .f32) (dt a : FVec F S128x128 .f32) (p : Fin 4) (St : Vec F S1x128x128 .f32) (h : Fin 8) : FVec F S128x128 .f32 :=
  matmul dot_S128x256_S256x128_S128x128_1_0_0_1_n_n none
    (concatenate S128x256 1
      [⟨S128x128, truncf .bf16 (mulf (cb x (grp p)) (exp (select k0_pay4 (subf (colAll a h) (rowAll (asRows a) h))
          (broadcast S128x128 (Scalar.ofBits .f32 0xFF800000#32 : F .f32))))) bitsLt_bf16_f32⟩,
       ⟨S128x128, truncf .bf16 (mulf (xC x (grp p)) (exp (colAll a h))) bitsLt_bf16_f32⟩] concatenates_S128x128_S128x128_S128x256_d1)
    (concatenate S256x128 0
      [⟨S128x128, xdt x dt p⟩, ⟨S128x128, truncf .bf16 (shapeCast S128x128 St shapeCasts_S1x128x128_S128x128) bitsLt_bf16_f32⟩]
      concatenates_S128x128_S128x128_S256x128_d0)
    (constant S128x128 .f32 0x00000000#32)

/-- The last row of a head's running sums. -/
def lastRow (a : FVec F S128x128 .f32) (h : Fin 8) : FVec F S1x128 .f32 :=
  extractStridedSlice S1x128 ![127, 0] (colAll a h) slices_S128x128_o127_0_S1x128

/-- A head's new state over the pair's lanes. -/
def headState (x : Vec F S128x1024 .f32) (dt a : FVec F S128x128 .f32) (p : Fin 4) (St : Vec F S1x128x128 .f32) (h : Fin 8) : FVec F S128x128 .f32 :=
  addf (mulf (broadcastTo S128x128 (exp (lastRow a h)) broadcasts_S1x128_S128x128) (shapeCast S128x128 St shapeCasts_S1x128x128_S128x128))
    (matmul dot_S128x128_S128x128_S128x128_0_0_1_1_n_n none
      (truncf .bf16 (mulf (xB x (grp p)) (exp (subf (broadcastTo S128x128 (lastRow a h) broadcasts_S1x128_S128x128) (colAll a h)))) bitsLt_bf16_f32)
      (xdt x dt p) (constant S128x128 .f32 0x00000000#32))

/-- A pair's new state: each head's over its half of the lanes. -/
def pairState (x : Vec F S128x1024 .f32) (dt a : FVec F S128x128 .f32) (p : Fin 4) (St : Vec F S1x128x128 .f32) : FVec F S1x128x128 .f32 :=
  shapeCast S1x128x128 (lanes (headState x dt a p St (hd p 0)) (headState x dt a p St (hd p 1))) shapeCasts_S128x128_S1x128x128

/-- A pair's output rows, with the channel scale times the input added. -/
def pairOut (x : Vec F S128x1024 .f32) (dt a : FVec F S128x128 .f32) (x5 : Vec F S1x512 .f32) (p : Fin 4) (St : Vec F S1x128x128 .f32) : FVec F S128x128 .f32 :=
  addf (lanes (headOut x dt a p St (hd p 0)) (headOut x dt a p St (hd p 1)))
    (mulf (broadcastTo S128x128 (shapeCast S1x128 (View.ld x5 (Rect.unit (s := S1x512) ![0, 128 * p.val] S1x128.size (inD p))) shapeCasts_S1x128_S1x128)
      broadcasts_S1x128_S128x128) (xs x p))

/-- A group's gated output rows, and these normalised and scaled. -/
def gated (y0 y1 : FVec F S128x128 .f32) (z : Vec F S128x256 .f32) : FVec F S128x256 .f32 :=
  mulf (concatenate S128x256 1 [⟨S128x128, y0⟩, ⟨S128x128, y1⟩] concatenates_S128x128_S128x128_S128x256_d1) z

/-! ## The chunks of a grid point -/

/-- The rows of chunk `ck` of the point's block. -/
def xRows (x0 : Vec F S512x1024 .f32) (ck : Fin 4) : Vec F S128x1024 .f32 :=
  View.ld x0 (Rect.unit (s := S512x1024) ![128 * ck.val, 0] S128x1024.size (inX ck))

/-- The states after chunk `ck`, from those before it. -/
def next (x0 : Vec F S512x1024 .f32) (x2 : Vec F S512x128 .f32) (x3 x4 : Vec F S1x128 .f32) (ck : Fin 4) (St : Fin 4 → Vec F S1x128x128 .f32) :
    Fin 4 → Vec F S1x128x128 .f32 :=
  fun p => pairState (xRows x0 ck) (dtRows x2 x4 ck) (acs x2 x3 x4 ck) p (St p)

/-- A group's output block of chunk `ck`. -/
def outBlk (x0 : Vec F S512x1024 .f32) (x1 : Vec F S512x512 .f32) (x2 : Vec F S512x128 .f32) (x3 x4 : Vec F S1x128 .f32) (x5 x6 : Vec F S1x512 .f32)
    (ck : Fin 4) (St : Fin 4 → Vec F S1x128x128 .f32) (g : Fin 2) : FVec F S128x256 .bf16 :=
  k0_pay44 (gated (pairOut (xRows x0 ck) (dtRows x2 x4 ck) (acs x2 x3 x4 ck) x5 ⟨2 * g.val, by omega⟩ (St ⟨2 * g.val, by omega⟩))
      (pairOut (xRows x0 ck) (dtRows x2 x4 ck) (acs x2 x3 x4 ck) x5 ⟨2 * g.val + 1, by omega⟩ (St ⟨2 * g.val + 1, by omega⟩))
      (View.ld x1 (Rect.unit (s := S512x512) ![128 * ck.val, 256 * g.val] S128x256.size (inZ ck g))))
    (View.ld x6 (Rect.unit (s := S1x512) ![0, 256 * g.val] S1x256.size (inG g)))

end Cert.KernelIdeal.Ssd

end
-- ==== Proof.SsdModel.lean ====
/- The state-space-duality scan as one function of its arguments, by natural-number row and column, and the facts about extended reals that
   both programs' readings need: 0/1 products select, and the parts of a number that is not `⊤` add up to it. -/
module

public import Idealize.ShloMosaic.Lib.Pointwise

@[expose] public section

noncomputable section

namespace Cert.SsdModel

open Idealize.ShloMosaic

/-! ## Extended reals -/

/-- `x` and the two remainders of taking it in parts, added in the order of the three products. -/
theorem parts_add (x : EReal) (h : x ≠ ⊤) : x + (x - x) + ((x - x) - (x - x)) = x := by
  induction x using EReal.rec with
  | bot => simp
  | top => exact absurd rfl h
  | coe r => rw [← EReal.coe_sub, ← EReal.coe_sub, ← EReal.coe_add, ← EReal.coe_add]; simp

/-- A sum of terms that are not `⊤` is not `⊤`; here with terms at most zero. -/
theorem sum_nonpos {ι : Type} (s : Finset ι) (f : ι → EReal) (h : ∀ i ∈ s, f i ≤ 0) : ∑ i ∈ s, f i ≤ 0 := Finset.sum_nonpos h

theorem ne_top_of_nonpos {x : EReal} (h : x ≤ 0) : x ≠ ⊤ := fun e => by
  rw [e] at h; exact absurd h (by simp)

theorem exp_nonneg (x : EReal) : 0 ≤ Ideal.exp x := by
  induction x using EReal.rec with
  | bot => simp
  | top => simp
  | coe r => rw [Ideal.exp_coe]; exact_mod_cast (Real.exp_pos r).le

theorem log1p_nonneg {x : EReal} (h : 0 ≤ x) : 0 ≤ Ideal.log1p x := by
  induction x using EReal.rec with
  | bot => simp at h
  | top =>
    have e : Ideal.log1p ⊤ = ⊤ := by
      rw [Ideal.log1p, ← EReal.coe_one, EReal.coe_add_top, Ideal.log_top]
    rw [e]; exact le_top
  | coe r =>
    have hr : 0 ≤ r := by exact_mod_cast h
    have e : Ideal.log1p (r : EReal) = ((Real.log (1 + r) : ℝ) : EReal) := by
      rw [Ideal.log1p, ← EReal.coe_one, ← EReal.coe_add, Ideal.log_coe, if_neg (by linarith)]
    rw [e]; exact_mod_cast Real.log_nonneg (by linarith)

/-- A sum against a 0/1 condition, over the terms where it holds. -/
theorem sum_sel {n : Nat} (c : Fin n → Prop) [DecidablePred c] (f : Fin n → EReal) :
    ∑ x, (if c x then (1 : EReal) else 0) * f x = ∑ x, if c x then f x else 0 := by
  refine Finset.sum_congr rfl fun x _ => ?_
  split <;> simp

/-- One term of a sum, picked by a 0/1 condition. -/
theorem sum_pick {n : Nat} (k : Fin n) (f : Fin n → EReal) : ∑ x, (if x = k then (1 : EReal) else 0) * f x = f k := by
  rw [sum_sel]; simp

/-- The words of a 0/1 matrix as numbers. -/
theorem sitofp_bit (c : Prop) [Decidable c] :
    FloatOps.sitofp (F := Ideal) .f32 (BitVec.setWidth 32 (if c then (1#1 : BitVec 1) else 0#1)) = (if c then (1 : EReal) else 0) := by
  by_cases h : c
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

theorem select_bit {α : Type} (c : Prop) [Decidable c] (a b : α) : Scalar.select (if c then (1#1 : BitVec 1) else 0#1) a b = if c then a else b := by
  by_cases h : c
  · rw [if_pos h, if_pos h]; rfl
  · rw [if_neg h, if_neg h]; rfl

theorem word_ge (i x : Nat) (hi : i < 128) (hx : x < 128) :
    IntOp.cmpi .sge (BitVec.ofNat 32 i) (BitVec.ofNat 32 x) = if x ≤ i then 1#1 else 0#1 := by
  have : ∀ i x : Fin 128, IntOp.cmpi .sge (BitVec.ofNat 32 i.val) (BitVec.ofNat 32 x.val) = if x.val ≤ i.val then 1#1 else 0#1 := by
    decide +kernel
  exact this ⟨i, hi⟩ ⟨x, hx⟩

theorem word_eq (i x : Nat) (hi : i < 128) (hx : x < 128) :
    IntOp.cmpi .eq (BitVec.ofNat 32 x) (IntOp.addi (BitVec.ofNat 32 i) 0#32) = if x = i then 1#1 else 0#1 := by
  have : ∀ i x : Fin 128, IntOp.cmpi .eq (BitVec.ofNat 32 x.val) (IntOp.addi (BitVec.ofNat 32 i.val) 0#32) = if x.val = i.val then 1#1 else 0#1 := by
    decide +kernel
  exact this ⟨i, hi⟩ ⟨x, hx⟩

theorem word_lt64 (x : Nat) (hx : x < 128) : IntOp.cmpi .slt (BitVec.ofNat 32 x) 64#32 = if x < 64 then 1#1 else 0#1 := by
  have : ∀ x : Fin 128, IntOp.cmpi .slt (BitVec.ofNat 32 x.val) 64#32 = if x.val < 64 then 1#1 else 0#1 := by decide +kernel
  exact this ⟨x, hx⟩

theorem lit_bot : (Ideal.ofBits .f32 4286578688#32 : EReal) = ⊥ := by
  first | rfl | simp [Ideal.ofBits]

/-! ## The scan -/

/-- The arguments by row and column: the projection's output, and a number per head (or per channel). -/
structure Args where
  P : Nat → Nat → EReal
  Al : Nat → EReal
  Db : Nat → EReal
  D : Nat → EReal
  G : Nat → EReal

variable (I : Args)

/-- The softplus, as `max` and a logarithm of one plus an exponential. -/
def sp (x : EReal) : EReal := max x 0 + Ideal.log1p (Ideal.exp (0 - FloatOps.absf (F := Ideal) (φ := .f32) x))

theorem sp_nonneg (x : EReal) : 0 ≤ sp x := add_nonneg (le_max_right _ _) (log1p_nonneg (exp_nonneg _))

/-- Row `l` of chunk `q` (of all sequences' chunks in a row): the step size of head `h`, and its decay exponents added up to that row. -/
def dt (q l h : Nat) : EReal := sp (I.P (128 * q + l) (4096 + h) + I.Db h)
def da (q l h : Nat) : EReal := dt I q l h * (0 - Ideal.exp (I.Al h))
def acs (q l h : Nat) : EReal := ∑ j : Fin 128, if j.val ≤ l then da I q j h else 0

theorem da_nonpos (q l h : Nat) : da I q l h ≤ 0 := by
  have h1 : (0 : EReal) - Ideal.exp (I.Al h) ≤ 0 := by rw [zero_sub]; exact EReal.neg_le_zero.mpr (exp_nonneg _)
  exact mul_nonpos_of_nonneg_of_nonpos (sp_nonneg _) h1

theorem acs_nonpos (q l h : Nat) : acs I q l h ≤ 0 := by
  refine Finset.sum_nonpos fun j _ => ?_
  split
  · exact da_nonpos I _ _ _
  · exact le_rfl

/-- A channel's input times its head's step size; the group's `B` and `C`. -/
def X (q l c : Nat) : EReal := I.P (128 * q + l) c * dt I q l (c / 64)
def B (q l g d : Nat) : EReal := I.P (128 * q + l) (512 + 128 * g + d)
def C (q l g d : Nat) : EReal := I.P (128 * q + l) (768 + 128 * g + d)

/-- The carried state of channel `c` at state coordinate `d`, before chunk `q`: zero where a sequence of sixteen chunks begins. -/
def upd (q c d : Nat) (H : EReal) : EReal :=
  Ideal.exp (acs I q 127 (c / 64)) * H
    + ∑ l : Fin 128, B I q l (c / 256) d * Ideal.exp (acs I q 127 (c / 64) - acs I q l (c / 64)) * X I q l c
def H : Nat → Nat → Nat → EReal
  | 0, _, _ => 0
  | q + 1, c, d => if (q + 1) % 16 = 0 then 0 else upd I q c d (H q c d)

/-- The chunk's own part and the carried state's, and the scaled input. -/
def y (q l c : Nat) : EReal :=
  (∑ s : Fin 128, (∑ d : Fin 128, C I q l (c / 256) d * B I q s (c / 256) d)
      * Ideal.exp (if s.val ≤ l then acs I q l (c / 64) - acs I q s (c / 64) else ⊥) * X I q s c
    + ∑ d : Fin 128, C I q l (c / 256) d * Ideal.exp (acs I q l (c / 64)) * H I q c d)
  + I.D (c / 64) * I.P (128 * q + l) c

/-- Gated, and normalised over the group's 256 channels. -/
def yz (q l c : Nat) : EReal := y I q l c * I.P (128 * q + l) (3584 + c)
def out (q l c : Nat) : EReal :=
  yz I q l c * Ideal.rsqrt (Ideal.div (∑ k : Fin 256, yz I q l (256 * (c / 256) + k) * yz I q l (256 * (c / 256) + k)) (Ideal.ofBits .f32 1132462080#32)
    + Ideal.ofBits .f32 897988541#32) * I.G c

end Cert.SsdModel

end
-- ==== Proof.SsdStageVals.lean ====
/- The stages of `SsdStages.lean` at an index: on blocks that hold the arguments' rows they are the model's terms. -/
module

public import proofs.«01_k».proof.Proof.SsdStages
public import proofs.«01_k».proof.Proof.SsdModel

@[expose] public section

set_option maxRecDepth 16384

noncomputable section

namespace Cert.KernelIdeal.Ssd

open Cert.KernelIdeal Cert.KernelIdeal.Gen Idealize.ShloMosaic Idealize.ShloMosaic.TcCoe Idealize.SL.Sem
open Cert.SsdModel (Args sitofp_bit select_bit word_ge word_eq word_lt64 sum_sel sum_pick parts_add lit_bot)

/-! ## The 0/1 products -/

theorem triDot_at (y : FVec Ideal S128x128 .bf16) (i j : Fin 128) :
    triDot (F := Ideal) y (ix2 i j) = ∑ k : Fin 128, if k.val ≤ i.val then (y (ix2 k j) : EReal) else 0 := by
  unfold triDot
  unfold_payloads
  pointwise
  rw [← sum_sel (fun k : Fin 128 => k.val ≤ i.val) (fun k => (y (ix2 k j) : EReal))]
  exact Finset.sum_congr rfl fun k _ => by rw [word_ge i k i.isLt k.isLt, sitofp_bit]

theorem pickDot_at (y : FVec Ideal S128x128 .bf16) (i : Fin 8) (j : Fin 128) :
    pickDot (F := Ideal) y (ix2 i j) = y (ix2 j ⟨i.val, by omega⟩) := by
  unfold pickDot pick
  pointwise
  rw [← sum_pick (⟨i.val, by omega⟩ : Fin 128) (fun k => (y (ix2 j k) : EReal))]
  exact Finset.sum_congr rfl fun k _ => by
    rw [word_eq i k (by omega) k.isLt, sitofp_bit]
    simp only [Fin.ext_iff]

theorem runSum_at (x : FVec Ideal S128x128 .f32) (i j : Fin 128) (hx : ∀ k, (x (ix2 k j) : EReal) ≤ 0) :
    runSum (F := Ideal) x (ix2 i j) = ∑ k : Fin 128, if k.val ≤ i.val then (x (ix2 k j) : EReal) else 0 := by
  unfold runSum part0 part1 part2 rest1 part0
  pointwise
  rw [triDot_at, triDot_at, triDot_at, ← Finset.sum_add_distrib, ← Finset.sum_add_distrib]
  refine Finset.sum_congr rfl fun k _ => ?_
  split
  · pointwise
    exact parts_add _ (Cert.SsdModel.ne_top_of_nonpos (hx k))
  · simp

theorem asRows_at (x : FVec Ideal S128x128 .f32) (h : Fin 8) (j : Fin 128) (hx : (x (ix2 j ⟨h.val, by omega⟩) : EReal) ≤ 0) :
    asRows (F := Ideal) x (ix2 h j) = x (ix2 j ⟨h.val, by omega⟩) := by
  unfold asRows part0 part1 part2 rest1 part0
  pointwise
  rw [pickDot_at, pickDot_at, pickDot_at]
  pointwise
  exact parts_add _ (Cert.SsdModel.ne_top_of_nonpos hx)

theorem colAll_at (y : FVec Ideal S128x128 .f32) (h : Fin 8) (i j : Fin 128) : colAll (F := Ideal) y h (ix2 i j) = y (ix2 i ⟨h.val, by omega⟩) := by
  unfold colAll
  pointwise

theorem rowAll_at (y : FVec Ideal S8x128 .f32) (h : Fin 8) (i j : Fin 128) : rowAll (F := Ideal) y h (ix2 i j) = y (ix2 h j) := by
  unfold rowAll
  pointwise

theorem lanes_at (x y : FVec Ideal S128x128 .f32) (i j : Fin 128) :
    lanes (F := Ideal) x y (ix2 i j) = if j.val < 64 then x (ix2 i j) else y (ix2 i j) := by
  unfold lanes
  unfold_payloads
  pointwise
  rw [word_lt64 j j.isLt, select_bit]

/-! ## The blocks of a point -/

/-- The blocks hold the arguments' rows of point `t`. -/
structure Holds (I : Args) (t : Nat) (x0 : Vec Ideal S512x1024 .f32) (x1 : Vec Ideal S512x512 .f32) (x2 : Vec Ideal S512x128 .f32)
    (x3 x4 : Vec Ideal S1x128 .f32) (x5 x6 : Vec Ideal S1x512 .f32) : Prop where
  h0 : ∀ (r : Fin 512) (k : Fin 1024), (x0 (ix2 r k) : EReal) = I.P (512 * t + r) k
  h1 : ∀ (r : Fin 512) (k : Fin 512), (x1 (ix2 r k) : EReal) = I.P (512 * t + r) (3584 + k)
  h2 : ∀ (r : Fin 512) (k : Fin 128), (x2 (ix2 r k) : EReal) = I.P (512 * t + r) (4096 + k)
  h3 : ∀ k : Fin 128, k.val < 8 → (x3 (ix2 0 k) : EReal) = I.Al k
  h4 : ∀ k : Fin 128, k.val < 8 → (x4 (ix2 0 k) : EReal) = I.Db k
  h5 : ∀ k : Fin 512, (x5 (ix2 0 k) : EReal) = I.D (k.val / 64)
  h6 : ∀ k : Fin 512, (x6 (ix2 0 k) : EReal) = I.G k

variable {I : Args} {t : Nat} {x0 : Vec Ideal S512x1024 .f32} {x1 : Vec Ideal S512x512 .f32} {x2 : Vec Ideal S512x128 .f32}
  {x3 x4 : Vec Ideal S1x128 .f32} {x5 x6 : Vec Ideal S1x512 .f32}

theorem dtRows_at (hI : Holds I t x0 x1 x2 x3 x4 x5 x6) (ck : Fin 4) (l : Fin 128) (h : Fin 128) (hh : h.val < 8) :
    dtRows (F := Ideal) x2 x4 ck (ix2 l h) = Cert.SsdModel.dt I (4 * t + ck) l h := by
  unfold dtRows
  unfold_payloads
  pointwise
  rw [hI.h2, hI.h4 h hh]
  unfold Cert.SsdModel.dt Cert.SsdModel.sp
  have e : 512 * t + (128 * ck.val + l.val) = 128 * (4 * t + ck.val) + l.val := by omega
  simp only [e]

theorem acs_at (hI : Holds I t x0 x1 x2 x3 x4 x5 x6) (ck : Fin 4) (l : Fin 128) (h : Fin 128) (hh : h.val < 8) :
    acs (F := Ideal) x2 x3 x4 ck (ix2 l h) = Cert.SsdModel.acs I (4 * t + ck) l h := by
  have e : ∀ k : Fin 128, (mulf (dtRows x2 x4 ck) (broadcastTo S128x128 (k0_pay6 x3) broadcasts_S1x128_S128x128) (ix2 k h) : EReal)
      = Cert.SsdModel.da I (4 * t + ck) k h := fun k => by
    unfold_payloads
    pointwise
    rw [dtRows_at hI ck k h hh, hI.h3 h hh]
    rfl
  unfold acs
  rw [runSum_at _ _ _ fun k => by rw [e]; exact Cert.SsdModel.da_nonpos I _ _ _]
  unfold Cert.SsdModel.acs
  exact Finset.sum_congr rfl fun k _ => by rw [e]

theorem xRows_at (hI : Holds I t x0 x1 x2 x3 x4 x5 x6) (ck : Fin 4) (l : Fin 128) (k : Fin 1024) :
    xRows (F := Ideal) x0 ck (ix2 l k) = I.P (128 * (4 * t + ck) + l) k := by
  unfold xRows
  pointwise
  rw [hI.h0]
  have e : 512 * t + (128 * ck.val + l.val) = 128 * (4 * t + ck.val) + l.val := by omega
  simp only [e]

theorem xB_at (hI : Holds I t x0 x1 x2 x3 x4 x5 x6) (ck : Fin 4) (g : Fin 2) (l d : Fin 128) :
    xB (F := Ideal) (xRows x0 ck) g (ix2 l d) = Cert.SsdModel.B I (4 * t + ck) l g d := by
  unfold xB
  pointwise
  rw [xRows_at hI]
  rfl

theorem xC_at (hI : Holds I t x0 x1 x2 x3 x4 x5 x6) (ck : Fin 4) (g : Fin 2) (l d : Fin 128) :
    xC (F := Ideal) (xRows x0 ck) g (ix2 l d) = Cert.SsdModel.C I (4 * t + ck) l g d := by
  unfold xC
  pointwise
  rw [xRows_at hI]
  rfl

theorem cb_at (hI : Holds I t x0 x1 x2 x3 x4 x5 x6) (ck : Fin 4) (g : Fin 2) (l s : Fin 128) :
    cb (F := Ideal) (xRows x0 ck) g (ix2 l s) = ∑ d : Fin 128, Cert.SsdModel.C I (4 * t + ck) l g d * Cert.SsdModel.B I (4 * t + ck) s g d := by
  unfold cb
  pointwise
  exact Finset.sum_congr rfl fun d _ => by rw [xB_at hI, xC_at hI]

theorem xs_at (hI : Holds I t x0 x1 x2 x3 x4 x5 x6) (ck p : Fin 4) (l j : Fin 128) :
    xs (F := Ideal) (xRows x0 ck) p (ix2 l j) = I.P (128 * (4 * t + ck) + l) (128 * p + j) := by
  unfold xs
  pointwise
  rw [xRows_at hI]

/-- The head of a pair's lane. -/
theorem head_lane (p : Fin 4) (j : Fin 128) : (128 * p.val + j.val) / 64 = if j.val < 64 then (hd p 0).val else (hd p 1).val := by
  unfold hd
  split <;> (simp only [Fin.val_zero, Fin.val_one]; omega)

theorem grp_lane (p : Fin 4) (j : Fin 128) : (128 * p.val + j.val) / 256 = (grp p).val := by
  unfold grp
  simp only []
  omega

theorem xdt_at (hI : Holds I t x0 x1 x2 x3 x4 x5 x6) (ck p : Fin 4) (l j : Fin 128) :
    xdt (F := Ideal) (xRows x0 ck) (dtRows x2 x4 ck) p (ix2 l j) = Cert.SsdModel.X I (4 * t + ck) l (128 * p + j) := by
  unfold xdt
  pointwise
  rw [xs_at hI, lanes_at, colAll_at, colAll_at, dtRows_at hI _ _ _ (hd p 0).isLt, dtRows_at hI _ _ _ (hd p 1).isLt]
  unfold Cert.SsdModel.X
  rw [head_lane]
  split <;> rfl

/-- A head's output at a row and lane, in the model's terms of that head. -/
theorem headOut_at (hI : Holds I t x0 x1 x2 x3 x4 x5 x6) (ck p : Fin 4) (St : Vec Ideal S1x128x128 .f32) (h : Fin 8) (l j : Fin 128)
    (hS : ∀ d : Fin 128, (St (ix3 0 d j) : EReal) = Cert.SsdModel.H I (4 * t + ck) (128 * p + j) d) :
    headOut (F := Ideal) (xRows x0 ck) (dtRows x2 x4 ck) (acs x2 x3 x4 ck) p St h (ix2 l j)
      = ∑ s : Fin 128, (∑ d : Fin 128, Cert.SsdModel.C I (4 * t + ck) l (grp p) d * Cert.SsdModel.B I (4 * t + ck) s (grp p) d)
          * Ideal.exp (if s.val ≤ l.val then Cert.SsdModel.acs I (4 * t + ck) l h - Cert.SsdModel.acs I (4 * t + ck) s h else ⊥)
          * Cert.SsdModel.X I (4 * t + ck) s (128 * p + j)
        + ∑ d : Fin 128, Cert.SsdModel.C I (4 * t + ck) l (grp p) d * Ideal.exp (Cert.SsdModel.acs I (4 * t + ck) l h)
            * Cert.SsdModel.H I (4 * t + ck) (128 * p + j) d := by
  unfold headOut
  unfold_payloads
  pointwise
  refine congrArg₂ (· + ·) (Finset.sum_congr rfl fun s _ => ?_) (Finset.sum_congr rfl fun d _ => ?_)
  · have hh : (⟨h.val, by omega⟩ : Fin 128).val < 8 := h.isLt
    rw [cb_at hI, xdt_at hI, colAll_at, rowAll_at, word_ge l s l.isLt s.isLt, select_bit, lit_bot,
      asRows_at _ _ _ (by rw [acs_at hI _ _ _ hh]; exact Cert.SsdModel.acs_nonpos I _ _ _), acs_at hI _ _ _ hh, acs_at hI _ _ _ hh]
  · have hh : (⟨h.val, by omega⟩ : Fin 128).val < 8 := h.isLt
    rw [xC_at hI, colAll_at, acs_at hI _ _ _ hh, hS]

/-- A head's new state at a coordinate and lane, in the model's terms of that head. -/
theorem headState_at (hI : Holds I t x0 x1 x2 x3 x4 x5 x6) (ck p : Fin 4) (St : Vec Ideal S1x128x128 .f32) (h : Fin 8) (d j : Fin 128) :
    headState (F := Ideal) (xRows x0 ck) (dtRows x2 x4 ck) (acs x2 x3 x4 ck) p St h (ix2 d j)
      = Ideal.exp (Cert.SsdModel.acs I (4 * t + ck) 127 h) * St (ix3 0 d j)
        + ∑ l : Fin 128, Cert.SsdModel.B I (4 * t + ck) l (grp p) d
            * Ideal.exp (Cert.SsdModel.acs I (4 * t + ck) 127 h - Cert.SsdModel.acs I (4 * t + ck) l h)
            * Cert.SsdModel.X I (4 * t + ck) l (128 * p + j) := by
  have hh : (⟨h.val, by omega⟩ : Fin 128).val < 8 := h.isLt
  unfold headState lastRow
  pointwise
  rw [colAll_at, acs_at hI _ _ _ hh]
  refine congrArg₂ (· + ·) rfl (Finset.sum_congr rfl fun l _ => ?_)
  rw [xB_at hI, xdt_at hI, colAll_at, colAll_at, acs_at hI _ _ _ hh, acs_at hI _ _ _ hh]
  rfl

/-- The new state of a pair is the model's update of the old. -/
theorem pairState_at (hI : Holds I t x0 x1 x2 x3 x4 x5 x6) (ck p : Fin 4) (St : Vec Ideal S1x128x128 .f32) (d j : Fin 128) :
    pairState (F := Ideal) (xRows x0 ck) (dtRows x2 x4 ck) (acs x2 x3 x4 ck) p St (ix3 0 d j)
      = Cert.SsdModel.upd I (4 * t + ck) (128 * p + j) d (St (ix3 0 d j)) := by
  unfold pairState
  pointwise
  rw [lanes_at, headState_at hI, headState_at hI]
  unfold Cert.SsdModel.upd
  rw [head_lane, grp_lane]
  split <;> rfl

/-- A pair's output rows are the model's. -/
theorem pairOut_at (hI : Holds I t x0 x1 x2 x3 x4 x5 x6) (ck p : Fin 4) (St : Vec Ideal S1x128x128 .f32) (l j : Fin 128)
    (hS : ∀ d : Fin 128, (St (ix3 0 d j) : EReal) = Cert.SsdModel.H I (4 * t + ck) (128 * p + j) d) :
    pairOut (F := Ideal) (xRows x0 ck) (dtRows x2 x4 ck) (acs x2 x3 x4 ck) x5 p St (ix2 l j) = Cert.SsdModel.y I (4 * t + ck) l (128 * p + j) := by
  unfold pairOut
  pointwise
  rw [lanes_at, headOut_at hI _ _ _ _ _ _ hS, headOut_at hI _ _ _ _ _ _ hS, hI.h5, xs_at hI]
  unfold Cert.SsdModel.y
  rw [head_lane, grp_lane]
  split <;> rfl

/-- A group's gated rows. -/
theorem gated_at (y0 y1 : FVec Ideal S128x128 .f32) (z : Vec Ideal S128x256 .f32) (l : Fin 128) (k : Fin 256) :
    gated (F := Ideal) y0 y1 z (ix2 l k)
      = (if h : k.val < 128 then (y0 (ix2 l ⟨k.val, h⟩) : EReal) else y1 (ix2 l ⟨k.val - 128, by omega⟩)) * z (ix2 l k) := by
  unfold gated
  pointwise

/-- An output block of a chunk is the model's output at the group's channels. -/
theorem outBlk_at (hI : Holds I t x0 x1 x2 x3 x4 x5 x6) (ck : Fin 4) (St : Fin 4 → Vec Ideal S1x128x128 .f32) (g : Fin 2) (l : Fin 128) (k : Fin 256)
    (hS : ∀ (p : Fin 4) (d j : Fin 128), (St p (ix3 0 d j) : EReal) = Cert.SsdModel.H I (4 * t + ck) (128 * p + j) d) :
    outBlk (F := Ideal) x0 x1 x2 x3 x4 x5 x6 ck St g (ix2 l k) = Cert.SsdModel.out I (4 * t + ck) l (256 * g + k) := by
  have e : ∀ k : Fin 256, (gated (pairOut (xRows x0 ck) (dtRows x2 x4 ck) (acs x2 x3 x4 ck) x5 ⟨2 * g.val, by omega⟩ (St ⟨2 * g.val, by omega⟩))
      (pairOut (xRows x0 ck) (dtRows x2 x4 ck) (acs x2 x3 x4 ck) x5 ⟨2 * g.val + 1, by omega⟩ (St ⟨2 * g.val + 1, by omega⟩))
      (View.ld x1 (Rect.unit (s := S512x512) ![128 * ck.val, 256 * g.val] S128x256.size (inZ ck g))) (ix2 l k) : EReal)
      = Cert.SsdModel.yz I (4 * t + ck) l (256 * g + k) := fun k => by
    rw [gated_at]
    pointwise
    rw [hI.h1]
    unfold Cert.SsdModel.yz
    have e1 : 512 * t + (128 * ck.val + l.val) = 128 * (4 * t + ck.val) + l.val := by omega
    refine congrArg₂ (· * ·) ?_ ?_
    · split
      · rw [pairOut_at hI _ _ _ _ _ fun d => hS _ _ _]
        exact congrArg _ (by simp only []; omega)
      · rw [pairOut_at hI _ _ _ _ _ fun d => hS _ _ _]
        exact congrArg _ (by simp only []; omega)
    · simp only [e1]
  have eg : (256 * g.val + k.val) / 256 = g.val := by omega
  unfold outBlk
  generalize hy : gated (F := Ideal) _ _ _ = Y at e ⊢
  unfold_payloads
  pointwise
  simp only [e]
  rw [hI.h6]
  unfold Cert.SsdModel.out
  rw [eg]

end Cert.KernelIdeal.Ssd

end
-- ==== Proof.SsdPieces.lean ====
/- What a grid point of the state-space-duality kernel stores, in either of its cases, is the stages of `SsdStages.lean` applied chunk after chunk:
   from the zero state where the sequence begins, from the state the point before left elsewhere. -/
module

public import proofs.«01_k».proof.Proof.Gen.KernelIdeal.Value
public import proofs.«01_k».proof.Proof.SsdStages
public import Idealize.ShloMosaic.Lib.Pipeline.ReadBack
public import Idealize.ShloMosaic.Lib.Tactic

@[expose] public section

set_option maxRecDepth 16384

noncomputable section

namespace Cert.KernelIdeal.Ssd

open Cert.KernelIdeal Cert.KernelIdeal.Gen Idealize.ShloMosaic Idealize.ShloMosaic.TcCoe Idealize.SL.Sem

variable {F : FTy → Type} [FloatOps F]

/-- A store of a pair's state, and of a group's output block of a chunk. -/
def pcS (S : Fin 4 → Vec F S1x128x128 .f32) (p : Fin 4) : View.Piece (Elt F) S4x128x128 .f32 :=
  ⟨Rect.unit (s := S4x128x128) ![p.val, 0, 0] S1x128x128.size (inS p), S p⟩
def pcO (O : Fin 4 → Fin 2 → FVec F S128x256 .bf16) (ck : Fin 4) (g : Fin 2) : View.Piece (Elt F) S512x512 .bf16 :=
  ⟨Rect.unit (s := S512x512) ![128 * ck.val, 256 * g.val] S128x256.size (inZ ck g), O ck g⟩

/-- The state's stores of one chunk, the last made first, whatever was stored before them; and all of a point's output stores. -/
def lstS (S : Fin 4 → Vec F S1x128x128 .f32) (L : List (View.Piece (Elt F) S4x128x128 .f32)) : List (View.Piece (Elt F) S4x128x128 .f32) :=
  pcS S 3 :: pcS S 2 :: pcS S 1 :: pcS S 0 :: L
def lstO (O : Fin 4 → Fin 2 → FVec F S128x256 .bf16) : List (View.Piece (Elt F) S512x512 .bf16) :=
  [pcO O 3 1, pcO O 3 0, pcO O 2 1, pcO O 2 0, pcO O 1 1, pcO O 1 0, pcO O 0 1, pcO O 0 0]

/-- The states before chunk `ck` of a point, from those before its first. -/
def before (x0 : Vec F S512x1024 .f32) (x2 : Vec F S512x128 .f32) (x3 x4 : Vec F S1x128 .f32) (S0 : Fin 4 → Vec F S1x128x128 .f32) :
    Nat → Fin 4 → Vec F S1x128x128 .f32
  | 0 => S0
  | 1 => next x0 x2 x3 x4 0 S0
  | 2 => next x0 x2 x3 x4 1 (next x0 x2 x3 x4 0 S0)
  | 3 => next x0 x2 x3 x4 2 (next x0 x2 x3 x4 1 (next x0 x2 x3 x4 0 S0))
  | _ => next x0 x2 x3 x4 3 (next x0 x2 x3 x4 2 (next x0 x2 x3 x4 1 (next x0 x2 x3 x4 0 S0)))

/-- The output blocks of a point. -/
def outs (x0 : Vec F S512x1024 .f32) (x1 : Vec F S512x512 .f32) (x2 : Vec F S512x128 .f32) (x3 x4 : Vec F S1x128 .f32) (x5 x6 : Vec F S1x512 .f32)
    (S0 : Fin 4 → Vec F S1x128x128 .f32) (ck : Fin 4) (g : Fin 2) : FVec F S128x256 .bf16 :=
  outBlk x0 x1 x2 x3 x4 x5 x6 ck (before x0 x2 x3 x4 S0 ck.val) g

/-- The states a point starts from: zero, or the carried ones. -/
def zeroS : Fin 4 → Vec F S1x128x128 .f32 := fun p => View.ld (k0_pay2 (F := F)) (Rect.unit (s := S4x128x128) ![p.val, 0, 0] S1x128x128.size (inS p))
def loadS (xs0 : Vec F S4x128x128 .f32) : Fin 4 → Vec F S1x128x128 .f32 :=
  fun p => View.ld xs0 (Rect.unit (s := S4x128x128) ![p.val, 0, 0] S1x128x128.size (inS p))

/-- The output stores of a point where the sequence begins. -/
theorem outs_A (c : Dev nD) (i : grid0.Coords) (arg2 : Memref sig .tc .vmem S512x1024 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S512x512 .bf16) (harg9 : arg9.IsWhole)
    (arg10 : Memref sig .tc .vmem S4x128x128 .f32) (harg10 : arg10.IsWhole) (hc0 : cond0_0 i)
    (x0 : Vec F S512x1024 .f32) (x1 : Vec F S512x512 .f32) (x2 : Vec F S512x128 .f32) (x3 : Vec F S1x128 .f32) (x4 : Vec F S1x128 .f32) (x5 : Vec F S1x512 .f32) (x6 : Vec F S1x512 .f32) :
    (kernelRun0_A c i arg2 harg2 arg3 harg3 arg4 harg4 arg5 harg5 arg6 harg6 arg7 harg7 arg8 harg8 arg9 harg9 arg10 harg10 hc0 x0 x1 x2 x3 x4 x5 x6).1
      = lstO (outs x0 x1 x2 x3 x4 x5 x6 zeroS) := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The state's stores of a point where the sequence begins. -/
theorem states_A (c : Dev nD) (i : grid0.Coords) (arg2 : Memref sig .tc .vmem S512x1024 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S512x512 .bf16) (harg9 : arg9.IsWhole)
    (arg10 : Memref sig .tc .vmem S4x128x128 .f32) (harg10 : arg10.IsWhole) (hc0 : cond0_0 i)
    (x0 : Vec F S512x1024 .f32) (x1 : Vec F S512x512 .f32) (x2 : Vec F S512x128 .f32) (x3 : Vec F S1x128 .f32) (x4 : Vec F S1x128 .f32) (x5 : Vec F S1x512 .f32) (x6 : Vec F S1x512 .f32) :
    (kernelRun0_A c i arg2 harg2 arg3 harg3 arg4 harg4 arg5 harg5 arg6 harg6 arg7 harg7 arg8 harg8 arg9 harg9 arg10 harg10 hc0 x0 x1 x2 x3 x4 x5 x6).2.1
      = lstS (before x0 x2 x3 x4 zeroS 4) (lstS (before x0 x2 x3 x4 zeroS 3)
          (lstS (before x0 x2 x3 x4 zeroS 2) (lstS (before x0 x2 x3 x4 zeroS 1) [⟨Rect.unit (s := S4x128x128) ![0, 0, 0] S4x128x128.size inb_S4x128x128_S4x128x128_0_0_0, k0_pay2⟩]))) := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The output stores of a point where the sequence goes on. -/
theorem outs_B (c : Dev nD) (i : grid0.Coords) (arg2 : Memref sig .tc .vmem S512x1024 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S512x512 .bf16) (harg9 : arg9.IsWhole)
    (arg10 : Memref sig .tc .vmem S4x128x128 .f32) (harg10 : arg10.IsWhole) (hc0 : ¬cond0_0 i)
    (x0 : Vec F S512x1024 .f32) (x1 : Vec F S512x512 .f32) (x2 : Vec F S512x128 .f32) (x3 : Vec F S1x128 .f32) (x4 : Vec F S1x128 .f32) (x5 : Vec F S1x512 .f32) (x6 : Vec F S1x512 .f32) (xs0 : Vec F S4x128x128 .f32) :
    (kernelRun0_B c i arg2 harg2 arg3 harg3 arg4 harg4 arg5 harg5 arg6 harg6 arg7 harg7 arg8 harg8 arg9 harg9 arg10 harg10 hc0 x0 x1 x2 x3 x4 x5 x6 xs0).1
      = lstO (outs x0 x1 x2 x3 x4 x5 x6 (loadS xs0)) := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The state's stores of a point where the sequence goes on. -/
theorem states_B (c : Dev nD) (i : grid0.Coords) (arg2 : Memref sig .tc .vmem S512x1024 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x512 .f32) (harg7 : arg7.IsWhole)
    (arg8 : Memref sig .tc .vmem S1x512 .f32) (harg8 : arg8.IsWhole) (arg9 : Memref sig .tc .vmem S512x512 .bf16) (harg9 : arg9.IsWhole)
    (arg10 : Memref sig .tc .vmem S4x128x128 .f32) (harg10 : arg10.IsWhole) (hc0 : ¬cond0_0 i)
    (x0 : Vec F S512x1024 .f32) (x1 : Vec F S512x512 .f32) (x2 : Vec F S512x128 .f32) (x3 : Vec F S1x128 .f32) (x4 : Vec F S1x128 .f32) (x5 : Vec F S1x512 .f32) (x6 : Vec F S1x512 .f32) (xs0 : Vec F S4x128x128 .f32) :
    (kernelRun0_B c i arg2 harg2 arg3 harg3 arg4 harg4 arg5 harg5 arg6 harg6 arg7 harg7 arg8 harg8 arg9 harg9 arg10 harg10 hc0 x0 x1 x2 x3 x4 x5 x6 xs0).2.1
      = lstS (before x0 x2 x3 x4 (loadS xs0) 4) (lstS (before x0 x2 x3 x4 (loadS xs0) 3)
          (lstS (before x0 x2 x3 x4 (loadS xs0) 2) (lstS (before x0 x2 x3 x4 (loadS xs0) 1) []))) := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-! ## The stores read back -/

/-- The state after a chunk's stores, at an index. -/
theorem canon_lstS (S : Fin 4 → Vec F S1x128x128 .f32) (L : List (View.Piece (Elt F) S4x128x128 .f32)) (p : Fin 4) (d k : Fin 128) :
    View.canon (lstS S L) (ix3 p d k) = S p (ix3 0 d k) := by
  have hemb : ∀ (q : Fin 4) (x : S1x128x128.Idx),
      (pcS S q).2 x = (fun y : S4x128x128.Idx => S (y 0) (ix3 0 (y 1) (y 2))) ((pcS S q).1.emb x) := fun q x => by
    have e0 : (pcS S q).1.emb x 0 = q := Fin.ext (by
      have := (x 0).isLt
      show q.val + 1 * (x 0).val = q.val
      have h1 : (x 0).val < 1 := (x 0).isLt
      omega)
    have ex : x = ix3 0 ((pcS S q).1.emb x 1) ((pcS S q).1.emb x 2) := by
      funext a; apply Fin.ext
      match a with
      | ⟨0, _⟩ => have h1 : (x 0).val < 1 := (x 0).isLt; show (x 0).val = 0; omega
      | ⟨1, _⟩ => show (x 1).val = 0 + 1 * (x 1).val; omega
      | ⟨2, _⟩ => show (x 2).val = 0 + 1 * (x 2).val; omega
    show S q x = S ((pcS S q).1.emb x 0) (ix3 0 ((pcS S q).1.emb x 1) ((pcS S q).1.emb x 2))
    exact (congrArg (S q) ex).trans (congrFun (congrArg S e0.symm) _)
  refine View.canon_append_of_pieces (fun y : S4x128x128.Idx => S (y 0) (ix3 0 (y 1) (y 2))) L [pcS S 3, pcS S 2, pcS S 1, pcS S 0] ?_ (ix3 p d k) ?_
  · intro q hq
    simp only [List.mem_cons, List.not_mem_nil, or_false] at hq
    rcases hq with rfl | rfl | rfl | rfl <;> exact hemb _
  · refine ⟨pcS S p, ?_, ?_⟩
    · simp only [List.mem_cons, List.not_mem_nil, or_false]
      match p with
      | 0 => simp
      | 1 => simp
      | 2 => simp
      | 3 => simp
    · refine (Rect.mem_set_unit (inb := inS p)).mpr fun a => ?_
      match a with
      | ⟨0, _⟩ => exact ⟨le_rfl, Nat.lt_succ_self _⟩
      | ⟨1, _⟩ => exact ⟨Nat.zero_le _, by show d.val < 0 + 128; omega⟩
      | ⟨2, _⟩ => exact ⟨Nat.zero_le _, by show k.val < 0 + 128; omega⟩

/-- The output block after a point's stores, at an index. -/
theorem canon_lstO (O : Fin 4 → Fin 2 → FVec F S128x256 .bf16) (r : Fin 512) (c : Fin 512) :
    View.canon (lstO O) (ix2 r c) = O ⟨r.val / 128, by omega⟩ ⟨c.val / 256, by omega⟩ (ix2 ⟨r.val % 128, by omega⟩ ⟨c.val % 256, by omega⟩) := by
  refine View.canon_apply_of_pieces (fun y : S512x512.Idx =>
    O ⟨(y 0).val / 128, by have h : (y 0).val < 512 := (y 0).isLt; omega⟩ ⟨(y 1).val / 256, by have h : (y 1).val < 512 := (y 1).isLt; omega⟩
      (ix2 ⟨(y 0).val % 128, by omega⟩ ⟨(y 1).val % 256, by omega⟩)) (lstO O) ?_ (ix2 r c) ?_
  · have hemb : ∀ (ck : Fin 4) (g : Fin 2) (x : S128x256.Idx), O ck g x = O ⟨(128 * ck.val + 1 * (x 0).val) / 128, by
          have h : (x 0).val < 128 := (x 0).isLt; omega⟩ ⟨(256 * g.val + 1 * (x 1).val) / 256, by have h : (x 1).val < 256 := (x 1).isLt; omega⟩
        (ix2 ⟨(128 * ck.val + 1 * (x 0).val) % 128, by omega⟩ ⟨(256 * g.val + 1 * (x 1).val) % 256, by omega⟩) := fun ck g x => by
      have h0 : (x 0).val < 128 := (x 0).isLt
      have h1 : (x 1).val < 256 := (x 1).isLt
      have e0 : (⟨(128 * ck.val + 1 * (x 0).val) / 128, by omega⟩ : Fin 4) = ck := Fin.ext (by show _ / 128 = _; omega)
      have e1 : (⟨(256 * g.val + 1 * (x 1).val) / 256, by omega⟩ : Fin 2) = g := Fin.ext (by show _ / 256 = _; omega)
      rw [e0, e1]
      refine congrArg (O ck g) (funext fun a => Fin.ext ?_)
      match a with
      | ⟨0, _⟩ => show (x 0).val = (128 * ck.val + 1 * (x 0).val) % 128; omega
      | ⟨1, _⟩ => show (x 1).val = (256 * g.val + 1 * (x 1).val) % 256; omega
    intro q hq
    simp only [lstO, List.mem_cons, List.not_mem_nil, or_false] at hq
    rcases hq with rfl | rfl | rfl | rfl | rfl | rfl | rfl | rfl <;> exact hemb _ _
  · refine ⟨pcO O ⟨r.val / 128, by omega⟩ ⟨c.val / 256, by omega⟩, ?_, ?_⟩
    · have h : ∀ (ck : Fin 4) (g : Fin 2), pcO O ck g ∈ lstO O := fun ck g => by
        simp only [lstO, List.mem_cons, List.not_mem_nil, or_false]
        match ck, g with
        | 0, 0 => simp
        | 0, 1 => simp
        | 1, 0 => simp
        | 1, 1 => simp
        | 2, 0 => simp
        | 2, 1 => simp
        | 3, 0 => simp
        | 3, 1 => simp
      exact h _ _
    · refine (Rect.mem_set_unit (inb := inZ ⟨r.val / 128, by omega⟩ ⟨c.val / 256, by omega⟩)).mpr fun a => ?_
      match a with
      | ⟨0, _⟩ => exact ⟨by show 128 * (r.val / 128) ≤ r.val; omega, by show r.val < 128 * (r.val / 128) + 128; omega⟩
      | ⟨1, _⟩ => exact ⟨by show 256 * (c.val / 256) ≤ c.val; omega, by show c.val < 256 * (c.val / 256) + 256; omega⟩

end Cert.KernelIdeal.Ssd

end
-- ==== Proof.SsdPoints.lean ====
/- The points of the state-space-duality kernel's grid: what each leaves in the output block and in the carried state, by induction on the
   point; and the output array at an index. -/
module

public import proofs.«01_k».proof.Proof.SsdStageVals
public import proofs.«01_k».proof.Proof.SsdPieces
public import Idealize.ShloMosaic.Lib.Pipeline.ValueKit
public import Idealize.ShloMosaic.Lib.KernelVsHost
public import Idealize.ShloMosaic.Lib.Claim

@[expose] public section

set_option maxRecDepth 16384

noncomputable section

namespace Cert.SsdModel

/-- The arguments as functions of natural numbers: zero outside the arrays. -/
def Args.of (p : Fin 32768 → Fin 4224 → EReal) (al db d : Fin 8 → EReal) (g : Fin 512 → EReal) : Args where
  P r k := if h : r < 32768 ∧ k < 4224 then p ⟨r, h.1⟩ ⟨k, h.2⟩ else 0
  Al h := if hh : h < 8 then al ⟨h, hh⟩ else 0
  Db h := if hh : h < 8 then db ⟨h, hh⟩ else 0
  D h := if hh : h < 8 then d ⟨h, hh⟩ else 0
  G k := if hh : k < 512 then g ⟨k, hh⟩ else 0

variable (p : Fin 32768 → Fin 4224 → EReal) (al db d : Fin 8 → EReal) (g : Fin 512 → EReal)

theorem Args.of_P (r : Nat) (hr : r < 32768) (k : Nat) (hk : k < 4224) : (Args.of p al db d g).P r k = p ⟨r, hr⟩ ⟨k, hk⟩ := dif_pos ⟨hr, hk⟩
theorem Args.of_Al (h : Nat) (hh : h < 8) : (Args.of p al db d g).Al h = al ⟨h, hh⟩ := dif_pos hh
theorem Args.of_Db (h : Nat) (hh : h < 8) : (Args.of p al db d g).Db h = db ⟨h, hh⟩ := dif_pos hh
theorem Args.of_D (h : Nat) (hh : h < 8) : (Args.of p al db d g).D h = d ⟨h, hh⟩ := dif_pos hh
theorem Args.of_G (k : Nat) (hk : k < 512) : (Args.of p al db d g).G k = g ⟨k, hk⟩ := dif_pos hk

theorem H_zero (I : Args) (q c d : Nat) (h : q % 16 = 0) : H I q c d = 0 := by
  cases q with
  | zero => rfl
  | succ q => rw [H, if_pos h]

theorem H_succ (I : Args) (q c d : Nat) (h : ¬(q + 1) % 16 = 0) : H I (q + 1) c d = upd I q c d (H I q c d) := by
  rw [H, if_neg h]

end Cert.SsdModel

namespace Cert.KernelIdeal.Ssd

open Cert.KernelIdeal Cert.KernelIdeal.Gen Idealize.ShloMosaic Idealize.ShloMosaic.TcCoe Idealize.SL.Sem
open Cert.SsdModel (Args H upd out H_zero H_succ)

/-! ## One point -/

section point

variable {I : Args} {t : Nat} {x0 : Vec Ideal S512x1024 .f32} {x1 : Vec Ideal S512x512 .f32} {x2 : Vec Ideal S512x128 .f32}
  {x3 x4 : Vec Ideal S1x128 .f32} {x5 x6 : Vec Ideal S1x512 .f32}

/-- The states hold the model's before chunk `q`. -/
def StHolds (I : Args) (q : Nat) (St : Fin 4 → Vec Ideal S1x128x128 .f32) : Prop :=
  ∀ (p : Fin 4) (d j : Fin 128), (St p (ix3 0 d j) : EReal) = H I q (128 * p + j) d

theorem next_at (hI : Holds I t x0 x1 x2 x3 x4 x5 x6) (ck : Fin 4) {St : Fin 4 → Vec Ideal S1x128x128 .f32} (hS : StHolds I (4 * t + ck) St)
    (p : Fin 4) (d j : Fin 128) :
    (next x0 x2 x3 x4 ck St p (ix3 0 d j) : EReal) = upd I (4 * t + ck) (128 * p + j) d (H I (4 * t + ck) (128 * p + j) d) := by
  unfold next
  rw [pairState_at hI, hS]

theorem next_holds (hI : Holds I t x0 x1 x2 x3 x4 x5 x6) (ck : Fin 4) {St : Fin 4 → Vec Ideal S1x128x128 .f32} (hS : StHolds I (4 * t + ck) St)
    (hc : ck.val < 3) : StHolds I (4 * t + (ck.val + 1)) (next x0 x2 x3 x4 ck St) := fun p d j => by
  rw [next_at hI ck hS, ← Nat.add_assoc, H_succ]
  omega

variable {S0 : Fin 4 → Vec Ideal S1x128x128 .f32}

theorem before_holds (hI : Holds I t x0 x1 x2 x3 x4 x5 x6) (h0 : StHolds I (4 * t) S0) : ∀ ck : Fin 4, StHolds I (4 * t + ck) (before x0 x2 x3 x4 S0 ck.val)
  | 0 => h0
  | 1 => next_holds hI 0 h0 (by decide)
  | 2 => next_holds hI 1 (next_holds hI 0 h0 (by decide)) (by decide)
  | 3 => next_holds hI 2 (next_holds hI 1 (next_holds hI 0 h0 (by decide)) (by decide)) (by decide)

theorem point_state (hI : Holds I t x0 x1 x2 x3 x4 x5 x6) (h0 : StHolds I (4 * t) S0) (L : List (View.Piece (Elt Ideal) S4x128x128 .f32))
    (p : Fin 4) (d k : Fin 128) :
    (View.canon (lstS (before x0 x2 x3 x4 S0 4) L) (ix3 p d k) : EReal) = upd I (4 * t + 3) (128 * p + k) d (H I (4 * t + 3) (128 * p + k) d) := by
  rw [canon_lstS]
  exact next_at hI 3 (before_holds hI h0 3) p d k

theorem point_out (hI : Holds I t x0 x1 x2 x3 x4 x5 x6) (h0 : StHolds I (4 * t) S0) (r c : Fin 512) :
    (View.canon (lstO (outs x0 x1 x2 x3 x4 x5 x6 S0)) (ix2 r c) : EReal) = out I (4 * t + r.val / 128) (r.val % 128) c := by
  rw [canon_lstO]
  unfold outs
  rw [outBlk_at hI _ _ _ _ _ (before_holds hI h0 _)]
  exact congrArg _ (Nat.div_add_mod _ _)

end point

/-! ## The blocks of a point -/

variable (m : (ℓ : Loc nD τ sig) → Buf (Elt Ideal) ℓ)

/-- The kernel's arguments at core `c`. -/
def args (c : Dev nD) : Args :=
  Args.of (fun r k => m ((c : Thread nD τ).loc main_arg0) (ix2 r k)) (fun h => m ((c : Thread nD τ).loc main_arg1) (ix1 h))
    (fun h => m ((c : Thread nD τ).loc main_arg2) (ix1 h)) (fun h => m ((c : Thread nD τ).loc main_arg3) (ix1 h))
    (fun k => m ((c : Thread nD τ).loc main_arg4) (ix1 k))

theorem index_rows : ∀ t : Fin cfg0.N, win0_0.index t = ![t.val, 0] ∧ win0_1.index t = ![t.val, 7] ∧ win0_2.index t = ![t.val, 32] := by decide +kernel
theorem index_const : ∀ t : Fin cfg0.N, win0_3.index t = ![0, 0] ∧ win0_4.index t = ![0, 0] ∧ win0_5.index t = ![0, 0] ∧ win0_6.index t = ![0, 0] := by
  decide +kernel

theorem row_lt (t : Fin cfg0.N) (r : Fin 512) : 512 * t.val + r.val < 32768 := by
  have h : cfg0.N = 64 := N_0
  have := t.isLt
  omega

theorem blk0_at (c : Dev nD) (t : Fin cfg0.N) (r : Fin 512) (k : Fin 1024) :
    X0_0 m c t (ix2 r k) = m ((c : Thread nD τ).loc main_arg0) (ix2 ⟨512 * t.val + r.val, row_lt t r⟩ ⟨k.val, by omega⟩) := by
  unfold X0_0 Pipeline.Window.fill
  rw [dif_pos (moved0_0 t _)]
  have e := (index_rows t).1
  blk_ext! [iblk, V, e]

theorem blk1_at (c : Dev nD) (t : Fin cfg0.N) (r k : Fin 512) :
    X0_1 m c t (ix2 r k) = m ((c : Thread nD τ).loc main_arg0) (ix2 ⟨512 * t.val + r.val, row_lt t r⟩ ⟨3584 + k.val, by omega⟩) := by
  unfold X0_1 Pipeline.Window.fill
  rw [dif_pos (moved0_1 t _)]
  have e := (index_rows t).2.1
  blk_ext! [iblk, V, e]

theorem blk2_at (c : Dev nD) (t : Fin cfg0.N) (r : Fin 512) (k : Fin 128) :
    iblk m c 2 t (ix2 r k) = m ((c : Thread nD τ).loc main_arg0) (ix2 ⟨512 * t.val + r.val, row_lt t r⟩ ⟨4096 + k.val, by omega⟩) := by
  have e := (index_rows t).2.2
  blk_ext! [iblk, V, e]

/-- A row of eight numbers padded to 128 lanes, at one of the eight. -/
theorem pad_lane (x : Vec Ideal S8 .f32) (z : Vec Ideal S_ .f32) (k : Fin 128) (hk : k.val < 8) :
    pad S128 ![0] ![120] ![0] x z pads_S8_S128_01200 h_S_ (ix1 k) = x (ix1 ⟨k.val, hk⟩) :=
  pad_apply_of_inside _ _ _ x z _ _ (ix1 k) (ix1 ⟨k.val, hk⟩) (by
    intro a
    match a with
    | ⟨0, _⟩ => show k.val = 0 + k.val * (0 + 1); omega)

theorem entry_v1 (c : Dev nD) (k : Fin 128) (hk : k.val < 8) :
    (V m c main_v1 : Vec Ideal S1x128 .f32) (ix2 0 k) = m ((c : Thread nD τ).loc main_arg1) (ix1 ⟨k.val, hk⟩) := by
  simp only [V, hostOps0, hostOps0_1, hostOps0_2, hostOps0_3, hostOps0_4, List.flatten_cons, List.flatten_nil, List.append_nil, List.cons_append,
    List.nil_append]
  entry_read
  pointwise
  exact pad_lane _ _ k hk

theorem entry_v3 (c : Dev nD) (k : Fin 128) (hk : k.val < 8) :
    (V m c main_v3 : Vec Ideal S1x128 .f32) (ix2 0 k) = m ((c : Thread nD τ).loc main_arg2) (ix1 ⟨k.val, hk⟩) := by
  simp only [V, hostOps0, hostOps0_1, hostOps0_2, hostOps0_3, hostOps0_4, List.flatten_cons, List.flatten_nil, List.append_nil, List.cons_append,
    List.nil_append]
  entry_read
  pointwise
  exact pad_lane _ _ k hk

theorem entry_v6 (c : Dev nD) (k : Fin 512) :
    (V m c main_v6 : Vec Ideal S1x512 .f32) (ix2 0 k) = m ((c : Thread nD τ).loc main_arg3) (ix1 ⟨k.val / 64, by omega⟩) := by
  simp only [V, hostOps0, hostOps0_1, hostOps0_2, hostOps0_3, hostOps0_4, List.flatten_cons, List.flatten_nil, List.append_nil, List.cons_append,
    List.nil_append]
  entry_read
  pointwise

theorem entry_v7 (c : Dev nD) (k : Fin 512) :
    (V m c main_v7 : Vec Ideal S1x512 .f32) (ix2 0 k) = m ((c : Thread nD τ).loc main_arg4) (ix1 k) := by
  simp only [V, hostOps0, hostOps0_1, hostOps0_2, hostOps0_3, hostOps0_4, List.flatten_cons, List.flatten_nil, List.append_nil, List.cons_append,
    List.nil_append]
  entry_read
  pointwise

theorem blk3_at (c : Dev nD) (t : Fin cfg0.N) (k : Fin 128) : iblk m c 3 t (ix2 0 k) = V m c main_v1 (ix2 0 k) := by
  have e := (index_const t).1
  blk_ext! [iblk, e]
theorem blk4_at (c : Dev nD) (t : Fin cfg0.N) (k : Fin 128) : iblk m c 4 t (ix2 0 k) = V m c main_v3 (ix2 0 k) := by
  have e := (index_const t).2.1
  blk_ext! [iblk, e]
theorem blk5_at (c : Dev nD) (t : Fin cfg0.N) (k : Fin 512) : iblk m c 5 t (ix2 0 k) = V m c main_v6 (ix2 0 k) := by
  have e := (index_const t).2.2.1
  blk_ext! [iblk, e]
theorem blk6_at (c : Dev nD) (t : Fin cfg0.N) (k : Fin 512) : iblk m c 6 t (ix2 0 k) = V m c main_v7 (ix2 0 k) := by
  have e := (index_const t).2.2.2
  blk_ext! [iblk, e]

theorem args_G (c : Dev nD) (k : Fin 512) : (args m c).G k = m ((c : Thread nD τ).loc main_arg4) (ix1 k) :=
  Args.of_G _ _ _ _ (fun k => m ((c : Thread nD τ).loc main_arg4) (ix1 k)) k.val k.isLt

theorem args_D (c : Dev nD) (h : Fin 8) : (args m c).D h = m ((c : Thread nD τ).loc main_arg3) (ix1 h) :=
  Args.of_D _ _ _ (fun h => m ((c : Thread nD τ).loc main_arg3) (ix1 h)) _ h.val h.isLt

theorem args_Al (c : Dev nD) (h : Nat) (hh : h < 8) : (args m c).Al h = m ((c : Thread nD τ).loc main_arg1) (ix1 ⟨h, hh⟩) :=
  Args.of_Al _ (fun h => m ((c : Thread nD τ).loc main_arg1) (ix1 h)) _ _ _ h hh

theorem args_Db (c : Dev nD) (h : Nat) (hh : h < 8) : (args m c).Db h = m ((c : Thread nD τ).loc main_arg2) (ix1 ⟨h, hh⟩) :=
  Args.of_Db _ _ (fun h => m ((c : Thread nD τ).loc main_arg2) (ix1 h)) _ _ h hh

theorem args_P (c : Dev nD) (r k : Nat) (hr : r < 32768) (hk : k < 4224) :
    (args m c).P r k = m ((c : Thread nD τ).loc main_arg0) (ix2 ⟨r, hr⟩ ⟨k, hk⟩) :=
  Args.of_P (fun r k => m ((c : Thread nD τ).loc main_arg0) (ix2 r k)) _ _ _ _ r hr k hk

/-- A point's blocks hold the arguments' rows. -/
theorem holds (c : Dev nD) (t : Fin cfg0.N) :
    Holds (args m c) t.val (X0_0 m c t) (X0_1 m c t) (iblk m c 2 t) (iblk m c 3 t) (iblk m c 4 t) (iblk m c 5 t) (iblk m c 6 t) where
  h0 r k := (blk0_at m c t r k).trans (args_P m c _ _ _ _).symm
  h1 r k := (blk1_at m c t r k).trans (args_P m c _ _ _ _).symm
  h2 r k := (blk2_at m c t r k).trans (args_P m c _ _ _ _).symm
  h3 k hk := ((blk3_at m c t k).trans (entry_v1 m c k hk)).trans (args_Al m c k.val hk).symm
  h4 k hk := ((blk4_at m c t k).trans (entry_v3 m c k hk)).trans (args_Db m c k.val hk).symm
  h5 k := ((blk5_at m c t k).trans (entry_v6 m c k)).trans (args_D m c _).symm
  h6 k := ((blk6_at m c t k).trans (entry_v7 m c k)).trans (args_G m c k).symm

/-! ## All points -/

theorem zero_holds (I : Args) (q : Nat) (hq : q % 16 = 0) : StHolds I q (zeroS (F := Ideal)) := fun p d j => by
  rw [H_zero I _ _ _ hq]
  unfold zeroS
  unfold_payloads
  pointwise

theorem load_holds (I : Args) (n : Nat) (xs : Vec Ideal S4x128x128 .f32) (hn : ¬(n + 1) % 4 = 0)
    (h : ∀ (p : Fin 4) (d k : Fin 128), (xs (ix3 p d k) : EReal) = upd I (4 * n + 3) (128 * p + k) d (H I (4 * n + 3) (128 * p + k) d)) :
    StHolds I (4 * (n + 1)) (loadS (F := Ideal) xs) := fun p d j => by
  have e : 4 * (n + 1) = 4 * n + 3 + 1 := by omega
  rw [e, H_succ I _ _ _ (by omega), ← h]
  unfold loadS
  pointwise

/-- What a point leaves: the model's output rows, and the model's state after its last chunk. -/
theorem outsAt_at (c : Dev nD) : ∀ (n : Nat) (hn : n < cfg0.N),
    (∀ r k : Fin 512, ((outsAt0 m c n hn).1 (ix2 r k) : EReal) = out (args m c) (4 * n + r.val / 128) (r.val % 128) k)
    ∧ (∀ (p : Fin 4) (d k : Fin 128), ((outsAt0 m c n hn).2 (ix3 p d k) : EReal)
        = upd (args m c) (4 * n + 3) (128 * p + k) d (H (args m c) (4 * n + 3) (128 * p + k) d)) := by
  have hA : ∀ (t : Fin cfg0.N), t.val % 4 = 0 →
      (∀ r k : Fin 512, ((outsAt0 m c t.val t.isLt).1 (ix2 r k) : EReal) = out (args m c) (4 * t.val + r.val / 128) (r.val % 128) k)
      ∧ (∀ (p : Fin 4) (d k : Fin 128), ((outsAt0 m c t.val t.isLt).2 (ix3 p d k) : EReal)
        = upd (args m c) (4 * t.val + 3) (128 * p + k) d (H (args m c) (4 * t.val + 3) (128 * p + k) d)) := fun t h0 => by
    have hz := zero_holds (args m c) (4 * t.val) (by omega)
    rw [outsAt0_A m c t h0]
    refine ⟨fun r k => ?_, fun p d k => ?_⟩
    · dsimp only
      unfold out0_A_7
      rw [View.read_writes_junk_eq_canon, outs_A]
      exact point_out (holds m c t) hz r k
    · dsimp only
      unfold sout0_A_0
      rw [View.read_writes_junk_eq_canon, states_A]
      exact point_state (holds m c t) hz _ p d k
  intro n
  induction n with
  | zero => exact fun hn => hA ⟨0, hn⟩ rfl
  | succ n ih =>
    intro hn
    by_cases h0 : (n + 1) % 4 = 0
    · exact hA ⟨n + 1, hn⟩ h0
    · have hl := load_holds (args m c) n _ h0 (ih (Nat.lt_of_succ_lt hn)).2
      rw [outsAt0_B m c ⟨n + 1, hn⟩ h0]
      refine ⟨fun r k => ?_, fun p d k => ?_⟩
      · dsimp only
        unfold out0_B_7
        rw [View.read_writes_junk_eq_canon, outs_B]
        exact point_out (holds m c ⟨n + 1, hn⟩) hl r k
      · dsimp only
        unfold sout0_B_0
        rw [View.read_writes_junk_eq_canon, states_B]
        exact point_state (holds m c ⟨n + 1, hn⟩) hl _ p d k

/-- The output array at a row and channel. -/
theorem result_at (c : Dev nD) (r : Fin 32768) (k : Fin 512) :
    (Cert.KernelIdeal.Value.G7 m c (ix2 r k) : EReal) = out (args m c) (r.val / 128) (r.val % 128) k := by
  have hN : cfg0.N = 64 := N_0
  have hp : Cert.KernelIdeal.Value.pt7Of (ix2 r k) = r.val / 512 := by
    show 1 * (r.val / 512 - 0) + 1 * (k.val / 512 - 0) = _
    omega
  have hlt : Cert.KernelIdeal.Value.pt7Of (ix2 r k) < cfg0.N := by rw [hp, hN]; omega
  have hl : Cert.KernelIdeal.Value.loc7Of (ix2 r k) = ix2 ⟨r.val % 512, Nat.mod_lt _ (by decide)⟩ k := by
    funext a; apply Fin.ext
    match a with
    | ⟨0, _⟩ => rfl
    | ⟨1, _⟩ => show k.val % 512 = k.val; omega
  unfold Cert.KernelIdeal.Value.G7
  rw [dif_pos hlt, ← Cert.KernelIdeal.Value.outsAt0_sweep m c _ hlt, hl, (outsAt_at m c _ hlt).1, hp]
  have e0 : 4 * (r.val / 512) + r.val % 512 / 128 = r.val / 128 := by omega
  have e1 : r.val % 512 % 128 = r.val % 128 := by omega
  dsimp only
  rw [e0, e1]

end Cert.KernelIdeal.Ssd

end
-- ==== Proof.SsdRef.lean ====
module
public import proofs.«01_k».proof.Proof.SsdPoints
public import proofs.«01_k».proof.Proof.Gen.ReferenceIdeal.Read
public import Idealize.ShloMosaic.Lib.Pointwise
public import Idealize.ShloMosaic.Lib.Pipeline.ValueKit
@[expose] public section
set_option maxRecDepth 16384
noncomputable section
/-! # The reference's arrays, entry by entry

The reference's buffers are read at one entry each and named by the scan of `SsdModel`: the step sizes, the decays and
their running sums, the chunk products, the carried states, and the gated, normalised result. -/

namespace Cert.ReferenceIdeal.Ssd
open Cert.ReferenceIdeal Cert.ReferenceIdeal.Read Cert.ReferenceIdeal.Gen Idealize.ShloMosaic Idealize.ShloMosaic.TcCoe Idealize.SL.Sem
open Cert.SsdModel

/-! ## The running sum -/

theorem foldl_add_eq {N : Nat} (g : Fin N → EReal) : (List.finRange N).foldl (fun r n => r + g n) 0 = ∑ n, g n := by
  have key : ∀ (L : List (Fin N)) (v : EReal), L.foldl (fun r n => r + g n) v = v + (L.map g).sum := by
    intro L
    induction L with
    | nil => intro v; simp
    | cons a L ih => intro v; rw [List.foldl_cons, ih, List.map_cons, List.sum_cons, add_assoc]
  rw [key, zero_add, Fin.sum_univ_def]

/-- A window of 128 that ends at `l`, padded below with zeros, adds the entries up to `l`. -/
theorem window_sum (l : Fin 128) (x : Fin 128 → EReal) :
    (∑ n : Fin 128, if h : 127 ≤ l.val + n.val then x ⟨l.val + n.val - 127, by omega⟩ else 0)
      = ∑ j : Fin 128, if j.val ≤ l.val then x j else 0 := by
  have e1 : (∑ n : Fin 128, if h : 127 ≤ l.val + n.val then x ⟨l.val + n.val - 127, by omega⟩ else 0)
      = ∑ n ∈ Finset.univ.filter (fun n : Fin 128 => 127 ≤ l.val + n.val), x ⟨l.val + n.val - 127, by omega⟩ := by
    rw [Finset.sum_filter]
    refine Finset.sum_congr rfl fun n _ => ?_
    split <;> rfl
  rw [e1, ← Finset.sum_filter]
  refine Finset.sum_bij' (fun n _ => ⟨l.val + n.val - 127, by omega⟩) (fun j hj => ⟨j.val + 127 - l.val, by
    have := (Finset.mem_filter.mp hj).2; omega⟩) ?_ ?_ ?_ ?_ ?_
  · intro n hn
    have := (Finset.mem_filter.mp hn).2
    refine Finset.mem_filter.mpr ⟨Finset.mem_univ _, ?_⟩
    show l.val + n.val - 127 ≤ l.val
    have := n.isLt; omega
  · intro j hj
    have := (Finset.mem_filter.mp hj).2
    refine Finset.mem_filter.mpr ⟨Finset.mem_univ _, ?_⟩
    show 127 ≤ l.val + (j.val + 127 - l.val)
    omega
  · intro n hn
    have := (Finset.mem_filter.mp hn).2
    refine Fin.ext ?_
    show l.val + n.val - 127 + 127 - l.val = n.val
    omega
  · intro j hj
    have := (Finset.mem_filter.mp hj).2
    refine Fin.ext ?_
    show l.val + (j.val + 127 - l.val) - 127 = j.val
    omega
  · intro n hn; rfl

abbrev Win : Shape := ⟨4, ![1, 1, 1, 128]⟩

theorem win_coords (n : Fin Win.numel) : (Win.rowMajor.symm n 0).val = 0 ∧ (Win.rowMajor.symm n 1).val = 0
    ∧ (Win.rowMajor.symm n 2).val = 0 ∧ (Win.rowMajor.symm n 3).val = n.val := by
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have e : (Win.rowMajor (Win.rowMajor.symm n)).val = n.val := by rw [Equiv.apply_symm_apply]
  rw [Shape.rowMajor_val_four] at e
  have e' : (((Win.rowMajor.symm n 0).val * 1 + (Win.rowMajor.symm n 1).val) * 1 + (Win.rowMajor.symm n 2).val) * 128
      + (Win.rowMajor.symm n 3).val = n.val := e
  omega

theorem cumsum_at (x : Vec Ideal S16x8x16x128 .f32) (z : Vec Ideal S_ .f32) (hz : ∀ i, z i = (0 : EReal))
    (h : S16x8x16x128.ReduceWindows ![1, 1, 1, 128] ![1, 1, 1, 1] ![0, 0, 0, 127] ![0, 0, 0, 0] S16x8x16x128) (hu : 0 < S_.numel)
    (b : Fin 16) (k : Fin 8) (n : Fin 16) (l : Fin 128) :
    Host.reduceWindowAdd (F := Ideal) (φ := .f32) ![1, 1, 1, 128] ![1, 1, 1, 1] ![0, 0, 0, 127] ![0, 0, 0, 0] x z h hu (ix4 b k n l)
      = (∑ j : Fin 128, if j.val ≤ l.val then (x (ix4 b k n j) : EReal) else 0 : EReal) := by
  have hN : Win.numel = 128 := by decide
  rw [← window_sum l (fun j => x (ix4 b k n j))]
  unfold Host.reduceWindowAdd
  rw [Ideal.hostReduceWindowAdd_def]
  unfold Ideal.hostReduceWindowAdd Host.reduceWindow
  simp only [hz]
  refine Eq.trans ?_ ((foldl_add_eq fun m : Fin Win.numel =>
    if h : 127 ≤ l.val + m.val then (x (ix4 b k n ⟨l.val + m.val - 127, by have := m.isLt; omega⟩) : EReal) else 0).trans ?_)
  · congr 1
    funext r m
    obtain ⟨c0, c1, c2, c3⟩ := win_coords m
    congr 1
    by_cases hm : 127 ≤ l.val + m.val
    · rw [dif_pos hm, dif_pos]
      · refine congrArg x ?_
        funext a
        refine Fin.ext ?_
        match a with
        | 0 => show b.val * 1 + (Win.rowMajor.symm m 0).val - 0 = b.val; omega
        | 1 => show k.val * 1 + (Win.rowMajor.symm m 1).val - 0 = k.val; omega
        | 2 => show n.val * 1 + (Win.rowMajor.symm m 2).val - 0 = n.val; omega
        | 3 => show l.val * 1 + (Win.rowMajor.symm m 3).val - 127 = l.val + m.val - 127; omega
      · intro a
        match a with
        | 0 => show 0 ≤ b.val * 1 + (Win.rowMajor.symm m 0).val ∧ b.val * 1 + (Win.rowMajor.symm m 0).val - 0 < 16; omega
        | 1 => show 0 ≤ k.val * 1 + (Win.rowMajor.symm m 1).val ∧ k.val * 1 + (Win.rowMajor.symm m 1).val - 0 < 8; omega
        | 2 => show 0 ≤ n.val * 1 + (Win.rowMajor.symm m 2).val ∧ n.val * 1 + (Win.rowMajor.symm m 2).val - 0 < 16; omega
        | 3 =>
          show 127 ≤ l.val * 1 + (Win.rowMajor.symm m 3).val ∧ l.val * 1 + (Win.rowMajor.symm m 3).val - 127 < 128
          have := m.isLt; omega
    · rw [dif_neg hm, dif_neg]
      intro hh
      have h3 : 127 ≤ l.val * 1 + (Win.rowMajor.symm m 3).val := (hh 3).1
      omega
  · exact Fintype.sum_equiv (finCongr hN) _ _ fun m => rfl

/-! ## The reads -/

variable (I : Args) (x0 : Vec Ideal S32768x4224 .f32) (x1 x2 x3 : Vec Ideal S8 .f32) (x4 : Vec Ideal S512 .f32)

/-- The reference's arguments are those of the scan. -/
structure Reads : Prop where
  hP : ∀ r k (hr : r < 32768) (hk : k < 4224), (x0 (ix2 ⟨r, hr⟩ ⟨k, hk⟩) : EReal) = I.P r k
  hAl : ∀ h : Fin 8, (x1 (ix1 h) : EReal) = I.Al h
  hDb : ∀ h : Fin 8, (x2 (ix1 h) : EReal) = I.Db h
  hD : ∀ h : Fin 8, (x3 (ix1 h) : EReal) = I.D h
  hG : ∀ k : Fin 512, (x4 (ix1 k) : EReal) = I.G k

variable {I x0 x1 x2 x3 x4} (R : Reads I x0 x1 x2 x3 x4)
include R

theorem v15_at (b : Fin 16) (t : Fin 2048) (h : Fin 8) (p : Fin 64) :
    (val_main_v15 (F := Ideal) x0 (ix4 b t h p) : EReal) = I.P (2048 * b + t) (64 * h + p) := by
  rw [show 2048 * b.val + t.val = b.val * 2048 + t.val by omega, show 64 * h.val + p.val = h.val * 64 + p.val by omega, ← R.hP _ _ (by omega) (by omega)]
  unfold val_main_v15 val_main_v6 val_main_v1 val_main_v0
  pointwise

theorem v28_at (b : Fin 16) (h : Fin 8) (n : Fin 16) (l d : Fin 128) :
    (val_main_v28 (F := Ideal) x0 (ix5 b h n l d) : EReal) = B I (16 * b + n) l (h / 4) d := by
  unfold B
  rw [← R.hP _ _ (by omega) (by omega)]
  unfold val_main_v28 val_main_v27 val_main_v11 val_main_v10 val_main_v9 val_main_v7 val_main_v1 val_main_v0
  pointwise
  congr 2 <;> (try refine Fin.ext ?_) <;> simp <;> omega

theorem v30_at (b : Fin 16) (h : Fin 8) (n : Fin 16) (l d : Fin 128) :
    (val_main_v30 (F := Ideal) x0 (ix5 b h n l d) : EReal) = C I (16 * b + n) l (h / 4) d := by
  unfold C
  rw [← R.hP _ _ (by omega) (by omega)]
  unfold val_main_v30 val_main_v29 val_main_v14 val_main_v13 val_main_v12 val_main_v8 val_main_v1 val_main_v0
  pointwise
  congr 2 <;> (try refine Fin.ext ?_) <;> simp <;> omega

theorem v19_at (b : Fin 16) (t : Fin 2048) (h : Fin 8) :
    (val_main_v19 (F := Ideal) x0 x2 (ix3 b t h) : EReal) = sp (I.P (2048 * b + t) (4096 + h) + I.Db h) := by
  rw [show 2048 * b.val + t.val = b.val * 2048 + t.val by omega, ← R.hP _ _ (by omega) (by omega), ← R.hDb]
  simp only [val_main_v19, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_call0_cst,
    val_main_v18, val_main_v17, val_main_v16, val_main_v5, val_main_v4]
  pointwise
  rw [if_neg (fun h => h rfl), sp, zero_sub]

theorem v26_at (b : Fin 16) (h : Fin 8) (n : Fin 16) (l : Fin 128) (p : Fin 64) :
    (val_main_v26 (F := Ideal) x0 x2 (ix5 b h n l p) : EReal) = X I (16 * b + n) l (64 * h + p) := by
  unfold val_main_v26 val_main_v25 val_main_v24 val_main_v23 val_main_v22
  pointwise
  rw [v15_at R, v19_at R, X, dt]
  simp only []
  rw [show 2048 * b.val + (n.val * 128 + l.val) = 128 * (16 * b.val + n.val) + l.val by omega, show (64 * h.val + p.val) / 64 = h.val by omega]

theorem v35_at (b : Fin 16) (h : Fin 8) (n : Fin 16) (l : Fin 128) :
    (val_main_v35 (F := Ideal) x0 x1 x2 (ix4 b h n l) : EReal) = da I (16 * b + n) l h := by
  unfold val_main_v35 val_main_v34 val_main_v33 val_main_v32 val_main_v31 val_main_v21 val_main_v20
  pointwise
  rw [v19_at R, da, dt, zero_sub, ← R.hAl]
  simp only []
  rw [show 2048 * b.val + (n.val * 128 + l.val) = 128 * (16 * b.val + n.val) + l.val by omega]

theorem v36_at (b : Fin 16) (h : Fin 8) (n : Fin 16) (l : Fin 128) :
    (val_main_v36 (F := Ideal) x0 x1 x2 (ix4 b h n l) : EReal) = acs I (16 * b + n) l h := by
  unfold val_main_v36
  rw [cumsum_at _ _ (fun i => by unfold val_main_call1_call0_v0 val_main_call1_call0_cst; pointwise), acs]
  refine Finset.sum_congr rfl fun j _ => ?_
  rw [v35_at R]

theorem v45_at (b : Fin 16) (h : Fin 8) (n : Fin 16) (l s : Fin 128) :
    (val_main_v45 (F := Ideal) x0 x1 x2 (ix5 b h n l s) : EReal)
      = Ideal.exp (if s.val ≤ l.val then acs I (16 * b + n) l h - acs I (16 * b + n) s h else ⊥) := by
  simp only [val_main_v45, val_main_v44, val_main_call3_v2, val_main_call3_v1, val_main_call3_v0, val_main_cst, val_main_v43, val_main_v42,
    val_main_v41, val_main_v40, val_main_v39, val_main_v38, val_main_call2_v5, val_main_call2_c_0, val_main_call2_v4, val_main_call2_v3,
    val_main_call2_v2, val_main_call2_v1, val_main_call2_v0, val_main_call2_c, val_main_v37, val_main_c]
  pointwise
  rw [v36_at R, v36_at R, show IntOp.addi (BitVec.ofNat 32 l.val) 0#32 = BitVec.ofNat 32 l.val from BitVec.add_zero _, word_ge _ _ l.isLt s.isLt,
    select_bit, select_bit]
  by_cases hs : s.val ≤ l.val
  · simp only [if_pos hs]
  · simp only [if_neg hs]; exact congrArg Ideal.exp lit_bot

theorem v48_at (b : Fin 16) (h : Fin 8) (n : Fin 16) (l : Fin 128) (p : Fin 64) :
    (val_main_v48 (F := Ideal) x0 x1 x2 (ix5 b h n l p) : EReal)
      = ∑ s : Fin 128, (∑ d : Fin 128, C I (16 * b + n) l (h / 4) d * B I (16 * b + n) s (h / 4) d)
        * Ideal.exp (if s.val ≤ l.val then acs I (16 * b + n) l h - acs I (16 * b + n) s h else ⊥) * X I (16 * b + n) s (64 * h + p) := by
  unfold val_main_v48 val_main_v47 val_main_v46
  pointwise
  refine Finset.sum_congr rfl fun s _ => ?_
  rw [v45_at R, v26_at R, Finset.sum_congr rfl fun d _ => by rw [v30_at R, v28_at R]]

theorem v56_at (b : Fin 16) (h : Fin 8) (n : Fin 16) (p : Fin 64) (d : Fin 128) :
    (val_main_v56 (F := Ideal) x0 x1 x2 (ix5 b h n p d) : EReal)
      = ∑ l : Fin 128, B I (16 * b + n) l (h / 4) d * Ideal.exp (acs I (16 * b + n) 127 h - acs I (16 * b + n) l h) * X I (16 * b + n) l (64 * h + p) := by
  simp only [val_main_v56, val_main_v55, val_main_v54, val_main_v53, val_main_v52, val_main_v51, val_main_v50, val_main_v49]
  pointwise
  refine Finset.sum_congr rfl fun s _ => ?_
  rw [v36_at R, v36_at R, v28_at R, v26_at R, mul_comm]
  rfl

theorem v59_at (b : Fin 16) (h : Fin 8) (n : Fin 16) :
    (val_main_v59 (F := Ideal) x0 x1 x2 (ix3 b h n) : EReal) = Ideal.exp (acs I (16 * b + n) 127 h) := by
  unfold val_main_v59 val_main_v58 val_main_v57
  pointwise
  rw [v36_at R]
  rfl

omit R

/-! ## The carried states -/

theorem slices_decay (n : Fin 16) : S16x8x16.Slices ![0, 0, n.val] S16x8x1 := by revert n; decide
theorem slices_upd (n : Fin 16) : S16x8x16x64x128.Slices ![0, 0, n.val, 0, 0] S16x8x1x64x128 := by revert n; decide

/-- One chunk's step of the state: the chunk's decay times the state before it, and the chunk's own product added. -/
def step (n : Fin 16) (A : Vec Ideal S16x8x16 .f32) (U : Vec Ideal S16x8x16x64x128 .f32) (S : Vec Ideal S16x8x64x128 .f32) : Vec Ideal S16x8x64x128 .f32 :=
  addf (F := Ideal) (φ := .f32)
    (mulf (F := Ideal) (φ := .f32)
      (broadcastInDim S16x8x64x128 ![0, 1, 2, 3] bcast_S16x8x1x1_S16x8x64x128_0_1_2_3
        (broadcastInDim S16x8x1x1 ![0, 1] bcast_S16x8_S16x8x1x1_0_1
          (shapeCast S16x8 (extractStridedSlice S16x8x1 ![0, 0, n.val] A (slices_decay n)) shapeCasts_S16x8x1_S16x8))) S)
    (shapeCast S16x8x64x128 (extractStridedSlice S16x8x1x64x128 ![0, 0, n.val, 0, 0] U (slices_upd n)) shapeCasts_S16x8x1x64x128_S16x8x64x128)

theorem step_at (n : Fin 16) (A : Vec Ideal S16x8x16 .f32) (U : Vec Ideal S16x8x16x64x128 .f32) (S : Vec Ideal S16x8x64x128 .f32)
    (b : Fin 16) (h : Fin 8) (p : Fin 64) (d : Fin 128) :
    (step n A U S (ix4 b h p d) : EReal) = A (ix3 b h n) * S (ix4 b h p d) + U (ix5 b h n p d) := by
  unfold step
  pointwise

/-- The states before the sixteen chunks. -/
def states (x0 : Vec Ideal S32768x4224 .f32) (x1 x2 : Vec Ideal S8 .f32) : Fin 16 → Vec Ideal S16x8x64x128 .f32 :=
  ![val_main_v60 (F := Ideal), val_main_v68 (F := Ideal) x0 x1 x2, val_main_v76 (F := Ideal) x0 x1 x2, val_main_v84 (F := Ideal) x0 x1 x2,
    val_main_v92 (F := Ideal) x0 x1 x2, val_main_v100 (F := Ideal) x0 x1 x2, val_main_v108 (F := Ideal) x0 x1 x2, val_main_v116 (F := Ideal) x0 x1 x2,
    val_main_v124 (F := Ideal) x0 x1 x2, val_main_v132 (F := Ideal) x0 x1 x2, val_main_v140 (F := Ideal) x0 x1 x2, val_main_v148 (F := Ideal) x0 x1 x2,
    val_main_v156 (F := Ideal) x0 x1 x2, val_main_v164 (F := Ideal) x0 x1 x2, val_main_v172 (F := Ideal) x0 x1 x2, val_main_v180 (F := Ideal) x0 x1 x2]

theorem states_succ (x0 : Vec Ideal S32768x4224 .f32) (x1 x2 : Vec Ideal S8 .f32) (n : Fin 15) :
    states x0 x1 x2 n.succ = step n.castSucc (val_main_v59 (F := Ideal) x0 x1 x2) (val_main_v56 (F := Ideal) x0 x1 x2) (states x0 x1 x2 n.castSucc) := by
  fin_cases n <;> rfl

include R

theorem states_at (n : Fin 16) : ∀ (b : Fin 16) (h : Fin 8) (p : Fin 64) (d : Fin 128),
    (states x0 x1 x2 n (ix4 b h p d) : EReal) = H I (16 * b + n) (64 * h + p) d := by
  induction n using Fin.induction with
  | zero =>
    intro b h p d
    rw [H_zero I _ _ _ (by simp)]
    show (val_main_v60 (F := Ideal) (ix4 b h p d) : EReal) = 0
    unfold val_main_v60 val_main_cst_0
    pointwise
  | succ n ih =>
    intro b h p d
    have e : 16 * b.val + (n.succ : Fin 16).val = 16 * b.val + n.val + 1 := rfl
    rw [states_succ, step_at, ih, v59_at R, v56_at R, e, H_succ I _ _ _ (by omega), upd, show (64 * h.val + p.val) / 64 = h.val by omega,
      show (64 * h.val + p.val) / 256 = h.val / 4 by omega]
    rfl

theorem v205_at (b : Fin 16) (h : Fin 8) (n : Fin 16) (p : Fin 64) (d : Fin 128) :
    (val_main_v205 (F := Ideal) x0 x1 x2 (ix5 b h n p d) : EReal) = H I (16 * b + n) (64 * h + p) d := by
  have piece : ∀ k : Fin 16, PieceAt (t := S16x8x16x64x128) (2 : Fin 5) (ix5 b h n p d) (H I (16 * b + n) (64 * h + p) d) S16x8x1x64x128
      (broadcastInDim S16x8x1x64x128 ![0, 1, 3, 4] bcast_S16x8x64x128_S16x8x1x64x128_0_1_3_4 (states x0 x1 x2 k)) k.val := by
    intro k hk hr i h0 hi
    have ek : k = n := Fin.ext hk.symm
    have ei : i = (ix5 b h 0 p d : S16x8x1x64x128.Idx) := by
      funext a
      refine Fin.ext ?_
      match a with
      | 0 => exact hi 0 (by decide)
      | 1 => exact hi 1 (by decide)
      | 2 => exact h0
      | 3 => exact hi 3 (by decide)
      | 4 => exact hi 4 (by decide)
    rw [ek, ei, ← states_at R]
    pointwise
  exact concatenate_unit_eq _ _ _ _ _ rfl ⟨piece 0, piece 1, piece 2, piece 3, piece 4, piece 5, piece 6, piece 7, piece 8, piece 9, piece 10,
    piece 11, piece 12, piece 13, piece 14, piece 15, trivial⟩

/-! ## The result -/

theorem v211_at (b : Fin 16) (h : Fin 8) (n : Fin 16) (l : Fin 128) (p : Fin 64) :
    (val_main_v211 (F := Ideal) x0 x1 x2 (ix5 b h n l p) : EReal) + I.D h * I.P (128 * (16 * b + n) + l) (64 * h + p)
      = y I (16 * b + n) l (64 * h + p) := by
  unfold val_main_v211 val_main_v210 val_main_v209 val_main_v208 val_main_v207 val_main_v206
  pointwise
  rw [v48_at R, v36_at R, y, show (64 * h.val + p.val) / 64 = h.val by omega, show (64 * h.val + p.val) / 256 = h.val / 4 by omega]
  simp only [v30_at R, v205_at R]

theorem v220_at (r : Nat) (hr : r < 32768) (b : Fin 16) (t : Fin 2048) (c : Fin 512) (hb : 2048 * b.val + t.val = r) :
    (val_main_v220 (F := Ideal) x0 x1 x2 x3 (ix3 b t c) : EReal) = yz I (r / 128) (r % 128) c := by
  simp only [val_main_v220, val_main_v219, val_main_v218, val_main_v217, val_main_v216, val_main_v215, val_main_v214, val_main_v213, val_main_v212,
    val_main_v3, val_main_v2]
  pointwise
  rw [v15_at R, R.hD, R.hP, yz]
  have h1 := v211_at R b ⟨c.val / 64, by omega⟩ ⟨t.val / 128, by omega⟩ ⟨t.val % 128, by omega⟩ ⟨c.val % 64, by omega⟩
  simp only [] at h1 ⊢
  rw [show 64 * (c.val / 64) + c.val % 64 = c.val by omega, show 16 * b.val + t.val / 128 = r / 128 by omega,
    show 128 * (r / 128) + t.val % 128 = r by omega] at h1
  rw [show 64 * (c.val / 64) + c.val % 64 = c.val by omega, hb, show 128 * (r / 128) + r % 128 = r by omega,
    show r % 128 = t.val % 128 by omega, ← h1, show b.val * 2048 + t.val = r by omega]

theorem v237_at (r : Fin 32768) (c : Fin 512) :
    (val_main_v237 (F := Ideal) x0 x1 x2 x3 x4 (ix2 r c) : EReal) = out I (r.val / 128) (r.val % 128) c := by
  simp only [val_main_v237, val_main_v236, val_main_v235, val_main_v234, val_main_v233, val_main_v232, val_main_v231, val_main_v230, val_main_v229,
    val_main_v228, val_main_v227, val_main_v226, val_main_v225, val_main_v224, val_main_v223, val_main_v222, val_main_v221, val_main_cst_1,
    val_main_cst_2, val_main_cst_3]
  pointwise
  have hb : 2048 * (r.val / 2048) + r.val % 2048 = r.val := by omega
  have e := fun k => v220_at R r.val r.isLt ⟨r.val / 2048, by omega⟩ ⟨r.val % 2048, by omega⟩ k hb
  simp only [e]
  rw [R.hG, out]
  simp only [Nat.mul_comm 256]

end Cert.ReferenceIdeal.Ssd
-- ==== Proof.FfnStages.lean ====
/- The stages of one 512-row tile of the mixer-output and convolutional feed-forward kernel, as functions of the vectors they read, at any column
   chunk and either half. The body writes them out once per chunk; `FfnPieces.lean` shows that what it stores are these functions, and
   `FfnStageVals.lean` reads each at an index. -/
module

public import proofs.«01_k».proof.Proof.Gen.Kernel2Ideal.Skeleton
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]

/-! ## The slices, at any chunk and half -/

/-- The first column of chunk `c` of half `h`. -/
abbrev col (c : Fin 11) (h : Fin 2) : Nat := 256 * c.val + 2816 * h.val

theorem inW : ∀ (c : Fin 11) (h : Fin 2), ∀ a, (![0, 0, col c h] : Fin 3 → Nat) a + S1x1024x256.size a ≤ S1x1024x5632.size a := by decide
theorem inC : ∀ (k : Fin 3) (c : Fin 11) (h : Fin 2), ∀ a, (![0, k.val, col c h] : Fin 3 → Nat) a + S1x1x256.size a ≤ S1x3x5632.size a := by decide
theorem inB : ∀ (c : Fin 11) (h : Fin 2), ∀ a, (![0, 0, col c h] : Fin 3 → Nat) a + S1x1x256.size a ≤ S1x1x5632.size a := by decide
theorem inS : ∀ (c : Fin 11) (h : Fin 2), ∀ a, (![0, col c h] : Fin 2 → Nat) a + S8x256.size a ≤ S8x5632.size a := by decide
theorem inA : ∀ c : Fin 11, ∀ a, (![0, 256 * c.val] : Fin 2 → Nat) a + S512x256.size a ≤ S512x2816.size a := by decide
theorem inO0 : ∀ a, (![0, 0, 0] : Fin 3 → Nat) a + S1x512x1024.size a ≤ S1x1024x1024.size a := by decide
theorem inO1 : ∀ a, (![0, 512, 0] : Fin 3 → Nat) a + S1x512x1024.size a ≤ S1x1024x1024.size a := by decide
theorem inD0 : ∀ a, (![0, 0, 0] : Fin 3 → Nat) a + S1x1536x1024.size a ≤ S1x2816x1024.size a := by decide
theorem inD1 : ∀ a, (![0, 1536, 0] : Fin 3 → Nat) a + S1x1280x1024.size a ≤ S1x2816x1024.size a := by decide
theorem inA0 : ∀ a, (![0, 0] : Fin 2 → Nat) a + S512x1536.size a ≤ S512x2816.size a := by decide
theorem inA1 : ∀ a, (![0, 1536] : Fin 2 → Nat) a + S512x1280.size a ≤ S512x2816.size a := by decide

/-! ## The rows before the feed-forward half -/

/-- The rows with the normed mixer output added, and those rows normed. -/
def rows (x0 x1 : Vec F S512x512 .bf16) (x2 : Vec F S1x1024x1024 .bf16) (x3 : Vec F S512x1024 .f32) (x4 : Vec F S1x1024 .f32) : FVec F S512x1024 .f32 :=
  k0_pay3 x0 (View.ld x2 (Rect.unit (s := S1x1024x1024) ![0, 0, 0] S1x512x1024.size inO0)) x1
    (View.ld x2 (Rect.unit (s := S1x1024x1024) ![0, 512, 0] S1x512x1024.size inO1)) x3 x4
def normed (x0 x1 : Vec F S512x512 .bf16) (x2 : Vec F S1x1024x1024 .bf16) (x3 : Vec F S512x1024 .f32) (x4 x5 : Vec F S1x1024 .f32) : FVec F S512x1024 .bf16 :=
  k0_pay6 (rows x0 x1 x2 x3 x4) (k0_pay4 x5)
    (k0_pay5 x0 (View.ld x2 (Rect.unit (s := S1x1024x1024) ![0, 0, 0] S1x512x1024.size inO0)) x1
      (View.ld x2 (Rect.unit (s := S1x1024x1024) ![0, 512, 0] S1x512x1024.size inO1)) x3 x4)

/-! ## One chunk of columns -/

/-- The up weights, the taps, the bias and the carried rows, at a chunk's columns. -/
def wC (x6 : Vec F S1x1024x5632 .bf16) (c : Fin 11) (h : Fin 2) : Vec F S1x1024x256 .bf16 :=
  View.ld x6 (Rect.unit (s := S1x1024x5632) ![0, 0, col c h] S1x1024x256.size (inW c h))
def tapC (x7 : Vec F S1x3x5632 .f32) (k : Fin 3) (c : Fin 11) (h : Fin 2) : Vec F S1x1x256 .f32 :=
  View.ld x7 (Rect.unit (s := S1x3x5632) ![0, k.val, col c h] S1x1x256.size (inC k c h))
def biasC (x8 : Vec F S1x1x5632 .f32) (c : Fin 11) (h : Fin 2) : Vec F S1x1x256 .f32 :=
  View.ld x8 (Rect.unit (s := S1x1x5632) ![0, 0, col c h] S1x1x256.size (inB c h))
def carryC (xs : Vec F S8x5632 .f32) (c : Fin 11) (h : Fin 2) : Vec F S8x256 .f32 :=
  View.ld xs (Rect.unit (s := S8x5632) ![0, col c h] S8x256.size (inS c h))

/-- The last eight rows of the up product, carried to the next tile; the convolved columns; the gated product. -/
def tailB (hn : FVec F S512x1024 .bf16) (x6 : Vec F S1x1024x5632 .bf16) (c : Fin 11) (h : Fin 2) : FVec F S8x256 .f32 := k0_pay11 hn (wC x6 c h)
def convB (hn : FVec F S512x1024 .bf16) (x6 : Vec F S1x1024x5632 .bf16) (x7 : Vec F S1x3x5632 .f32) (x8 : Vec F S1x1x5632 .f32) (xs : Vec F S8x5632 .f32)
    (c : Fin 11) (h : Fin 2) : FVec F S512x256 .f32 :=
  k0_pay12 hn (wC x6 c h) (carryC xs c h) (tapC x7 0 c h) (tapC x7 1 c h) (tapC x7 2 c h) (biasC x8 c h)
def halved (v : FVec F S512x256 .f32) : FVec F S512x256 .f32 := mulf (broadcast S512x256 (Scalar.ofBits .f32 0x3F000000#32)) v
def siluB (v : FVec F S512x256 .f32) : FVec F S512x256 .f32 := addf (mulf (halved v) (tanh (halved v))) (halved v)
def actB (hn : FVec F S512x1024 .bf16) (x6 : Vec F S1x1024x5632 .bf16) (x7 : Vec F S1x3x5632 .f32) (x8 : Vec F S1x1x5632 .f32) (xs : Vec F S8x5632 .f32)
    (c : Fin 11) : FVec F S512x256 .bf16 :=
  k0_pay14 (convB hn x6 x7 x8 xs c 1) (siluB (convB hn x6 x7 x8 xs c 0))

/-! ## The stores -/

/-- A store of a chunk's carried rows, and of a chunk's gated product. -/
def pcS (T : Fin 11 → Fin 2 → FVec F S8x256 .f32) (c : Fin 11) (h : Fin 2) : View.Piece (Elt F) S8x5632 .f32 :=
  ⟨Rect.unit (s := S8x5632) ![0, col c h] S8x256.size (inS c h), T c h⟩
def pcA (A : Fin 11 → FVec F S512x256 .bf16) (c : Fin 11) : View.Piece (Elt F) S512x2816 .bf16 :=
  ⟨Rect.unit (s := S512x2816) ![0, 256 * c.val] S512x256.size (inA c), A c⟩

/-- The stores of a point, the last made first: the carried rows, and the gated products of the first six chunks and of all. -/
def lstS (T : Fin 11 → Fin 2 → FVec F S8x256 .f32) : List (View.Piece (Elt F) S8x5632 .f32) :=
  [pcS T 10 1, pcS T 10 0, pcS T 9 1, pcS T 9 0, pcS T 8 1, pcS T 8 0, pcS T 7 1, pcS T 7 0, pcS T 6 1, pcS T 6 0, pcS T 5 1, pcS T 5 0,
    pcS T 4 1, pcS T 4 0, pcS T 3 1, pcS T 3 0, pcS T 2 1, pcS T 2 0, pcS T 1 1, pcS T 1 0, pcS T 0 1, pcS T 0 0]
def lstA6 (A : Fin 11 → FVec F S512x256 .bf16) : List (View.Piece (Elt F) S512x2816 .bf16) :=
  [pcA A 5, pcA A 4, pcA A 3, pcA A 2, pcA A 1, pcA A 0]
def lstA (A : Fin 11 → FVec F S512x256 .bf16) : List (View.Piece (Elt F) S512x2816 .bf16) :=
  pcA A 10 :: pcA A 9 :: pcA A 8 :: pcA A 7 :: pcA A 6 :: lstA6 A

/-! ## The tile's result -/

/-- The two groups of gated products read back, the down product over both, and the rows with it normed and added. -/
def act0 (A : Fin 11 → FVec F S512x256 .bf16) : Vec F S512x1536 .bf16 :=
  fun j => View.canon (lstA6 A) ((Rect.unit (s := S512x2816) ![0, 0] S512x1536.size inA0).toLoadRect.idx j)
def act1 (A : Fin 11 → FVec F S512x256 .bf16) : Vec F S512x1280 .bf16 :=
  fun j => View.canon (lstA A) ((Rect.unit (s := S512x2816) ![0, 1536] S512x1280.size inA1).toLoadRect.idx j)
def down0 (x9 : Vec F S1x2816x1024 .bf16) : Vec F S1x1536x1024 .bf16 :=
  View.ld x9 (Rect.unit (s := S1x2816x1024) ![0, 0, 0] S1x1536x1024.size inD0)
def down1 (x9 : Vec F S1x2816x1024 .bf16) : Vec F S1x1280x1024 .bf16 :=
  View.ld x9 (Rect.unit (s := S1x2816x1024) ![0, 1536, 0] S1x1280x1024.size inD1)
def result (x : FVec F S512x1024 .f32) (A : Fin 11 → FVec F S512x256 .bf16) (x9 : Vec F S1x2816x1024 .bf16) (x10 : Vec F S1x1024 .f32) : FVec F S512x1024 .f32 :=
  k0_pay1 x (k0_pay95 (k0_pay50 (act0 A) (down0 x9)) (act1 A) (down1 x9)) (k0_pay96 x10) (k0_pay97 (k0_pay50 (act0 A) (down0 x9)) (act1 A) (down1 x9))

end Cert.Kernel2Ideal.Ffn

end

end
-- ==== Proof.FfnModel.lean ====
/- The mixer output and the convolutional feed-forward half as one function of their arguments, by natural-number row and column, and the facts
   about extended reals that both programs' readings need: a row normed by its mean square is finite whatever the row holds, and the gate written
   with a hyperbolic tangent is the gate written with an exponential away from `⊥`. -/
module

public import Idealize.ShloMosaic.Lib.Pointwise

@[expose] public section

noncomputable section

namespace Cert.FfnModel

open Idealize.ShloMosaic

/-! ## Finite numbers -/

/-- Neither infinity. -/
def IsReal (x : EReal) : Prop := ∃ r : ℝ, x = (r : EReal)

theorem fin_zero : IsReal 0 := ⟨0, by simp⟩
theorem fin_add {x y : EReal} : IsReal x → IsReal y → IsReal (x + y) := fun ⟨a, ha⟩ ⟨b, hb⟩ => ⟨a + b, by rw [ha, hb, EReal.coe_add]⟩
theorem fin_mul {x y : EReal} : IsReal x → IsReal y → IsReal (x * y) := fun ⟨a, ha⟩ ⟨b, hb⟩ => ⟨a * b, by rw [ha, hb, EReal.coe_mul]⟩
theorem fin_sum {ι : Type} (s : Finset ι) (f : ι → EReal) (h : ∀ i ∈ s, IsReal (f i)) : IsReal (∑ i ∈ s, f i) :=
  Finset.sum_induction f IsReal (fun _ _ => fin_add) fin_zero h
theorem real_of_ne {x : EReal} (h1 : x ≠ ⊤) (h2 : x ≠ ⊥) : IsReal x := ⟨x.toReal, (EReal.coe_toReal h1 h2).symm⟩
theorem IsReal.ne_bot {x : EReal} : IsReal x → x ≠ ⊥ := fun ⟨r, h⟩ => by rw [h]; exact EReal.coe_ne_bot r
/-- A number whose magnitude is below `⊤`. -/
theorem real_of_abs {x : EReal} (h : FloatOps.absf (F := Ideal) (φ := .f32) x < (⊤ : EReal)) : IsReal x := by
  induction x using EReal.rec with
  | bot => exact absurd h (lt_irrefl (⊤ : EReal))
  | top => exact absurd h (lt_irrefl (⊤ : EReal))
  | coe r => exact ⟨r, rfl⟩

/-! ## The literals -/

theorem half_lit : (Ideal.ofBits .f32 1056964608#32 : EReal) = ((1 / 2 : ℝ) : EReal) := by
  simp [Ideal.ofBits, Ideal.ieee]; rw [← EReal.coe_mul]; norm_num
theorem dim_lit : (Ideal.ofBits .f32 1149239296#32 : EReal) = ((1024 : ℝ) : EReal) := by
  simp [Ideal.ofBits, Ideal.ieee]; rw [← EReal.coe_mul]; norm_num
theorem eps_lit : ∃ e : ℝ, 0 < e ∧ (Ideal.ofBits .f32 897988541#32 : EReal) = (e : EReal) := by
  refine ⟨_, ?_, by simp [Ideal.ofBits, Ideal.ieee]; rfl⟩
  norm_num

/-! ## A normed row -/

/-- A row over the root of its mean square, times a gain. -/
def rms (f g : Nat → EReal) (c : Nat) : EReal :=
  f c * Ideal.rsqrt (Ideal.div (∑ k : Fin 1024, f k * f k) (Ideal.ofBits .f32 1149239296#32) + Ideal.ofBits .f32 897988541#32) * g c

theorem sq_nonneg' (x : EReal) : 0 ≤ x * x := by
  induction x using EReal.rec with
  | bot => simp
  | top => simp
  | coe r => rw [← EReal.coe_mul]; exact_mod_cast mul_self_nonneg r

theorem rms_fin (f g : Nat → EReal) (c : Nat) (hc : c < 1024) (hg : IsReal (g c)) : IsReal (rms f g c) := by
  obtain ⟨e, he, hel⟩ := eps_lit
  unfold rms
  rw [hel, dim_lit]
  by_cases hf : ∀ k : Fin 1024, IsReal (f k)
  · obtain ⟨s, hs⟩ := fin_sum Finset.univ (fun k : Fin 1024 => f k * f k) fun k _ => fin_mul (hf k) (hf k)
    have hs0 : (0 : EReal) ≤ ∑ k : Fin 1024, f k * f k := Finset.sum_nonneg fun k _ => sq_nonneg' _
    rw [hs] at hs0 ⊢
    have hs1 : 0 ≤ s := by exact_mod_cast hs0
    have hd : Ideal.div (s : EReal) ((1024 : ℝ) : EReal) = ((s * 1024⁻¹ : ℝ) : EReal) := by
      unfold Ideal.div
      rw [if_neg (by exact_mod_cast (by norm_num : (1024 : ℝ) ≠ 0)), ← EReal.coe_inv, ← EReal.coe_mul]
    have hp : 0 < s * 1024⁻¹ + e := by positivity
    rw [hd, ← EReal.coe_add]
    refine fin_mul (fin_mul (hf ⟨c, hc⟩) ?_) hg
    refine ⟨(Real.sqrt (s * 1024⁻¹ + e))⁻¹, ?_⟩
    show (if s * 1024⁻¹ + e < 0 then (⊥ : EReal) else if s * 1024⁻¹ + e = 0 then ⊤ else ((Real.sqrt (s * 1024⁻¹ + e))⁻¹ : ℝ)) = _
    rw [if_neg hp.not_gt, if_neg hp.ne']
  · have hf' : ∃ k : Fin 1024, ¬ IsReal (f k) := not_forall.mp hf
    obtain ⟨k, hk⟩ := hf'
    have hk2 : f k * f k = ⊤ := by
      generalize f k = x at hk
      induction x using EReal.rec with
      | bot => simp
      | top => simp
      | coe r => exact absurd ⟨r, rfl⟩ hk
    have hs : ∑ k : Fin 1024, f k * f k = ⊤ := by
      have := Finset.single_le_sum (f := fun k : Fin 1024 => f k * f k) (fun i _ => sq_nonneg' _) (Finset.mem_univ k)
      rw [← top_le_iff, ← hk2]; exact this
    have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    have hr : Ideal.rsqrt ⊤ = 0 := rfl
    rw [hs, hd, EReal.top_add_coe, hr, mul_zero, zero_mul]
    exact fin_zero

/-! ## The gate -/

/-- The gate with a hyperbolic tangent, and with an exponential. -/
def gate (x : EReal) : EReal :=
  Ideal.ofBits .f32 1056964608#32 * x * Ideal.tanh (Ideal.ofBits .f32 1056964608#32 * x) + Ideal.ofBits .f32 1056964608#32 * x

theorem half_tanh (r : ℝ) : 1 / 2 * r * Real.tanh (1 / 2 * r) + 1 / 2 * r = r * (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  have ha := Real.exp_pos (1 / 2 * r)
  have hb := Real.exp_pos (-(1 / 2 * r))
  generalize Real.exp (1 / 2 * r) = a at *
  generalize Real.exp (-(1 / 2 * r)) = b at *
  have hb' : b = a⁻¹ := by field_simp; linarith
  subst hb'
  field_simp
  ring

theorem gate_eq (x : EReal) (hx : x ≠ ⊥) : gate x = x * Ideal.logistic x := by
  unfold gate
  rw [half_lit]
  induction x using EReal.rec with
  | bot => exact absurd rfl hx
  | top =>
    rw [EReal.coe_mul_top_of_pos (by norm_num : (0 : ℝ) < 1 / 2)]
    simp
  | coe r =>
    rw [← EReal.coe_mul, Ideal.tanh_coe, Ideal.logistic_coe, ← EReal.coe_mul, ← EReal.coe_add, ← EReal.coe_mul, half_tanh]

/-! ## The layer's two halves -/

/-- The arguments by row and column: the two mixers' outputs, the residual rows, and the layer's weights. -/
structure Args where
  Ma : Nat → Nat → EReal
  Mb : Nat → Nat → EReal
  X : Nat → Nat → EReal
  G1 : Nat → EReal
  G2 : Nat → EReal
  G3 : Nat → EReal
  Wo : Nat → Nat → EReal
  Wu : Nat → Nat → EReal
  Cw : Nat → Nat → EReal
  Cb : Nat → EReal
  Wd : Nat → Nat → EReal

variable (I : Args)

/-- The mixers' outputs through the output weights, and the rows with that normed and added. -/
def mix (r c : Nat) : EReal := ∑ k : Fin 512, I.Ma r k * I.Wo k c + ∑ k : Fin 512, I.Mb r k * I.Wo (512 + k) c
def res (r c : Nat) : EReal := I.X r c + rms (mix I r) I.G1 c
/-- Those rows normed, and through the up weights. -/
def hn (r c : Nat) : EReal := rms (res I r) I.G2 c
def u (r j : Nat) : EReal := ∑ k : Fin 1024, hn I r k * I.Wu k j
/-- The row `k` earlier in the same sequence of 2048, and the three-tap convolution. -/
def back (r k j : Nat) : EReal := if r % 2048 < k then 0 else u I (r - k) j
def conv (r j : Nat) : EReal := back I r 2 j * I.Cw 0 j + back I r 1 j * I.Cw 1 j + u I r j * I.Cw 2 j + I.Cb j
def act (r j : Nat) : EReal := gate (conv I r j) * conv I r (j + 2816)
def down (r c : Nat) : EReal := ∑ k : Fin 1536, act I r k * I.Wd k c + ∑ k : Fin 1280, act I r (1536 + k) * I.Wd (1536 + k) c
def out (r c : Nat) : EReal := res I r c + rms (down I r) I.G3 c

/-- What the gate is fed is finite when the weights it comes from are. -/
structure FinGate : Prop where
  g2 : ∀ c < 1024, IsReal (I.G2 c)
  wu : ∀ k < 1024, ∀ j < 2816, IsReal (I.Wu k j)
  cw : ∀ k < 3, ∀ j < 2816, IsReal (I.Cw k j)
  cb : ∀ j < 2816, IsReal (I.Cb j)

theorem u_fin (h : FinGate I) (r j : Nat) (hj : j < 2816) : IsReal (u I r j) :=
  fin_sum _ _ fun k _ => fin_mul (rms_fin _ _ _ k.isLt (h.g2 _ k.isLt)) (h.wu _ k.isLt _ hj)

theorem back_fin (h : FinGate I) (r k j : Nat) (hj : j < 2816) : IsReal (back I r k j) := by
  unfold back
  split
  · exact fin_zero
  · exact u_fin I h _ _ hj

theorem conv_fin (h : FinGate I) (r j : Nat) (hj : j < 2816) : IsReal (conv I r j) :=
  fin_add (fin_add (fin_add (fin_mul (back_fin I h _ _ _ hj) (h.cw 0 (by omega) _ hj)) (fin_mul (back_fin I h _ _ _ hj) (h.cw 1 (by omega) _ hj)))
    (fin_mul (u_fin I h _ _ hj) (h.cw 2 (by omega) _ hj))) (h.cb _ hj)

theorem act_eq (h : FinGate I) (r j : Nat) (hj : j < 2816) :
    act I r j = conv I r j * Ideal.logistic (conv I r j) * conv I r (j + 2816) := by
  unfold act
  rw [gate_eq _ (conv_fin I h r j hj).ne_bot]

end Cert.FfnModel

end
-- ==== Proof.FfnStageVals.lean ====
/- The stages of `FfnStages.lean` at an index: on blocks that hold the arguments' rows they are the model's terms. -/
module

public import proofs.«01_k».proof.Proof.FfnStages
public import proofs.«01_k».proof.Proof.FfnModel
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Cert.FfnModel (Args)

/-! ## The blocks of a point -/

/-- The blocks hold the arguments' rows of point `t`, and the weights. -/
structure Holds (I : Args) (t : Nat) (x0 x1 : Vec Ideal S512x512 .bf16) (x2 : Vec Ideal S1x1024x1024 .bf16) (x3 : Vec Ideal S512x1024 .f32)
    (x4 x5 : Vec Ideal S1x1024 .f32) (x6 : Vec Ideal S1x1024x5632 .bf16) (x7 : Vec Ideal S1x3x5632 .f32) (x8 : Vec Ideal S1x1x5632 .f32)
    (x9 : Vec Ideal S1x2816x1024 .bf16) (x10 : Vec Ideal S1x1024 .f32) : Prop where
  h0 : ∀ r k : Fin 512, (x0 (ix2 r k) : EReal) = I.Ma (512 * t + r) k
  h1 : ∀ r k : Fin 512, (x1 (ix2 r k) : EReal) = I.Mb (512 * t + r) k
  h2 : ∀ k c : Fin 1024, (x2 (ix3 0 k c) : EReal) = I.Wo k c
  h3 : ∀ (r : Fin 512) (c : Fin 1024), (x3 (ix2 r c) : EReal) = I.X (512 * t + r) c
  h4 : ∀ c : Fin 1024, (x4 (ix2 0 c) : EReal) = I.G1 c
  h5 : ∀ c : Fin 1024, (x5 (ix2 0 c) : EReal) = I.G2 c
  h6 : ∀ (k : Fin 1024) (j : Fin 5632), (x6 (ix3 0 k j) : EReal) = I.Wu k j
  h7 : ∀ (k : Fin 3) (j : Fin 5632), (x7 (ix3 0 k j) : EReal) = I.Cw k j
  h8 : ∀ j : Fin 5632, (x8 (ix3 0 0 j) : EReal) = I.Cb j
  h9 : ∀ (k : Fin 2816) (c : Fin 1024), (x9 (ix3 0 k c) : EReal) = I.Wd k c
  h10 : ∀ c : Fin 1024, (x10 (ix2 0 c) : EReal) = I.G3 c

/-- The carried rows before point `t`: nothing where a sequence begins, else the last rows of the tile before it. Only the last two are read. -/
def Carries (I : Args) (t : Nat) (xs : Vec Ideal S8x5632 .f32) : Prop :=
  ∀ (a : Fin 8) (j : Fin 5632), (xs (ix2 a j) : EReal) = if t % 4 = 0 then 0 else Cert.FfnModel.u I (512 * t + a - 8) j

variable {I : Args} {t : Nat} {x0 x1 : Vec Ideal S512x512 .bf16} {x2 : Vec Ideal S1x1024x1024 .bf16} {x3 : Vec Ideal S512x1024 .f32}
  {x4 x5 : Vec Ideal S1x1024 .f32} {x6 : Vec Ideal S1x1024x5632 .bf16} {x7 : Vec Ideal S1x3x5632 .f32} {x8 : Vec Ideal S1x1x5632 .f32}
  {x9 : Vec Ideal S1x2816x1024 .bf16} {x10 : Vec Ideal S1x1024 .f32} {xs : Vec Ideal S8x5632 .f32}

theorem rows_at (hI : Holds I t x0 x1 x2 x3 x4 x5 x6 x7 x8 x9 x10) (r : Fin 512) (c : Fin 1024) :
    rows (F := Ideal) x0 x1 x2 x3 x4 (ix2 r c) = Cert.FfnModel.res I (512 * t + r) c := by
  unfold rows
  unfold_payloads
  pointwise
  simp only [hI.h0, hI.h1, hI.h2, hI.h3, hI.h4]
  rfl

theorem normed_at (hI : Holds I t x0 x1 x2 x3 x4 x5 x6 x7 x8 x9 x10) (r : Fin 512) (c : Fin 1024) :
    normed (F := Ideal) x0 x1 x2 x3 x4 x5 (ix2 r c) = Cert.FfnModel.hn I (512 * t + r) c := by
  have e : ∀ c : Fin 1024, k0_pay3 (F := Ideal) x0 (View.ld x2 (Rect.unit (s := S1x1024x1024) ![0, 0, 0] S1x512x1024.size inO0)) x1
      (View.ld x2 (Rect.unit (s := S1x1024x1024) ![0, 512, 0] S1x512x1024.size inO1)) x3 x4 (ix2 r c) = Cert.FfnModel.res I (512 * t + r) c :=
    fun c => rows_at hI r c
  unfold normed rows k0_pay6 k0_pay5 k0_pay4
  generalize k0_pay3 (F := Ideal) x0 _ x1 _ x3 x4 = R at e ⊢
  pointwise
  simp only [e, hI.h5]
  rfl

/-! ## One chunk of columns -/

section chunk

variable {hnV : FVec Ideal S512x1024 .bf16}

theorem up_at (hI : Holds I t x0 x1 x2 x3 x4 x5 x6 x7 x8 x9 x10)
    (hh : ∀ (r : Fin 512) (k : Fin 1024), (hnV (ix2 r k) : EReal) = Cert.FfnModel.hn I (512 * t + r) k) (c : Fin 11) (h : Fin 2) (r : Fin 512) (b : Fin 256) :
    k0_pay10 (F := Ideal) hnV (wC x6 c h) (ix2 r b) = Cert.FfnModel.u I (512 * t + r) (256 * c + 2816 * h + b) := by
  unfold wC
  unfold_payloads
  pointwise
  simp only [hh, hI.h6]
  rfl

theorem tailB_at (hI : Holds I t x0 x1 x2 x3 x4 x5 x6 x7 x8 x9 x10)
    (hh : ∀ (r : Fin 512) (k : Fin 1024), (hnV (ix2 r k) : EReal) = Cert.FfnModel.hn I (512 * t + r) k) (c : Fin 11) (h : Fin 2) (a : Fin 8) (b : Fin 256) :
    tailB (F := Ideal) hnV x6 c h (ix2 a b) = Cert.FfnModel.u I (512 * t + (504 + a)) (256 * c + 2816 * h + b) := by
  unfold tailB k0_pay11
  have e := up_at hI hh c h
  generalize k0_pay10 (F := Ideal) hnV (wC x6 c h) = U at e ⊢
  pointwise
  rw [e]

theorem convB_at (hI : Holds I t x0 x1 x2 x3 x4 x5 x6 x7 x8 x9 x10) (hc : Carries I t xs)
    (hh : ∀ (r : Fin 512) (k : Fin 1024), (hnV (ix2 r k) : EReal) = Cert.FfnModel.hn I (512 * t + r) k) (c : Fin 11) (h : Fin 2) (r : Fin 512) (b : Fin 256) :
    convB (F := Ideal) hnV x6 x7 x8 xs c h (ix2 r b) = Cert.FfnModel.conv I (512 * t + r) (256 * c + 2816 * h + b) := by
  unfold convB k0_pay12 carryC tapC biasC
  have e := up_at hI hh c h
  generalize k0_pay10 (F := Ideal) hnV (wC x6 c h) = U at e ⊢
  have hcb : col c h + b.val < 5632 := by have := c.isLt; have := h.isLt; have := b.isLt; unfold col; omega
  have hb : ∀ o k : Nat, o + k = 8 → (ho : o ≤ 8) → (if h1 : o + r.val < 8 then (xs (ix2 ⟨o + r.val, h1⟩ ⟨col c h + b.val, hcb⟩) : EReal)
      else U (ix2 ⟨o + r.val - 8, by omega⟩ b)) = Cert.FfnModel.back I (512 * t + r) k (256 * c + 2816 * h + b) := fun o k hok _ => by
    unfold Cert.FfnModel.back
    have hr := r.isLt
    split
    · rename_i h1
      rw [hc]
      by_cases ht : t % 4 = 0
      · rw [if_pos ht, if_pos (by omega)]
      · rw [if_neg ht, if_neg (by omega)]
        exact congrArg (fun n => Cert.FfnModel.u I n _) (by show 512 * t + (o + r.val) - 8 = _; omega)
    · rename_i h1
      rw [e, if_neg (by omega)]
      exact congrArg (fun n => Cert.FfnModel.u I n _) (by show 512 * t + (o + r.val - 8) = _; omega)
  pointwise
  unfold Cert.FfnModel.conv
  refine congrArg₂ (· + ·) (congrArg₂ (· + ·) (congrArg₂ (· + ·) (congrArg₂ (· * ·) (hb 6 2 rfl (by omega)) (hI.h7 0 _))
    (congrArg₂ (· * ·) (hb 7 1 rfl (by omega)) (hI.h7 1 _))) (congrArg₂ (· * ·) (e r b) (hI.h7 2 _))) (hI.h8 _)

theorem siluB_at (v : FVec Ideal S512x256 .f32) (r : Fin 512) (b : Fin 256) :
    siluB (F := Ideal) v (ix2 r b) = Cert.FfnModel.gate (v (ix2 r b)) := by
  unfold siluB halved
  pointwise
  rfl

theorem actB_at (hI : Holds I t x0 x1 x2 x3 x4 x5 x6 x7 x8 x9 x10) (hc : Carries I t xs)
    (hh : ∀ (r : Fin 512) (k : Fin 1024), (hnV (ix2 r k) : EReal) = Cert.FfnModel.hn I (512 * t + r) k) (c : Fin 11) (r : Fin 512) (b : Fin 256) :
    actB (F := Ideal) hnV x6 x7 x8 xs c (ix2 r b) = Cert.FfnModel.act I (512 * t + r) (256 * c + b) := by
  have e0 := convB_at hI hc hh c 0 r b
  have e1 := convB_at hI hc hh c 1 r b
  unfold actB
  unfold_payloads
  pointwise
  rw [siluB_at, e0, e1]
  unfold Cert.FfnModel.act
  have h0 : 256 * c.val + 2816 * (0 : Fin 2).val + b.val = 256 * c.val + b.val := by simp
  have h1 : 256 * c.val + 2816 * (1 : Fin 2).val + b.val = 256 * c.val + b.val + 2816 := by
    show 256 * c.val + 2816 * 1 + b.val = _
    omega
  rw [h0, h1]

end chunk

/-! ## The stores read back -/

/-- The carried rows after a point's stores, over whatever was there. -/
theorem canon_lstS (T : Fin 11 → Fin 2 → FVec Ideal S8x256 .f32) (f : Nat → Nat → EReal) (L : List (View.Piece (Elt Ideal) S8x5632 .f32))
    (hT : ∀ (c : Fin 11) (h : Fin 2) (a : Fin 8) (b : Fin 256), (T c h (ix2 a b) : EReal) = f a (256 * c + 2816 * h + b)) (a : Fin 8) (j : Fin 5632) :
    View.canon (lstS T ++ L) (ix2 a j) = f a j := by
  have hemb : ∀ (c : Fin 11) (h : Fin 2) (x : S8x256.Idx), (pcS T c h).2 x = (fun y : S8x5632.Idx => f (y 0).val (y 1).val) ((pcS T c h).1.emb x) := fun c h x => by
    rw [eq_ix2 x]
    refine (hT c h _ _).trans (congrArg₂ f ?_ ?_)
    · show (x 0).val = 0 + 1 * (x 0).val; omega
    · show _ = 256 * c.val + 2816 * h.val + 1 * (x 1).val; exact (congrArg _ (Nat.one_mul _)).symm
  have hmem : ∀ (c : Fin 11) (h : Fin 2), pcS T c h ∈ lstS T := fun c h => by
    have hl : lstS T = (List.ofFn fun c : Fin 11 => [pcS T c.rev 1, pcS T c.rev 0]).flatten := rfl
    rw [hl, List.mem_flatten]
    refine ⟨_, List.mem_ofFn.mpr ⟨c.rev, rfl⟩, ?_⟩
    rw [Fin.rev_rev]
    match h with
    | 0 => simp
    | 1 => simp
  refine View.canon_append_of_pieces (fun y : S8x5632.Idx => f (y 0).val (y 1).val) L (lstS T) ?_ (ix2 a j) ?_
  · intro q hq
    have hl : lstS T = (List.ofFn fun c : Fin 11 => [pcS T c.rev 1, pcS T c.rev 0]).flatten := rfl
    rw [hl, List.mem_flatten] at hq
    obtain ⟨l, hl, hq⟩ := hq
    obtain ⟨c, rfl⟩ := List.mem_ofFn.mp hl
    simp only [List.mem_cons, List.not_mem_nil, or_false] at hq
    rcases hq with rfl | rfl <;> exact hemb _ _
  · have hj := j.isLt
    refine ⟨pcS T ⟨j.val % 2816 / 256, by omega⟩ ⟨j.val / 2816, by omega⟩, hmem _ _, (Rect.mem_set_unit (inb := inS _ _)).mpr fun i => ?_⟩
    match i with
    | ⟨0, _⟩ => exact ⟨Nat.zero_le _, by show a.val < 0 + 8; omega⟩
    | ⟨1, _⟩ => exact ⟨by show 256 * (j.val % 2816 / 256) + 2816 * (j.val / 2816) ≤ j.val; omega,
        by show j.val < 256 * (j.val % 2816 / 256) + 2816 * (j.val / 2816) + 256; omega⟩

section stored

variable {A : Fin 11 → FVec Ideal S512x256 .bf16} {f : Nat → Nat → EReal}

theorem pcA_emb (hA : ∀ (c : Fin 11) (r : Fin 512) (b : Fin 256), (A c (ix2 r b) : EReal) = f r (256 * c + b)) (c : Fin 11) (x : S512x256.Idx) :
    (pcA A c).2 x = (fun y : S512x2816.Idx => f (y 0).val (y 1).val) ((pcA A c).1.emb x) := by
  rw [eq_ix2 x]
  refine (hA c _ _).trans (congrArg₂ f ?_ ?_)
  · show (x 0).val = 0 + 1 * (x 0).val; omega
  · show _ = 256 * c.val + 1 * (x 1).val; exact (congrArg _ (Nat.one_mul _)).symm

theorem pcA_mem (c : Fin 11) (r : Fin 512) (k : Fin 2816) (h0 : 256 * c.val ≤ k.val) (h1 : k.val < 256 * c.val + 256) : ix2 r k ∈ (pcA A c).1.set := by
  refine (Rect.mem_set_unit (inb := inA c)).mpr fun i => ?_
  match i with
  | ⟨0, _⟩ => exact ⟨Nat.zero_le _, by show r.val < 0 + 512; omega⟩
  | ⟨1, _⟩ => exact ⟨h0, h1⟩

/-- The gated products read back, once six chunks are stored and once all are. -/
theorem canon_lstA6 (hA : ∀ (c : Fin 11) (r : Fin 512) (b : Fin 256), (A c (ix2 r b) : EReal) = f r (256 * c + b)) (r : Fin 512) (k : Fin 2816)
    (hk : k.val < 1536) : View.canon (lstA6 A) (ix2 r k) = f r k := by
  have hl : lstA6 A = List.ofFn fun c : Fin 6 => pcA A ⟨c.rev.val, by omega⟩ := rfl
  refine View.canon_apply_of_pieces (fun y : S512x2816.Idx => f (y 0).val (y 1).val) (lstA6 A) ?_ (ix2 r k) ?_
  · intro q hq
    rw [hl] at hq
    obtain ⟨c, rfl⟩ := List.mem_ofFn.mp hq
    exact pcA_emb hA _
  · refine ⟨pcA A ⟨k.val / 256, by omega⟩, ?_, pcA_mem _ _ _ (by show 256 * (k.val / 256) ≤ _; omega) (by show _ < 256 * (k.val / 256) + 256; omega)⟩
    rw [hl]
    exact List.mem_ofFn.mpr ⟨(⟨k.val / 256, by omega⟩ : Fin 6).rev, by simp only [Fin.rev_rev]⟩

theorem canon_lstA (hA : ∀ (c : Fin 11) (r : Fin 512) (b : Fin 256), (A c (ix2 r b) : EReal) = f r (256 * c + b)) (r : Fin 512) (k : Fin 2816) :
    View.canon (lstA A) (ix2 r k) = f r k := by
  have hl : lstA A = List.ofFn fun c : Fin 11 => pcA A c.rev := rfl
  refine View.canon_apply_of_pieces (fun y : S512x2816.Idx => f (y 0).val (y 1).val) (lstA A) ?_ (ix2 r k) ?_
  · intro q hq
    rw [hl] at hq
    obtain ⟨c, rfl⟩ := List.mem_ofFn.mp hq
    exact pcA_emb hA _
  · have hk := k.isLt
    refine ⟨pcA A ⟨k.val / 256, by omega⟩, ?_, pcA_mem _ _ _ (by show 256 * (k.val / 256) ≤ _; omega) (by show _ < 256 * (k.val / 256) + 256; omega)⟩
    rw [hl]
    exact List.mem_ofFn.mpr ⟨(⟨k.val / 256, by omega⟩ : Fin 11).rev, by simp only [Fin.rev_rev]⟩

theorem act0_at (hA : ∀ (c : Fin 11) (r : Fin 512) (b : Fin 256), (A c (ix2 r b) : EReal) = f r (256 * c + b)) (r : Fin 512) (k : Fin 1536) :
    act0 A (ix2 r k) = f r k := by
  have e : (Rect.unit (s := S512x2816) ![0, 0] S512x1536.size inA0).toLoadRect.idx (ix2 r k) = ix2 r ⟨k.val, by omega⟩ := by
    funext i; apply Fin.ext
    match i with
    | ⟨0, _⟩ => show 0 + 1 * r.val = r.val; omega
    | ⟨1, _⟩ => show 0 + 1 * k.val = k.val; omega
  unfold act0
  rw [e, canon_lstA6 hA _ _ k.isLt]

theorem act1_at (hA : ∀ (c : Fin 11) (r : Fin 512) (b : Fin 256), (A c (ix2 r b) : EReal) = f r (256 * c + b)) (r : Fin 512) (k : Fin 1280) :
    act1 A (ix2 r k) = f r (1536 + k) := by
  have e : (Rect.unit (s := S512x2816) ![0, 1536] S512x1280.size inA1).toLoadRect.idx (ix2 r k) = ix2 r ⟨1536 + k.val, by omega⟩ := by
    funext i; apply Fin.ext
    match i with
    | ⟨0, _⟩ => show 0 + 1 * r.val = r.val; omega
    | ⟨1, _⟩ => show 1536 + 1 * k.val = 1536 + k.val; omega
  unfold act1
  rw [e, canon_lstA hA]

end stored

/-! ## The tile's result -/

theorem result_at {A : Fin 11 → FVec Ideal S512x256 .bf16} {x : FVec Ideal S512x1024 .f32} (hI : Holds I t x0 x1 x2 x3 x4 x5 x6 x7 x8 x9 x10)
    (hx : ∀ (r : Fin 512) (c : Fin 1024), (x (ix2 r c) : EReal) = Cert.FfnModel.res I (512 * t + r) c)
    (hA : ∀ (c : Fin 11) (r : Fin 512) (b : Fin 256), (A c (ix2 r b) : EReal) = Cert.FfnModel.act I (512 * t + r) (256 * c + b))
    (r : Fin 512) (c : Fin 1024) : result (F := Ideal) x A x9 x10 (ix2 r c) = Cert.FfnModel.out I (512 * t + r) c := by
  have e0 := act0_at (f := fun r j => Cert.FfnModel.act I (512 * t + r) j) hA
  have e1 := act1_at (f := fun r j => Cert.FfnModel.act I (512 * t + r) j) hA
  have e : ∀ c : Fin 1024, k0_pay95 (F := Ideal) (k0_pay50 (act0 A) (down0 x9)) (act1 A) (down1 x9) (ix2 r c) = Cert.FfnModel.down I (512 * t + r) c := fun c => by
    unfold down0 down1 k0_pay95 k0_pay50
    generalize act0 A = a0 at e0 ⊢
    generalize act1 A = a1 at e1 ⊢
    pointwise
    simp only [e0, e1, hI.h9]
    rfl
  unfold result k0_pay1 k0_pay96 k0_pay97
  generalize k0_pay95 (F := Ideal) _ _ _ = Y at e ⊢
  pointwise
  simp only [hx, e, hI.h10]
  rfl

end Cert.Kernel2Ideal.Ffn

end
-- ==== Proof.FfnPieces.lean ====
/- What a grid point of the mixer-output and feed-forward kernel stores, in either of its cases, is the stages of `FfnStages.lean` at each chunk of
   columns: over zero carried rows where a sequence begins, over the rows the point before left elsewhere. -/
module

public import proofs.«01_k».proof.Proof.Gen.Kernel2Ideal.Value
public import proofs.«01_k».proof.Proof.FfnStages
public import Idealize.ShloMosaic.Lib.Pipeline.ReadBack
public import Idealize.ShloMosaic.Lib.Tactic

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]

variable (c : Dev nD) (i : grid0.Coords) (arg2 : Memref sig .tc .vmem S512x512 .bf16) (harg2 : arg2.IsWhole) (arg3 : Memref sig .tc .vmem S512x512 .bf16) (harg3 : arg3.IsWhole)
  (arg4 : Memref sig .tc .vmem S1x1024x1024 .bf16) (harg4 : arg4.IsWhole) (arg5 : Memref sig .tc .vmem S512x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024x5632 .bf16) (harg8 : arg8.IsWhole) (arg9 : Memref sig .tc .vmem S1x3x5632 .f32) (harg9 : arg9.IsWhole)
  (arg10 : Memref sig .tc .vmem S1x1x5632 .f32) (harg10 : arg10.IsWhole) (arg11 : Memref sig .tc .vmem S1x2816x1024 .bf16) (harg11 : arg11.IsWhole)
  (arg12 : Memref sig .tc .vmem S1x1024 .f32) (harg12 : arg12.IsWhole) (arg13 : Memref sig .tc .vmem S512x1024 .f32) (harg13 : arg13.IsWhole)
  (arg14 : Memref sig .tc .vmem S8x5632 .f32) (harg14 : arg14.IsWhole) (arg15 : Memref sig .tc .vmem S512x2816 .bf16) (harg15 : arg15.IsWhole)
  (x0 x1 : Vec F S512x512 .bf16) (x2 : Vec F S1x1024x1024 .bf16) (x3 : Vec F S512x1024 .f32) (x4 x5 : Vec F S1x1024 .f32)
  (x6 : Vec F S1x1024x5632 .bf16) (x7 : Vec F S1x3x5632 .f32) (x8 : Vec F S1x1x5632 .f32) (x9 : Vec F S1x2816x1024 .bf16) (x10 : Vec F S1x1024 .f32)

/-- The carried rows' stores of a point where a sequence begins. -/
theorem carried_A (hc0 : cond0_0 i) :
    (kernelRun0_A c i arg2 harg2 arg3 harg3 arg4 harg4 arg5 harg5 arg6 harg6 arg7 harg7 arg8 harg8 arg9 harg9 arg10 harg10 arg11 harg11 arg12 harg12
      arg13 harg13 arg14 harg14 arg15 harg15 hc0 x0 x1 x2 x3 x4 x5 x6 x7 x8 x9 x10).2.1
      = lstS (tailB (normed x0 x1 x2 x3 x4 x5) x6) ++ [⟨Rect.unit (s := S8x5632) ![0, 0] S8x5632.size inb_S8x5632_S8x5632_0_0, k0_pay2⟩] := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The result's store of a point where a sequence begins. -/
theorem result_A (hc0 : cond0_0 i) :
    (kernelRun0_A c i arg2 harg2 arg3 harg3 arg4 harg4 arg5 harg5 arg6 harg6 arg7 harg7 arg8 harg8 arg9 harg9 arg10 harg10 arg11 harg11 arg12 harg12
      arg13 harg13 arg14 harg14 arg15 harg15 hc0 x0 x1 x2 x3 x4 x5 x6 x7 x8 x9 x10).1
      = [⟨Rect.unit (s := S512x1024) ![0, 0] S512x1024.size inb_S512x1024_S512x1024_0_0,
          result (rows x0 x1 x2 x3 x4) (actB (normed x0 x1 x2 x3 x4 x5) x6 x7 x8 k0_pay2) x9 x10⟩] := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  simp only [View.readCov_eq_canon']
  rfl

/-- The carried rows' stores of a point where a sequence goes on. -/
theorem carried_B (hc0 : ¬cond0_0 i) (xs0 : Vec F S8x5632 .f32) :
    (kernelRun0_B c i arg2 harg2 arg3 harg3 arg4 harg4 arg5 harg5 arg6 harg6 arg7 harg7 arg8 harg8 arg9 harg9 arg10 harg10 arg11 harg11 arg12 harg12
      arg13 harg13 arg14 harg14 arg15 harg15 hc0 x0 x1 x2 x3 x4 x5 x6 x7 x8 x9 x10 xs0).2.1
      = lstS (tailB (normed x0 x1 x2 x3 x4 x5) x6) := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The result's store of a point where a sequence goes on. -/
theorem result_B (hc0 : ¬cond0_0 i) (xs0 : Vec F S8x5632 .f32) :
    (kernelRun0_B c i arg2 harg2 arg3 harg3 arg4 harg4 arg5 harg5 arg6 harg6 arg7 harg7 arg8 harg8 arg9 harg9 arg10 harg10 arg11 harg11 arg12 harg12
      arg13 harg13 arg14 harg14 arg15 harg15 hc0 x0 x1 x2 x3 x4 x5 x6 x7 x8 x9 x10 xs0).1
      = [⟨Rect.unit (s := S512x1024) ![0, 0] S512x1024.size inb_S512x1024_S512x1024_0_0,
          result (rows x0 x1 x2 x3 x4) (actB (normed x0 x1 x2 x3 x4 x5) x6 x7 x8 xs0) x9 x10⟩] := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  simp only [View.readCov_eq_canon']
  rfl

end Cert.Kernel2Ideal.Ffn

end

end
-- ==== Proof.FfnPoints.lean ====
/- The points of the feed-forward kernel's grid: what each leaves in the output block and in the carried rows, and the output array at an index. -/
module

public import proofs.«01_k».proof.Proof.FfnStageVals
public import proofs.«01_k».proof.Proof.FfnPieces
public import Idealize.ShloMosaic.Lib.Pipeline.ValueKit
public import Idealize.ShloMosaic.Lib.KernelVsHost
public import Idealize.ShloMosaic.Lib.Claim

@[expose] public section

set_option maxRecDepth 16384

noncomputable section

namespace Cert.FfnModel

/-- A matrix and a row as functions of natural numbers: zero outside. -/
def mat {n k : Nat} (f : Fin n → Fin k → EReal) (i j : Nat) : EReal := if h : i < n ∧ j < k then f ⟨i, h.1⟩ ⟨j, h.2⟩ else 0
def vec {n : Nat} (f : Fin n → EReal) (i : Nat) : EReal := if h : i < n then f ⟨i, h⟩ else 0

theorem mat_at {n k : Nat} (f : Fin n → Fin k → EReal) (i j : Nat) (hi : i < n) (hj : j < k) : mat f i j = f ⟨i, hi⟩ ⟨j, hj⟩ := dif_pos ⟨hi, hj⟩
theorem vec_at {n : Nat} (f : Fin n → EReal) (i : Nat) (hi : i < n) : vec f i = f ⟨i, hi⟩ := dif_pos hi

/-- The arguments as the model takes them: the weights and gains are those of the second layer. -/
def Args.of (ma mb : Fin 32768 → Fin 512 → EReal) (x : Fin 32768 → Fin 1024 → EReal) (g : Fin 4 → Fin 1024 → EReal) (wo : Fin 1024 → Fin 1024 → EReal)
    (wu : Fin 1024 → Fin 5632 → EReal) (cw : Fin 3 → Fin 5632 → EReal) (cb : Fin 5632 → EReal) (wd : Fin 2816 → Fin 1024 → EReal) : Args where
  Ma := mat ma
  Mb := mat mb
  X := mat x
  G1 := vec (g 1)
  G2 := vec (g 2)
  G3 := vec (g 3)
  Wo := mat wo
  Wu := mat wu
  Cw := mat cw
  Cb := vec cb
  Wd := mat wd

end Cert.FfnModel

namespace Cert.Kernel2Ideal.Ffn

open Cert.Kernel2Ideal Cert.Kernel2Ideal.Gen Idealize.ShloMosaic Idealize.ShloMosaic.TcCoe Idealize.SL.Sem
open Cert.FfnModel (Args mat vec mat_at vec_at)

/-! ## One point -/

section point

variable {I : Args} {t : Nat} {x0 x1 : Vec Ideal S512x512 .bf16} {x2 : Vec Ideal S1x1024x1024 .bf16} {x3 : Vec Ideal S512x1024 .f32}
  {x4 x5 : Vec Ideal S1x1024 .f32} {x6 : Vec Ideal S1x1024x5632 .bf16} {x7 : Vec Ideal S1x3x5632 .f32} {x8 : Vec Ideal S1x1x5632 .f32}
  {x9 : Vec Ideal S1x2816x1024 .bf16} {x10 : Vec Ideal S1x1024 .f32} {xs : Vec Ideal S8x5632 .f32}

theorem point_carry (hI : Holds I t x0 x1 x2 x3 x4 x5 x6 x7 x8 x9 x10) (L : List (View.Piece (Elt Ideal) S8x5632 .f32)) (a : Fin 8) (j : Fin 5632) :
    View.canon (lstS (tailB (normed x0 x1 x2 x3 x4 x5) x6) ++ L) (ix2 a j) = Cert.FfnModel.u I (512 * t + (504 + a)) j :=
  canon_lstS _ (fun a j => Cert.FfnModel.u I (512 * t + (504 + a)) j) L (fun c h a b => tailB_at hI (normed_at hI) c h a b) a j

theorem point_out (hI : Holds I t x0 x1 x2 x3 x4 x5 x6 x7 x8 x9 x10) (hc : Carries I t xs) (r : Fin 512) (c : Fin 1024) :
    View.canon [(⟨Rect.unit (s := S512x1024) ![0, 0] S512x1024.size inb_S512x1024_S512x1024_0_0,
      result (rows x0 x1 x2 x3 x4) (actB (normed x0 x1 x2 x3 x4 x5) x6 x7 x8 xs) x9 x10⟩ : View.Piece (Elt Ideal) S512x1024 .f32)] (ix2 r c)
      = Cert.FfnModel.out I (512 * t + r) c := by
  rw [View.canon_cons_unit_lit' (by decide)]
  · exact result_at hI (rows_at hI) (actB_at hI hc (normed_at hI)) r c
  · decide

end point

/-! ## The blocks of a point -/

variable (m : (ℓ : Loc nD τ sig) → Buf (Elt Ideal) ℓ)

/-- The kernel's arguments at core `c`. -/
def args (c : Dev nD) : Args :=
  Args.of (fun r k => m ((c : Thread nD τ).loc main_arg0) (ix2 r k)) (fun r k => m ((c : Thread nD τ).loc main_arg1) (ix2 r k))
    (fun r k => m ((c : Thread nD τ).loc main_arg2) (ix2 r k)) (fun i k => m ((c : Thread nD τ).loc main_arg3) (ix3 1 i k))
    (fun k j => m ((c : Thread nD τ).loc main_arg4) (ix3 1 k j)) (fun k j => m ((c : Thread nD τ).loc main_arg5) (ix3 1 k j))
    (fun k j => m ((c : Thread nD τ).loc main_arg6) (ix3 1 k j)) (fun j => m ((c : Thread nD τ).loc main_arg7) (ix2 1 j))
    (fun k j => m ((c : Thread nD τ).loc main_arg8) (ix3 1 k j))

theorem index_rows : ∀ t : Fin cfg0.N, win0_0.index t = ![t.val, 0] ∧ win0_1.index t = ![t.val, 0] ∧ win0_3.index t = ![t.val, 0] := by decide +kernel
theorem index_weights : ∀ t : Fin cfg0.N, win0_2.index t = ![1, 0, 0] ∧ win0_6.index t = ![1, 0, 0] ∧ win0_7.index t = ![1, 0, 0]
    ∧ win0_8.index t = ![1, 0, 0] ∧ win0_9.index t = ![1, 0, 0] := by decide +kernel
theorem index_gains : ∀ t : Fin cfg0.N, win0_4.index t = ![0, 0] ∧ win0_5.index t = ![0, 0] ∧ win0_10.index t = ![0, 0] := by decide +kernel

theorem row_lt (t : Fin cfg0.N) (r : Fin 512) : 512 * t.val + r.val < 32768 := by
  have h : cfg0.N = 64 := N_0
  have := t.isLt
  omega

theorem blk0_at (c : Dev nD) (t : Fin cfg0.N) (r k : Fin 512) :
    iblk m c 0 t (ix2 r k) = m ((c : Thread nD τ).loc main_arg0) (ix2 ⟨512 * t.val + r.val, row_lt t r⟩ k) := by
  have e := (index_rows t).1
  blk_ext! [iblk, V, e]
theorem blk1_at (c : Dev nD) (t : Fin cfg0.N) (r k : Fin 512) :
    iblk m c 1 t (ix2 r k) = m ((c : Thread nD τ).loc main_arg1) (ix2 ⟨512 * t.val + r.val, row_lt t r⟩ k) := by
  have e := (index_rows t).2.1
  blk_ext! [iblk, V, e]
theorem blk3_at (c : Dev nD) (t : Fin cfg0.N) (r : Fin 512) (k : Fin 1024) :
    iblk m c 3 t (ix2 r k) = m ((c : Thread nD τ).loc main_arg2) (ix2 ⟨512 * t.val + r.val, row_lt t r⟩ k) := by
  have e := (index_rows t).2.2
  blk_ext! [iblk, V, e]
theorem blk7_at (c : Dev nD) (t : Fin cfg0.N) (k : Fin 3) (j : Fin 5632) :
    iblk m c 7 t (ix3 0 k j) = m ((c : Thread nD τ).loc main_arg6) (ix3 1 k j) := by
  have e := (index_weights t).2.2.1
  blk_ext! [iblk, V, e]
theorem blk2_at (c : Dev nD) (t : Fin cfg0.N) (k j : Fin 1024) : iblk m c 2 t (ix3 0 k j) = V m c main_v0 (ix3 1 k j) := by
  have e := (index_weights t).1
  blk_ext! [iblk, e]
theorem blk6_at (c : Dev nD) (t : Fin cfg0.N) (k : Fin 1024) (j : Fin 5632) : iblk m c 6 t (ix3 0 k j) = V m c main_v1 (ix3 1 k j) := by
  have e := (index_weights t).2.1
  blk_ext! [iblk, e]
theorem blk8_at (c : Dev nD) (t : Fin cfg0.N) (j : Fin 5632) : iblk m c 8 t (ix3 0 0 j) = V m c main_v3 (ix3 1 0 j) := by
  have e := (index_weights t).2.2.2.1
  blk_ext! [iblk, e]
theorem blk9_at (c : Dev nD) (t : Fin cfg0.N) (k : Fin 2816) (j : Fin 1024) : iblk m c 9 t (ix3 0 k j) = V m c main_v2 (ix3 1 k j) := by
  have e := (index_weights t).2.2.2.2
  blk_ext! [iblk, e]
theorem blk4_at (c : Dev nD) (t : Fin cfg0.N) (k : Fin 1024) : iblk m c 4 t (ix2 0 k) = V m c main_v8 (ix2 0 k) := by
  have e := (index_gains t).1
  blk_ext! [iblk, e]
theorem blk5_at (c : Dev nD) (t : Fin cfg0.N) (k : Fin 1024) : iblk m c 5 t (ix2 0 k) = V m c main_v11 (ix2 0 k) := by
  have e := (index_gains t).2.1
  blk_ext! [iblk, e]
theorem blk10_at (c : Dev nD) (t : Fin cfg0.N) (k : Fin 1024) : iblk m c 10 t (ix2 0 k) = V m c main_v14 (ix2 0 k) := by
  have e := (index_gains t).2.2
  blk_ext! [iblk, e]

theorem entry_v0 (c : Dev nD) (k j : Fin 1024) : (V m c main_v0 : Vec Ideal S2x1024x1024 .bf16) (ix3 1 k j) = m ((c : Thread nD τ).loc main_arg4) (ix3 1 k j) := by
  simp only [V, hostOps0]
  entry_read
  pointwise
theorem entry_v1 (c : Dev nD) (k : Fin 1024) (j : Fin 5632) :
    (V m c main_v1 : Vec Ideal S2x1024x5632 .bf16) (ix3 1 k j) = m ((c : Thread nD τ).loc main_arg5) (ix3 1 k j) := by
  simp only [V, hostOps0]
  entry_read
  pointwise
theorem entry_v2 (c : Dev nD) (k : Fin 2816) (j : Fin 1024) :
    (V m c main_v2 : Vec Ideal S2x2816x1024 .bf16) (ix3 1 k j) = m ((c : Thread nD τ).loc main_arg8) (ix3 1 k j) := by
  simp only [V, hostOps0]
  entry_read
  pointwise
theorem entry_v3 (c : Dev nD) (j : Fin 5632) : (V m c main_v3 : Vec Ideal S2x1x5632 .f32) (ix3 1 0 j) = m ((c : Thread nD τ).loc main_arg7) (ix2 1 j) := by
  simp only [V, hostOps0]
  entry_read
  pointwise
theorem entry_v8 (c : Dev nD) (k : Fin 1024) : (V m c main_v8 : Vec Ideal S1x1024 .f32) (ix2 0 k) = m ((c : Thread nD τ).loc main_arg3) (ix3 1 1 k) := by
  simp only [V, hostOps0]
  entry_read
  pointwise
theorem entry_v11 (c : Dev nD) (k : Fin 1024) : (V m c main_v11 : Vec Ideal S1x1024 .f32) (ix2 0 k) = m ((c : Thread nD τ).loc main_arg3) (ix3 1 2 k) := by
  simp only [V, hostOps0]
  entry_read
  pointwise
theorem entry_v14 (c : Dev nD) (k : Fin 1024) : (V m c main_v14 : Vec Ideal S1x1024 .f32) (ix2 0 k) = m ((c : Thread nD τ).loc main_arg3) (ix3 1 3 k) := by
  simp only [V, hostOps0]
  entry_read
  pointwise

/-- A point's blocks hold the arguments' rows and the second layer's weights. -/
theorem holds (c : Dev nD) (t : Fin cfg0.N) :
    Holds (args m c) t.val (iblk m c 0 t) (iblk m c 1 t) (iblk m c 2 t) (iblk m c 3 t) (iblk m c 4 t) (iblk m c 5 t) (iblk m c 6 t) (iblk m c 7 t)
      (iblk m c 8 t) (iblk m c 9 t) (iblk m c 10 t) where
  h0 r k := (blk0_at m c t r k).trans (mat_at (fun r k => m ((c : Thread nD τ).loc main_arg0) (ix2 r k)) _ k.val (row_lt t r) k.isLt).symm
  h1 r k := (blk1_at m c t r k).trans (mat_at (fun r k => m ((c : Thread nD τ).loc main_arg1) (ix2 r k)) _ k.val (row_lt t r) k.isLt).symm
  h2 k j := ((blk2_at m c t k j).trans (entry_v0 m c k j)).trans (mat_at (fun k j => m ((c : Thread nD τ).loc main_arg4) (ix3 1 k j)) k.val j.val k.isLt j.isLt).symm
  h3 r k := (blk3_at m c t r k).trans (mat_at (fun r k => m ((c : Thread nD τ).loc main_arg2) (ix2 r k)) _ k.val (row_lt t r) k.isLt).symm
  h4 k := ((blk4_at m c t k).trans (entry_v8 m c k)).trans (vec_at (fun k => m ((c : Thread nD τ).loc main_arg3) (ix3 1 1 k)) k.val k.isLt).symm
  h5 k := ((blk5_at m c t k).trans (entry_v11 m c k)).trans (vec_at (fun k => m ((c : Thread nD τ).loc main_arg3) (ix3 1 2 k)) k.val k.isLt).symm
  h6 k j := ((blk6_at m c t k j).trans (entry_v1 m c k j)).trans (mat_at (fun k j => m ((c : Thread nD τ).loc main_arg5) (ix3 1 k j)) k.val j.val k.isLt j.isLt).symm
  h7 k j := (blk7_at m c t k j).trans (mat_at (fun k j => m ((c : Thread nD τ).loc main_arg6) (ix3 1 k j)) k.val j.val k.isLt j.isLt).symm
  h8 j := ((blk8_at m c t j).trans (entry_v3 m c j)).trans (vec_at (fun j => m ((c : Thread nD τ).loc main_arg7) (ix2 1 j)) j.val j.isLt).symm
  h9 k j := ((blk9_at m c t k j).trans (entry_v2 m c k j)).trans (mat_at (fun k j => m ((c : Thread nD τ).loc main_arg8) (ix3 1 k j)) k.val j.val k.isLt j.isLt).symm
  h10 k := ((blk10_at m c t k).trans (entry_v14 m c k)).trans (vec_at (fun k => m ((c : Thread nD τ).loc main_arg3) (ix3 1 3 k)) k.val k.isLt).symm

/-! ## All points -/

theorem zero_carries (I : Args) (t : Nat) (ht : t % 4 = 0) : Carries I t (k0_pay2 (F := Ideal)) := fun a j => by
  rw [if_pos ht]
  unfold_payloads
  pointwise

/-- What a point leaves: the model's output rows, and the last rows of its up product. -/
theorem outsAt_at (c : Dev nD) : ∀ (n : Nat) (hn : n < cfg0.N),
    (∀ (r : Fin 512) (k : Fin 1024), ((outsAt0 m c n hn).1 (ix2 r k) : EReal) = Cert.FfnModel.out (args m c) (512 * n + r) k)
    ∧ (∀ (a : Fin 8) (j : Fin 5632), ((outsAt0 m c n hn).2 (ix2 a j) : EReal) = Cert.FfnModel.u (args m c) (512 * n + (504 + a)) j) := by
  have hA : ∀ (t : Fin cfg0.N), t.val % 4 = 0 →
      (∀ (r : Fin 512) (k : Fin 1024), ((outsAt0 m c t.val t.isLt).1 (ix2 r k) : EReal) = Cert.FfnModel.out (args m c) (512 * t.val + r) k)
      ∧ (∀ (a : Fin 8) (j : Fin 5632), ((outsAt0 m c t.val t.isLt).2 (ix2 a j) : EReal) = Cert.FfnModel.u (args m c) (512 * t.val + (504 + a)) j) :=
      fun t h0 => by
    have hz := zero_carries (args m c) t.val h0
    rw [outsAt0_A m c t h0]
    refine ⟨fun r k => ?_, fun a j => ?_⟩
    · dsimp only
      unfold out0_A_11
      rw [View.read_writes_junk_eq_canon, result_A]
      exact point_out (holds m c t) hz r k
    · dsimp only
      unfold sout0_A_0
      rw [View.read_writes_junk_eq_canon, carried_A]
      exact point_carry (holds m c t) _ a j
  intro n
  induction n with
  | zero => exact fun hn => hA ⟨0, hn⟩ rfl
  | succ n ih =>
    intro hn
    by_cases h0 : (n + 1) % 4 = 0
    · exact hA ⟨n + 1, hn⟩ h0
    · have hl : Carries (args m c) (n + 1) (outsAt0 m c n (Nat.lt_of_succ_lt hn)).2 := fun a j => by
        rw [if_neg h0, (ih (Nat.lt_of_succ_lt hn)).2]
        exact congrArg (fun n => Cert.FfnModel.u (args m c) n _) (by omega)
      rw [outsAt0_B m c ⟨n + 1, hn⟩ h0]
      refine ⟨fun r k => ?_, fun a j => ?_⟩
      · dsimp only
        unfold out0_B_11
        rw [View.read_writes_junk_eq_canon, result_B]
        exact point_out (holds m c ⟨n + 1, hn⟩) hl r k
      · dsimp only
        unfold sout0_B_0
        rw [View.read_writes_junk_eq_canon, carried_B, ← List.append_nil (lstS _)]
        exact point_carry (holds m c ⟨n + 1, hn⟩) _ a j

/-- The output array at a row and column. -/
theorem array_at (c : Dev nD) (r : Fin 32768) (k : Fin 1024) :
    (Cert.Kernel2Ideal.Value.G11 m c (ix2 r k) : EReal) = Cert.FfnModel.out (args m c) r k := by
  have hN : cfg0.N = 64 := N_0
  have hp : Cert.Kernel2Ideal.Value.pt11Of (ix2 r k) = r.val / 512 := by
    show 1 * (r.val / 512 - 0) + 1 * (k.val / 1024 - 0) = _
    omega
  have hlt : Cert.Kernel2Ideal.Value.pt11Of (ix2 r k) < cfg0.N := by rw [hp, hN]; omega
  have hl : Cert.Kernel2Ideal.Value.loc11Of (ix2 r k) = ix2 ⟨r.val % 512, Nat.mod_lt _ (by decide)⟩ k := by
    funext a; apply Fin.ext
    match a with
    | ⟨0, _⟩ => rfl
    | ⟨1, _⟩ => show k.val % 1024 = k.val; omega
  unfold Cert.Kernel2Ideal.Value.G11
  rw [dif_pos hlt, ← Cert.Kernel2Ideal.Value.outsAt0_sweep m c _ hlt, hl, (outsAt_at m c _ hlt).1, hp]
  dsimp only
  rw [Nat.div_add_mod]

end Cert.Kernel2Ideal.Ffn

end
-- ==== Proof.FfnRef.lean ====
/- The reference of the mixer output and the feed-forward half, entry by entry: its arrays are the model's terms, where what the gate is fed is
   finite. -/
module

public import proofs.«01_k».proof.Proof.FfnModel
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Reference2Ideal.Ffn

open Cert.Reference2Ideal Cert.Reference2Ideal.Read Cert.Reference2Ideal.Gen Idealize.ShloMosaic Idealize.ShloMosaic.TcCoe Idealize.SL.Sem
open Cert.FfnModel (Args)

/-- A sum in two parts. -/
theorem sum_two (n k N : Nat) (h : N = n + k) (f : Fin N → EReal) (g : Nat → EReal) (hf : ∀ i, f i = g i) :
    ∑ i, f i = ∑ i : Fin n, g i + ∑ i : Fin k, g (n + i) := by
  subst h
  rw [Fin.sum_univ_add]
  simp only [hf, Fin.val_castAdd, Fin.val_natAdd]

/-- The arrays hold the arguments. -/
structure Holds (I : Args) (x0 x1 : Vec Ideal S32768x512 .bf16) (x2 : Vec Ideal S32768x1024 .f32) (x3 : Vec Ideal S2x4x1024 .f32)
    (x4 : Vec Ideal S2x1024x1024 .f32) (x5 : Vec Ideal S2x1024x5632 .f32) (x6 : Vec Ideal S2x3x5632 .f32) (x7 : Vec Ideal S2x5632 .f32)
    (x8 : Vec Ideal S2x2816x1024 .f32) : Prop where
  h0 : ∀ (r : Fin 32768) (k : Fin 512), (x0 (ix2 r k) : EReal) = I.Ma r k
  h1 : ∀ (r : Fin 32768) (k : Fin 512), (x1 (ix2 r k) : EReal) = I.Mb r k
  h2 : ∀ (r : Fin 32768) (c : Fin 1024), (x2 (ix2 r c) : EReal) = I.X r c
  g1 : ∀ c : Fin 1024, (x3 (ix3 1 1 c) : EReal) = I.G1 c
  g2 : ∀ c : Fin 1024, (x3 (ix3 1 2 c) : EReal) = I.G2 c
  g3 : ∀ c : Fin 1024, (x3 (ix3 1 3 c) : EReal) = I.G3 c
  h4 : ∀ k c : Fin 1024, (x4 (ix3 1 k c) : EReal) = I.Wo k c
  h5 : ∀ (k : Fin 1024) (j : Fin 5632), (x5 (ix3 1 k j) : EReal) = I.Wu k j
  h6 : ∀ (k : Fin 3) (j : Fin 5632), (x6 (ix3 1 k j) : EReal) = I.Cw k j
  h7 : ∀ j : Fin 5632, (x7 (ix2 1 j) : EReal) = I.Cb j
  h8 : ∀ (k : Fin 2816) (c : Fin 1024), (x8 (ix3 1 k c) : EReal) = I.Wd k c

variable {I : Args} {x0 x1 : Vec Ideal S32768x512 .bf16} {x2 : Vec Ideal S32768x1024 .f32} {x3 : Vec Ideal S2x4x1024 .f32}
  {x4 : Vec Ideal S2x1024x1024 .f32} {x5 : Vec Ideal S2x1024x5632 .f32} {x6 : Vec Ideal S2x3x5632 .f32} {x7 : Vec Ideal S2x5632 .f32}
  {x8 : Vec Ideal S2x2816x1024 .f32}

/-- A row normed by its mean square, as the reference writes it. -/
theorem norm_at (M : FVec Ideal S16x2048x1024 .f32) (g : FVec Ideal S1024 .f32) (f G : Nat → EReal) (b : Fin 16) (t : Fin 2048) (c : Fin 1024)
    (hM : ∀ k : Fin 1024, (M (ix3 b t k) : EReal) = f k) (hg : ∀ k : Fin 1024, (g (ix1 k) : EReal) = G k) :
    mulf (mulf M (broadcastInDim S16x2048x1024 ![0, 1, 2] bcast_S16x2048x1_S16x2048x1024_0_1_2 (Host.rsqrt (addf (Host.divf
      (broadcastInDim S16x2048x1 ![0, 1] bcast_S16x2048_S16x2048x1_0_1
        (Host.reduceAdd (mulf M M) (constant S_ .f32 0x00000000#32) reducesTo_S16x2048x1024_S16x2048_d2 h_S_))
      (broadcastInDim S16x2048x1 ![] bcast_S_S16x2048x1 (constant S_ FTy.f32 0x44800000#32)))
      (broadcastInDim S16x2048x1 ![] bcast_S_S16x2048x1 (constant S_ FTy.f32 0x358637BD#32))))))
      (broadcastInDim S16x2048x1024 ![0, 1, 2] bcast_S1x1x1024_S16x2048x1024_0_1_2 (broadcastInDim S1x1x1024 ![2] bcast_S1024_S1x1x1024_2 g)) (ix3 b t c)
      = Cert.FfnModel.rms f G c := by
  pointwise
  simp only [hM, hg]
  rfl

theorem v11_at (hI : Holds I x0 x1 x2 x3 x4 x5 x6 x7 x8) (c : Fin 1024) : val_main_v11 (F := Ideal) x3 (ix1 c) = I.G1 c := by
  unfold val_main_v11 val_main_v10 val_main_v1 val_main_v0
  pointwise
  exact hI.g1 c
theorem v27_at (hI : Holds I x0 x1 x2 x3 x4 x5 x6 x7 x8) (c : Fin 1024) : val_main_v27 (F := Ideal) x3 (ix1 c) = I.G2 c := by
  unfold val_main_v27 val_main_v26 val_main_v1 val_main_v0
  pointwise
  exact hI.g2 c
theorem v80_at (hI : Holds I x0 x1 x2 x3 x4 x5 x6 x7 x8) (c : Fin 1024) : val_main_v80 (F := Ideal) x3 (ix1 c) = I.G3 c := by
  unfold val_main_v80 val_main_v79 val_main_v1 val_main_v0
  pointwise
  exact hI.g3 c

theorem v8_at (hI : Holds I x0 x1 x2 x3 x4 x5 x6 x7 x8) (b : Fin 16) (t : Fin 2048) (c : Fin 1024) :
    val_main_v8 (F := Ideal) x0 x1 x4 (ix3 b t c) = Cert.FfnModel.mix I (2048 * b + t) c := by
  unfold val_main_v8 val_main_v7 val_main_v6 val_main_v5 val_main_v4 val_main_v3 val_main_v2
  pointwise
  have er : b.val * 2048 + t.val = 2048 * b.val + t.val := by omega
  simp only [hI.h0, hI.h1, hI.h4, er]
  rfl

theorem v9_at (hI : Holds I x0 x1 x2 x3 x4 x5 x6 x7 x8) (b : Fin 16) (t : Fin 2048) (c : Fin 1024) :
    val_main_v9 (F := Ideal) x2 (ix3 b t c) = I.X (2048 * b + t) c := by
  unfold val_main_v9
  pointwise
  have er : b.val * 2048 + t.val = 2048 * b.val + t.val := by omega
  simp only [hI.h2, er]

theorem v25_at (hI : Holds I x0 x1 x2 x3 x4 x5 x6 x7 x8) (b : Fin 16) (t : Fin 2048) (c : Fin 1024) :
    val_main_v25 (F := Ideal) x0 x1 x2 x3 x4 (ix3 b t c) = Cert.FfnModel.res I (2048 * b + t) c :=
  congrArg₂ (fun x y : EReal => x + y) (v9_at hI b t c)
    (norm_at (val_main_v8 (F := Ideal) x0 x1 x4) (val_main_v11 (F := Ideal) x3) _ I.G1 b t c (v8_at hI b t) (v11_at hI))

theorem v40_at (hI : Holds I x0 x1 x2 x3 x4 x5 x6 x7 x8) (b : Fin 16) (t : Fin 2048) (c : Fin 1024) :
    val_main_v40 (F := Ideal) x0 x1 x2 x3 x4 (ix3 b t c) = Cert.FfnModel.hn I (2048 * b + t) c :=
  norm_at (val_main_v25 (F := Ideal) x0 x1 x2 x3 x4) (val_main_v27 (F := Ideal) x3) _ I.G2 b t c (v25_at hI b t) (v27_at hI)

theorem v49_at (hI : Holds I x0 x1 x2 x3 x4 x5 x6 x7 x8) (b : Fin 16) (t : Fin 2048) (j : Fin 5632) :
    val_main_v49 (F := Ideal) x0 x1 x2 x3 x4 x5 (ix3 b t j) = Cert.FfnModel.u I (2048 * b + t) j := by
  have e := v40_at hI b t
  unfold val_main_v49 val_main_v42 val_main_v41
  generalize val_main_v40 (F := Ideal) x0 x1 x2 x3 x4 = M at e ⊢
  pointwise
  simp only [e, hI.h5]
  rfl

theorem v50_at (hI : Holds I x0 x1 x2 x3 x4 x5 x6 x7 x8) (b : Fin 16) (t : Fin 2050) (j : Fin 5632) :
    val_main_v50 (F := Ideal) x0 x1 x2 x3 x4 x5 (ix3 b t j) = if t.val < 2 then 0 else Cert.FfnModel.u I (2048 * b + t - 2) j := by
  have e := v49_at hI b
  unfold val_main_v50 val_main_call0_v0 val_main_c
  generalize val_main_v49 (F := Ideal) x0 x1 x2 x3 x4 x5 = M at e ⊢
  pointwise
  have ht := t.isLt
  by_cases h : t.val < 2
  · rw [dif_neg (by omega), if_pos h]
    show (((0#32 : BitVec 32).toInt : ℝ) : EReal) = 0
    simp
  · rw [dif_pos ⟨by omega, by omega⟩, if_neg h, e]
    exact congrArg (fun n => Cert.FfnModel.u I n _) (by show 2048 * b.val + (t.val - 2) = _; omega)

theorem v73_at (hI : Holds I x0 x1 x2 x3 x4 x5 x6 x7 x8) (b : Fin 16) (t : Fin 2048) (j : Fin 5632) :
    val_main_v73 (F := Ideal) x0 x1 x2 x3 x4 x5 x6 x7 (ix3 b t j) = Cert.FfnModel.conv I (2048 * b + t) j := by
  have e := v50_at hI b
  unfold val_main_v73 val_main_v72 val_main_v71 val_main_v70 val_main_v69 val_main_v68 val_main_v67 val_main_v66 val_main_v65 val_main_v64
    val_main_v63 val_main_v62 val_main_v61 val_main_v60 val_main_v59 val_main_v58 val_main_v57 val_main_v56 val_main_v55 val_main_v54 val_main_v53
    val_main_v52 val_main_v51 val_main_v46 val_main_v45 val_main_v44 val_main_v43
  generalize val_main_v50 (F := Ideal) x0 x1 x2 x3 x4 x5 = M at e ⊢
  pointwise
  simp only [e, hI.h6, hI.h7]
  have hb : ∀ o k : Nat, o + k = 2 → (if o + t.val < 2 then (0 : EReal) else Cert.FfnModel.u I (2048 * b.val + (o + t.val) - 2) j)
      = Cert.FfnModel.back I (2048 * b.val + t.val) k j := fun o k hk => by
    have ht := t.isLt
    unfold Cert.FfnModel.back
    by_cases h : o + t.val < 2
    · rw [if_pos h, if_pos (by omega)]
    · rw [if_neg h, if_neg (by omega)]
      exact congrArg (fun n => Cert.FfnModel.u I n _) (by omega)
  have h0 := hb 0 2 rfl
  have h1 := hb 1 1 rfl
  have h2 := hb 2 0 rfl
  rw [Nat.zero_add] at h0
  have h3 : Cert.FfnModel.back I (2048 * b.val + t.val) 0 j = Cert.FfnModel.u I (2048 * b.val + t.val) j := by
    unfold Cert.FfnModel.back
    rw [if_neg (Nat.not_lt_zero _), Nat.sub_zero]
  rw [h0, h1, h2, h3]
  rfl

theorem v77_at (hI : Holds I x0 x1 x2 x3 x4 x5 x6 x7 x8) (hf : Cert.FfnModel.FinGate I) (b : Fin 16) (t : Fin 2048) (j : Fin 2816) :
    val_main_v77 (F := Ideal) x0 x1 x2 x3 x4 x5 x6 x7 (ix3 b t j) = Cert.FfnModel.act I (2048 * b + t) j := by
  have e := v73_at hI b t
  unfold val_main_v77 val_main_v76 val_main_v75 val_main_v74 val_main_call1_v5 val_main_call1_v4 val_main_call1_v3 val_main_call1_v2
    val_main_call1_v1 val_main_call1_v0 val_main_call1_cst val_main_call1_cst_0 val_main_v74
  generalize val_main_v73 (F := Ideal) x0 x1 x2 x3 x4 x5 x6 x7 = M at e ⊢
  pointwise
  simp only [e]
  rw [Cert.FfnModel.act_eq I hf _ _ j.isLt, Nat.add_comm j.val 2816]
  rfl

theorem v78_at (hI : Holds I x0 x1 x2 x3 x4 x5 x6 x7 x8) (hf : Cert.FfnModel.FinGate I) (b : Fin 16) (t : Fin 2048) (c : Fin 1024) :
    val_main_v78 (F := Ideal) x0 x1 x2 x3 x4 x5 x6 x7 x8 (ix3 b t c) = Cert.FfnModel.down I (2048 * b + t) c := by
  have e := v77_at hI hf b t
  unfold val_main_v78 val_main_v48 val_main_v47
  generalize val_main_v77 (F := Ideal) x0 x1 x2 x3 x4 x5 x6 x7 = M at e ⊢
  pointwise
  simp only [e, hI.h8]
  exact sum_two 1536 1280 2816 rfl _ (fun k => Cert.FfnModel.act I (2048 * b + t) k * I.Wd k c) fun _ => rfl

/-- The reference's result at a row and column. -/
theorem v95_at (hI : Holds I x0 x1 x2 x3 x4 x5 x6 x7 x8) (hf : Cert.FfnModel.FinGate I) (r : Fin 32768) (c : Fin 1024) :
    val_main_v95 (F := Ideal) x0 x1 x2 x3 x4 x5 x6 x7 x8 (ix2 r c) = Cert.FfnModel.out I r c := by
  have er : 2048 * (r.val / 2048) + r.val % 2048 = r.val := Nat.div_add_mod _ _
  have e : val_main_v94 (F := Ideal) x0 x1 x2 x3 x4 x5 x6 x7 x8 (ix3 ⟨r.val / 2048, by omega⟩ ⟨r.val % 2048, by omega⟩ c) = Cert.FfnModel.out I r c := by
    refine (congrArg₂ (fun x y : EReal => x + y) (v25_at hI ⟨r.val / 2048, by omega⟩ ⟨r.val % 2048, by omega⟩ c)
      (norm_at (val_main_v78 (F := Ideal) x0 x1 x2 x3 x4 x5 x6 x7 x8) (val_main_v80 (F := Ideal) x3) _ I.G3 ⟨r.val / 2048, by omega⟩
        ⟨r.val % 2048, by omega⟩ c (v78_at hI hf ⟨r.val / 2048, by omega⟩ ⟨r.val % 2048, by omega⟩) (v80_at hI))).trans ?_
    simp only [er]
    rfl
  rw [← e]
  unfold val_main_v95
  generalize val_main_v94 (F := Ideal) x0 x1 x2 x3 x4 x5 x6 x7 x8 = M
  pointwise

end Cert.Reference2Ideal.Ffn

end
-- ==== Proof.FfnPre.lean ====
/- The precondition read: where it holds, the weights the gate is fed from are finite. -/
module

public import proofs.«01_k».proof.Proof.FfnRef
public import proofs.«01_k».proof.Proof.Gen.Pre_finite_gate_weights
public import Idealize.ShloMosaic.Lib.Pointwise

@[expose] public section

set_option maxRecDepth 16384

noncomputable section

namespace Cert.Pre_finite_gate_weights.Ffn

open Cert.Pre_finite_gate_weights Idealize.ShloMosaic Idealize.ShloMosaic.TcCoe Idealize.SL.Sem
open Cert.FfnModel (Args IsReal FinGate)
open Cert.Reference2Ideal.Ffn (Holds)

theorem inf_lit : (Ideal.ofBits .f32 2139095040#32 : EReal) = ⊤ := by
  first | rfl | simp [Ideal.ofBits, Ideal.ieee]

/-- A comparison of a magnitude with infinity that answers one. -/
theorem real_of_cmp (x : EReal) (h : Ideal.cmp .olt (FloatOps.absf (F := Ideal) (φ := .f32) x) (Ideal.ofBits .f32 2139095040#32) = 1#1) :
    IsReal x := by
  rw [inf_lit] at h
  refine Cert.FfnModel.real_of_abs ?_
  by_contra hn
  simp [Ideal.cmp, hn] at h

variable (x0 : FVec Ideal S32768x512 .bf16) (x1 : FVec Ideal S32768x512 .bf16) (x2 : FVec Ideal S32768x1024 .f32)
  (x3 : FVec Ideal S2x4x1024 .f32) (x4 : FVec Ideal S2x1024x1024 .f32) (x5 : FVec Ideal S2x1024x5632 .f32)
  (x6 : FVec Ideal S2x3x5632 .f32) (x7 : FVec Ideal S2x5632 .f32) (x8 : FVec Ideal S2x2816x1024 .f32)

theorem norm_real (h : (fn (F := Ideal) x0 x1 x2 x3 x4 x5 x6 x7 x8).1 = fun _ => 1#1) (k : Fin 1024) : IsReal (x3 (ix3 1 2 k)) := by
  have e := congrFun h (ix1 k)
  unfold fn at e
  dsimp only at e
  pointwise at e
  exact real_of_cmp _ e

theorem up_real (h : (fn (F := Ideal) x0 x1 x2 x3 x4 x5 x6 x7 x8).2.1 = fun _ => 1#1) (k : Fin 1024) (j : Fin 2816) : IsReal (x5 (ix3 1 k ⟨j.val, by omega⟩)) := by
  have e := congrFun h (ix2 k j)
  unfold fn at e
  dsimp only at e
  pointwise at e
  exact real_of_cmp _ e

theorem conv_real (h : (fn (F := Ideal) x0 x1 x2 x3 x4 x5 x6 x7 x8).2.2.1 = fun _ => 1#1) (k : Fin 3) (j : Fin 2816) : IsReal (x6 (ix3 1 k ⟨j.val, by omega⟩)) := by
  have e := congrFun h (ix2 k j)
  unfold fn at e
  dsimp only at e
  pointwise at e
  exact real_of_cmp _ e

theorem bias_real (h : (fn (F := Ideal) x0 x1 x2 x3 x4 x5 x6 x7 x8).2.2.2 = fun _ => 1#1) (j : Fin 2816) : IsReal (x7 (ix2 1 ⟨j.val, by omega⟩)) := by
  have e := congrFun h (ix1 j)
  unfold fn at e
  dsimp only at e
  pointwise at e
  exact real_of_cmp _ e

/-- What the precondition says of the arrays a call is given. -/
theorem finGate {I : Args} (hI : Holds I x0 x1 x2 x3 x4 x5 x6 x7 x8)
    (h : (fn (F := Ideal) x0 x1 x2 x3 x4 x5 x6 x7 x8).1 = (fun _ => 1#1) ∧ (fn (F := Ideal) x0 x1 x2 x3 x4 x5 x6 x7 x8).2.1 = (fun _ => 1#1)
      ∧ (fn (F := Ideal) x0 x1 x2 x3 x4 x5 x6 x7 x8).2.2.1 = (fun _ => 1#1) ∧ (fn (F := Ideal) x0 x1 x2 x3 x4 x5 x6 x7 x8).2.2.2 = (fun _ => 1#1)) :
    FinGate I := by
  refine ⟨fun c hc => ?_, fun k hk j hj => ?_, fun k hk j hj => ?_, fun j hj => ?_⟩
  · exact (hI.g2 ⟨c, hc⟩) ▸ norm_real x0 x1 x2 x3 x4 x5 x6 x7 x8 h.1 ⟨c, hc⟩
  · exact (hI.h5 ⟨k, hk⟩ ⟨j, by omega⟩) ▸ up_real x0 x1 x2 x3 x4 x5 x6 x7 x8 h.2.1 ⟨k, hk⟩ ⟨j, hj⟩
  · exact (hI.h6 ⟨k, hk⟩ ⟨j, by omega⟩) ▸ conv_real x0 x1 x2 x3 x4 x5 x6 x7 x8 h.2.2.1 ⟨k, hk⟩ ⟨j, hj⟩
  · exact (hI.h7 ⟨j, by omega⟩) ▸ bias_real x0 x1 x2 x3 x4 x5 x6 x7 x8 h.2.2.2 ⟨j, hj⟩

end Cert.Pre_finite_gate_weights.Ffn

end
-- ==== Proof.OddStages.lean ====
/- The stages of one 512-row tile of the second layer's input projection, as functions of the vectors they read, at any chunk of 512 columns. The body
   writes them out once per chunk; `OddPieces.lean` shows that what it stores are these functions, and `OddStageVals.lean` reads each at an index. -/
module

public import proofs.«01_k».proof.Proof.Gen.Kernel3Ideal.Skeleton
public import Idealize.ShloMosaic.Lib.Pipeline.ValueKit

@[expose] public section

set_option maxRecDepth 16384

noncomputable section

namespace Cert.Kernel3Ideal.Odd

open Cert.Kernel3Ideal Cert.Kernel3Ideal.Gen Idealize.ShloMosaic Idealize.ShloMosaic.TcCoe Idealize.SL.Sem

variable {F : FTy → Type} [FloatOps F]

/-! ## The slices, at any chunk -/

theorem inW : ∀ c : Fin 7, ∀ a, (![0, 512 * c.val] : Fin 2 → Nat) a + S1024x512.size a ≤ S1024x3712.size a := by decide
theorem inC : ∀ (k : Fin 4) (c : Fin 2), ∀ a, (![k.val, 512 * c.val] : Fin 2 → Nat) a + S1x512.size a ≤ S4x1024.size a := by decide
theorem inB : ∀ c : Fin 2, ∀ a, (![0, 512 * c.val] : Fin 2 → Nat) a + S1x512.size a ≤ S1x1024.size a := by decide
theorem inS : ∀ c : Fin 2, ∀ a, (![0, 512 * c.val] : Fin 2 → Nat) a + S8x512.size a ≤ S8x1024.size a := by decide

/-- The projection weights, the taps, the bias and the carried rows, at a chunk's columns; the small weights. -/
def wC (x2 : Vec F S1024x3712 .bf16) (c : Fin 7) : Vec F S1024x512 .bf16 := View.ld x2 (Rect.unit (s := S1024x3712) ![0, 512 * c.val] S1024x512.size (inW c))
def tapC (x4 : Vec F S4x1024 .f32) (k : Fin 4) (c : Fin 2) : Vec F S1x512 .f32 :=
  View.ld x4 (Rect.unit (s := S4x1024) ![k.val, 512 * c.val] S1x512.size (inC k c))
def biasC (x5 : Vec F S1x1024 .f32) (c : Fin 2) : Vec F S1x512 .f32 := View.ld x5 (Rect.unit (s := S1x1024) ![0, 512 * c.val] S1x512.size (inB c))
def carryC (xs : Vec F S8x1024 .f32) (c : Fin 2) : Vec F S8x512 .f32 := View.ld xs (Rect.unit (s := S8x1024) ![0, 512 * c.val] S8x512.size (inS c))
def wS (x2 : Vec F S1024x3712 .bf16) : Vec F S1024x128 .bf16 :=
  View.ld x2 (Rect.unit (s := S1024x3712) ![0, 3584] S1024x128.size inb_S1024x3712_S1024x128_0_3584)

/-! ## The stages -/

/-- The lower bound of the decay; a chunk of products; the rows carried to the next tile; the convolved columns; the gate. -/
def lowV (x3 : Vec F S2x512 .f32) : FVec F S1x512 .f32 := k0_pay9 (k0_pay8 x3)
def prodB (hn : FVec F S512x1024 .bf16) (x2 : Vec F S1024x3712 .bf16) (c : Fin 7) : FVec F S512x512 .f32 := k0_pay10 hn (wC x2 c)
def tailB (hn : FVec F S512x1024 .bf16) (x2 : Vec F S1024x3712 .bf16) (c : Fin 2) : FVec F S8x512 .f32 := k0_pay14 hn (wC x2 (c.castLE (by decide)))
def convB (hn : FVec F S512x1024 .bf16) (x2 : Vec F S1024x3712 .bf16) (x4 : Vec F S4x1024 .f32) (x5 : Vec F S1x1024 .f32) (xs : Vec F S8x1024 .f32)
    (c : Fin 2) : FVec F S512x512 .f32 :=
  addf (addf (k0_pay15 hn (wC x2 (c.castLE (by decide))) (carryC xs c) (tapC x4 0 c) (tapC x4 1 c) (tapC x4 2 c))
      (k0_pay16 hn (wC x2 (c.castLE (by decide))) (carryC xs c) (tapC x4 3 c)))
    (broadcastTo S512x512 (shapeCast S1x512 (biasC x5 c) shapeCasts_S1x512_S1x512) broadcasts_S1x512_S512x512)
def sigB (hn : FVec F S512x1024 .bf16) (x2 : Vec F S1024x3712 .bf16) : FVec F S512x512 .f32 := k0_pay28 (prodB hn x2 3)

/-! ## The stores -/

/-- A store of a chunk's carried rows; the stores of a point, the last made first. -/
def pcS (T : Fin 2 → FVec F S8x512 .f32) (c : Fin 2) : View.Piece (Elt F) S8x1024 .f32 :=
  ⟨Rect.unit (s := S8x1024) ![0, 512 * c.val] S8x512.size (inS c), T c⟩
def lstS (T : Fin 2 → FVec F S8x512 .f32) : List (View.Piece (Elt F) S8x1024 .f32) := [pcS T 1, pcS T 0]

/-- A store of 512 columns of the packed rows from column `o`; the stores of a point, the last made first. -/
def pcO (o : Nat) (h : ∀ a, (![0, o] : Fin 2 → Nat) a + S512x512.size a ≤ S512x4224.size a) (v : FVec F S512x512 .f32) : View.Piece (Elt F) S512x4224 .f32 :=
  ⟨Rect.unit (s := S512x4224) ![0, o] S512x512.size h, v⟩
def pcL (v : FVec F S512x128 .f32) : View.Piece (Elt F) S512x4224 .f32 :=
  ⟨Rect.unit (s := S512x4224) ![0, 4096] S512x128.size inb_S512x4224_S512x128_0_4096, v⟩
def lstO (hn : FVec F S512x1024 .bf16) (x2 : Vec F S1024x3712 .bf16) (x3 : Vec F S2x512 .f32) (x4 : Vec F S4x1024 .f32) (x5 : Vec F S1x1024 .f32)
    (xs : Vec F S8x1024 .f32) : List (View.Piece (Elt F) S512x4224 .f32) :=
  [pcL (k0_pay3 hn (wS x2)), pcO 3584 (by decide) (k0_pay26 (prodB hn x2 6)), pcO 3072 (by decide) (k0_pay26 (prodB hn x2 5)),
    pcO 2048 (by decide) (k0_pay2 (lowV x3) (sigB hn x2)), pcO 1536 (by decide) (k0_pay1 (lowV x3) (sigB hn x2) (Scalar.ofBits .f32 0x3F800000#32)),
    pcO 1024 (by decide) (k0_pay26 (prodB hn x2 2)), pcO 512 (by decide) (k0_pay26 (convB hn x2 x4 x5 xs 1)), pcO 2560 (by decide) (prodB hn x2 4),
    pcO 0 (by decide) (k0_pay26 (convB hn x2 x4 x5 xs 0))]

end Cert.Kernel3Ideal.Odd

end
-- ==== Proof.OddModel.lean ====
/- The second layer's input projection as one function of its arguments, by natural-number row and column. The products are numbered by the columns of
   the reordered weights: the convolved columns first, then the others in their order, then the small columns and zeros. -/
module

public import proofs.«01_k».proof.Proof.FfnModel

@[expose] public section

noncomputable section

namespace Cert.OddModel

open Idealize.ShloMosaic
open Cert.FfnModel (IsReal rms gate gate_eq fin_add fin_mul fin_sum fin_zero rms_fin)

/-- The arguments by row and column: the rows, the gain, the projection weights, the decay logits, the taps and the bias. -/
structure Args where
  X : Nat → Nat → EReal
  G : Nat → EReal
  W : Nat → Nat → EReal
  L : Nat → Nat → EReal
  Cw : Nat → Nat → EReal
  Cb : Nat → EReal

variable (I : Args)

/-- The weights with their columns reordered, and the products. -/
def wod (k j : Nat) : EReal := if j < 1024 then I.W k (2560 + j) else if j < 3584 then I.W k (j - 1024) else if j < 3592 then I.W k j else 0
def hn (r c : Nat) : EReal := rms (I.X r) I.G c
def q (r j : Nat) : EReal := ∑ k : Fin 1024, hn I r k * wod I k j
/-- The row `k` earlier in the same sequence of 2048, and the four-tap convolution. -/
def back (r k j : Nat) : EReal := if r % 2048 < k then 0 else q I (r - k) j
def conv (r j : Nat) : EReal := back I r 3 j * I.Cw 0 j + back I r 2 j * I.Cw 1 j + back I r 1 j * I.Cw 2 j + q I r j * I.Cw 3 j + I.Cb j
/-- The softmax of the logits over the layers, and the lower bound of the decay: what the second layer adds to the first's share. -/
def top (j : Nat) : EReal := Finset.fold max (Ideal.ofBits .f32 4286578688#32) (fun i : Fin 2 => I.L i j) Finset.univ
def share (i j : Nat) : EReal := Ideal.div (Ideal.exp (I.L i j - top I j)) (∑ i : Fin 2, Ideal.exp (I.L i j - top I j))
def low (j : Nat) : EReal := share I 0 j + share I 1 j - share I 0 j
/-- The decay's logarithm and what it leaves to the key. -/
def sig (x : EReal) : EReal := Ideal.div (1) (1 + Ideal.exp (-x))
def decay (r j : Nat) : EReal := Ideal.log (low I j + (1 - low I j) * sig (q I r (1536 + j)))
def key (r j : Nat) : EReal := (1 - low I j) * sig (-q I r (1536 + j))
/-- The packed row: convolved and gated, gated, decay, key, plain, gated, gated, small. -/
def out (r j : Nat) : EReal :=
  if j < 1024 then gate (conv I r j) else if j < 1536 then gate (q I r j) else if j < 2048 then decay I r (j - 1536)
  else if j < 2560 then key I r (j - 2048) else if j < 3072 then q I r (j - 512) else if j < 4096 then gate (q I r (j - 512)) else q I r (j - 512)

/-! ## The packed row, a range of columns at a time -/

theorem out_conv (r j : Nat) (h : j < 1024) : out I r j = gate (conv I r j) := if_pos h
theorem out_query (r j : Nat) (h0 : 1024 ≤ j) (h : j < 1536) : out I r j = gate (q I r j) := by
  unfold out
  rw [if_neg (by omega), if_pos h]
theorem out_decay (r j : Nat) (h0 : 1536 ≤ j) (h : j < 2048) : out I r j = decay I r (j - 1536) := by
  unfold out
  rw [if_neg (by omega), if_neg (by omega), if_pos h]
theorem out_key (r j : Nat) (h0 : 2048 ≤ j) (h : j < 2560) : out I r j = key I r (j - 2048) := by
  unfold out
  rw [if_neg (by omega), if_neg (by omega), if_neg (by omega), if_pos h]
theorem out_plain (r j : Nat) (h0 : 2560 ≤ j) (h : j < 3072) : out I r j = q I r (j - 512) := by
  unfold out
  rw [if_neg (by omega), if_neg (by omega), if_neg (by omega), if_neg (by omega), if_pos h]
theorem out_gate (r j : Nat) (h0 : 3072 ≤ j) (h : j < 4096) : out I r j = gate (q I r (j - 512)) := by
  unfold out
  rw [if_neg (by omega), if_neg (by omega), if_neg (by omega), if_neg (by omega), if_neg (by omega), if_pos h]
theorem out_small (r j : Nat) (h0 : 4096 ≤ j) : out I r j = q I r (j - 512) := by
  unfold out
  rw [if_neg (by omega), if_neg (by omega), if_neg (by omega), if_neg (by omega), if_neg (by omega), if_neg (by omega)]

/-! ## The complement of the decay's sigmoid -/

theorem bot_lit : (Ideal.ofBits .f32 4286578688#32 : EReal) = ⊥ := by
  first | rfl | simp [Ideal.ofBits, Ideal.ieee]

theorem max_top (j : Nat) : max (Ideal.ofBits .f32 4286578688#32) (top I j) = top I j := by
  rw [bot_lit]
  exact max_eq_right bot_le

theorem sig_eq (x : EReal) : sig x = Ideal.logistic x := by
  rfl

theorem sig_neg (x : EReal) : 1 - sig x = sig (-x) := by
  rw [sig_eq, sig_eq]
  induction x using EReal.rec with
  | bot => simp
  | top =>
    have h : ((1 : ℝ) : EReal) - ((1 : ℝ) : EReal) = 0 := by rw [← EReal.coe_sub]; simp
    simpa using h
  | coe r =>
    rw [← EReal.coe_neg, Ideal.logistic_coe, Ideal.logistic_coe, ← EReal.coe_one, ← EReal.coe_sub]
    congr 1
    have h : Real.exp (-(-r)) = (Real.exp (-r))⁻¹ := by rw [Real.exp_neg (-r)]
    rw [h]
    have := Real.exp_pos (-r)
    field_simp
    ring

/-! ## What the gates are fed -/

/-- What the gates are fed is finite when the weights it comes from are. -/
structure FinGate : Prop where
  g : ∀ c < 1024, IsReal (I.G c)
  w0 : ∀ k < 1024, ∀ j < 512, IsReal (I.W k j)
  w1 : ∀ k < 1024, ∀ j < 2048, IsReal (I.W k (1536 + j))
  cw : ∀ k < 4, ∀ j < 1024, IsReal (I.Cw k j)
  cb : ∀ j < 1024, IsReal (I.Cb j)

theorem wod_fin (h : FinGate I) (k j : Nat) (hk : k < 1024) (hj : j < 1536 ∨ (2560 ≤ j ∧ j < 3584)) : IsReal (wod I k j) := by
  unfold wod
  split
  · rw [show 2560 + j = 1536 + (1024 + j) by omega]
    exact h.w1 k hk _ (by omega)
  · rw [if_pos (by omega)]
    rcases hj with hj | hj
    · exact h.w0 k hk _ (by omega)
    · rw [show j - 1024 = 1536 + (j - 2560) by omega]
      exact h.w1 k hk _ (by omega)

theorem q_fin (h : FinGate I) (r j : Nat) (hj : j < 1536 ∨ (2560 ≤ j ∧ j < 3584)) : IsReal (q I r j) :=
  fin_sum _ _ fun k _ => fin_mul (rms_fin _ _ _ k.isLt (h.g _ k.isLt)) (wod_fin I h _ _ k.isLt hj)

theorem back_fin (h : FinGate I) (r k j : Nat) (hj : j < 1024) : IsReal (back I r k j) := by
  unfold back
  split
  · exact fin_zero
  · exact q_fin I h _ _ (by omega)

theorem conv_fin (h : FinGate I) (r j : Nat) (hj : j < 1024) : IsReal (conv I r j) :=
  fin_add (fin_add (fin_add (fin_add (fin_mul (back_fin I h _ _ _ hj) (h.cw 0 (by omega) _ hj)) (fin_mul (back_fin I h _ _ _ hj) (h.cw 1 (by omega) _ hj)))
    (fin_mul (back_fin I h _ _ _ hj) (h.cw 2 (by omega) _ hj))) (fin_mul (q_fin I h _ _ (by omega)) (h.cw 3 (by omega) _ hj))) (h.cb _ hj)

/-- The columns past the small ones are zero. -/
theorem q_zero (r j : Nat) (hj : 3592 ≤ j) : q I r j = 0 := by
  have h : ∀ k, wod I k j = 0 := fun k => by
    unfold wod
    rw [if_neg (by omega), if_neg (by omega), if_neg (by omega)]
  unfold q
  simp only [h, mul_zero, Finset.sum_const_zero]

end Cert.OddModel

end
-- ==== Proof.OddStageVals.lean ====
/- The stages of `OddStages.lean` at an index: on blocks that hold the arguments' rows they are the model's terms. -/
module

public import proofs.«01_k».proof.Proof.OddStages
public import proofs.«01_k».proof.Proof.OddModel
public import Idealize.ShloMosaic.Lib.Pipeline.ReadBack

@[expose] public section

set_option maxRecDepth 16384

noncomputable section

namespace Cert.Kernel3Ideal.Odd

open Cert.Kernel3Ideal Cert.Kernel3Ideal.Gen Idealize.ShloMosaic Idealize.ShloMosaic.TcCoe Idealize.SL.Sem
open Cert.OddModel (Args)

/-! ## The blocks of a point -/

/-- The blocks hold the arguments' rows of point `t`, and the weights. -/
structure Holds (I : Args) (t : Nat) (x0 : Vec Ideal S512x1024 .f32) (x1 : Vec Ideal S1x1024 .f32) (x2 : Vec Ideal S1024x3712 .bf16)
    (x3 : Vec Ideal S2x512 .f32) (x4 : Vec Ideal S4x1024 .f32) (x5 : Vec Ideal S1x1024 .f32) : Prop where
  h0 : ∀ (r : Fin 512) (c : Fin 1024), (x0 (ix2 r c) : EReal) = I.X (512 * t + r) c
  h1 : ∀ c : Fin 1024, (x1 (ix2 0 c) : EReal) = I.G c
  h2 : ∀ (k : Fin 1024) (j : Fin 3712), (x2 (ix2 k j) : EReal) = Cert.OddModel.wod I k j
  h3 : ∀ (i : Fin 2) (j : Fin 512), (x3 (ix2 i j) : EReal) = I.L i j
  h4 : ∀ (k : Fin 4) (j : Fin 1024), (x4 (ix2 k j) : EReal) = I.Cw k j
  h5 : ∀ j : Fin 1024, (x5 (ix2 0 j) : EReal) = I.Cb j

/-- The carried rows before point `t`: nothing where a sequence begins, else the last rows of the tile before it. Only the last three are read. -/
def Carries (I : Args) (t : Nat) (xs : Vec Ideal S8x1024 .f32) : Prop :=
  ∀ (a : Fin 8) (j : Fin 1024), (xs (ix2 a j) : EReal) = if t % 4 = 0 then 0 else Cert.OddModel.q I (512 * t + a - 8) j

variable {I : Args} {t : Nat} {x0 : Vec Ideal S512x1024 .f32} {x1 : Vec Ideal S1x1024 .f32} {x2 : Vec Ideal S1024x3712 .bf16}
  {x3 : Vec Ideal S2x512 .f32} {x4 : Vec Ideal S4x1024 .f32} {x5 : Vec Ideal S1x1024 .f32} {xs : Vec Ideal S8x1024 .f32}

theorem normed_at (hI : Holds I t x0 x1 x2 x3 x4 x5) (r : Fin 512) (c : Fin 1024) :
    k0_pay7 (F := Ideal) x0 x1 (ix2 r c) = Cert.OddModel.hn I (512 * t + r) c := by
  unfold_payloads
  pointwise
  simp only [hI.h0, hI.h1]
  rfl

theorem share_at (hI : Holds I t x0 x1 x2 x3 x4 x5) (i : Fin 2) (j : Fin 512) : k0_pay8 (F := Ideal) x3 (ix2 i j) = Cert.OddModel.share I i j := by
  unfold_payloads
  pointwise
  simp only [hI.h3]
  rfl

theorem low_at (hI : Holds I t x0 x1 x2 x3 x4 x5) (j : Fin 512) : lowV (F := Ideal) x3 (ix2 0 j) = Cert.OddModel.low I j := by
  have e := fun i => share_at hI i j
  unfold lowV k0_pay9
  generalize k0_pay8 (F := Ideal) x3 = M at e ⊢
  pointwise
  simp only [e]
  rfl

/-! ## One chunk of columns -/

section chunk

variable {hnV : FVec Ideal S512x1024 .bf16}

theorem prodB_at (hI : Holds I t x0 x1 x2 x3 x4 x5)
    (hh : ∀ (r : Fin 512) (k : Fin 1024), (hnV (ix2 r k) : EReal) = Cert.OddModel.hn I (512 * t + r) k) (c : Fin 7) (r b : Fin 512) :
    prodB (F := Ideal) hnV x2 c (ix2 r b) = Cert.OddModel.q I (512 * t + r) (512 * c + b) := by
  unfold prodB wC
  unfold_payloads
  pointwise
  simp only [hh, hI.h2]
  rfl

theorem small_at (hI : Holds I t x0 x1 x2 x3 x4 x5)
    (hh : ∀ (r : Fin 512) (k : Fin 1024), (hnV (ix2 r k) : EReal) = Cert.OddModel.hn I (512 * t + r) k) (r : Fin 512) (b : Fin 128) :
    k0_pay3 (F := Ideal) hnV (wS x2) (ix2 r b) = Cert.OddModel.q I (512 * t + r) (3584 + b) := by
  unfold wS
  unfold_payloads
  pointwise
  simp only [hh, hI.h2]
  rfl

theorem tailB_at (hI : Holds I t x0 x1 x2 x3 x4 x5)
    (hh : ∀ (r : Fin 512) (k : Fin 1024), (hnV (ix2 r k) : EReal) = Cert.OddModel.hn I (512 * t + r) k) (c : Fin 2) (a : Fin 8) (b : Fin 512) :
    tailB (F := Ideal) hnV x2 c (ix2 a b) = Cert.OddModel.q I (512 * t + (504 + a)) (512 * c + b) := by
  unfold tailB k0_pay14
  have e := prodB_at hI hh (c.castLE (by decide))
  unfold prodB at e
  generalize k0_pay10 (F := Ideal) hnV (wC x2 (c.castLE _)) = U at e ⊢
  pointwise
  exact e _ _

theorem convB_at (hI : Holds I t x0 x1 x2 x3 x4 x5) (hc : Carries I t xs)
    (hh : ∀ (r : Fin 512) (k : Fin 1024), (hnV (ix2 r k) : EReal) = Cert.OddModel.hn I (512 * t + r) k) (c : Fin 2) (r b : Fin 512) :
    convB (F := Ideal) hnV x2 x4 x5 xs c (ix2 r b) = Cert.OddModel.conv I (512 * t + r) (512 * c + b) := by
  have e := prodB_at hI hh (c.castLE (by decide))
  unfold prodB at e
  unfold convB k0_pay15 k0_pay16 k0_pay13 carryC tapC biasC
  generalize k0_pay10 (F := Ideal) hnV (wC x2 (c.castLE _)) = U at e ⊢
  have hcb : 512 * c.val + b.val < 1024 := by have := c.isLt; have := b.isLt; omega
  have hb : ∀ o k : Nat, o + k = 8 → (ho : o ≤ 8) → (if h1 : o + r.val < 8 then (xs (ix2 ⟨o + r.val, h1⟩ ⟨512 * c.val + b.val, hcb⟩) : EReal)
      else U (ix2 ⟨o + r.val - 8, by omega⟩ b)) = Cert.OddModel.back I (512 * t + r) k (512 * c + b) := fun o k hok _ => by
    unfold Cert.OddModel.back
    have hr := r.isLt
    split
    · rename_i h1
      rw [hc]
      by_cases ht : t % 4 = 0
      · rw [if_pos ht, if_pos (by omega)]
      · rw [if_neg ht, if_neg (by omega)]
        exact congrArg (fun n => Cert.OddModel.q I n _) (by show 512 * t + (o + r.val) - 8 = _; omega)
    · rename_i h1
      refine (e _ _).trans ?_
      rw [if_neg (by omega)]
      exact congrArg (fun n => Cert.OddModel.q I n _) (by show 512 * t + (o + r.val - 8) = _; omega)
  pointwise
  unfold Cert.OddModel.conv
  refine congrArg₂ (· + ·) (congrArg₂ (· + ·) (congrArg₂ (· + ·) (congrArg₂ (· + ·) (congrArg₂ (· * ·) (hb 5 3 rfl (by omega)) (hI.h4 0 _))
    (congrArg₂ (· * ·) (hb 6 2 rfl (by omega)) (hI.h4 1 _))) (congrArg₂ (· * ·) (hb 7 1 rfl (by omega)) (hI.h4 2 _)))
    (congrArg₂ (· * ·) (e r b) (hI.h4 3 _))) (hI.h5 _)

theorem gate_at (v : FVec Ideal S512x512 .f32) (r b : Fin 512) : k0_pay26 (F := Ideal) v (ix2 r b) = Cert.FfnModel.gate (v (ix2 r b)) := by
  unfold_payloads
  pointwise
  rfl

theorem sigB_at (hI : Holds I t x0 x1 x2 x3 x4 x5)
    (hh : ∀ (r : Fin 512) (k : Fin 1024), (hnV (ix2 r k) : EReal) = Cert.OddModel.hn I (512 * t + r) k) (r b : Fin 512) :
    sigB (F := Ideal) hnV x2 (ix2 r b) = Cert.OddModel.sig (Cert.OddModel.q I (512 * t + r) (1536 + b)) := by
  have e := prodB_at hI hh 3 r b
  unfold sigB k0_pay28
  generalize prodB (F := Ideal) hnV x2 3 = M at e ⊢
  pointwise
  rw [e]
  unfold Cert.OddModel.sig
  rw [zero_sub]
  rfl

theorem decay_at (hI : Holds I t x0 x1 x2 x3 x4 x5)
    (hh : ∀ (r : Fin 512) (k : Fin 1024), (hnV (ix2 r k) : EReal) = Cert.OddModel.hn I (512 * t + r) k) (r b : Fin 512) :
    k0_pay1 (F := Ideal) (lowV x3) (sigB hnV x2) (Scalar.ofBits .f32 0x3F800000#32) (ix2 r b) = Cert.OddModel.decay I (512 * t + r) b := by
  have e := sigB_at hI hh r b
  have e' := low_at hI b
  unfold k0_pay1
  generalize sigB (F := Ideal) hnV x2 = M at e ⊢
  generalize lowV (F := Ideal) x3 = L at e' ⊢
  pointwise
  rw [e, e']
  rfl

theorem key_at (hI : Holds I t x0 x1 x2 x3 x4 x5)
    (hh : ∀ (r : Fin 512) (k : Fin 1024), (hnV (ix2 r k) : EReal) = Cert.OddModel.hn I (512 * t + r) k) (r b : Fin 512) :
    k0_pay2 (F := Ideal) (lowV x3) (sigB hnV x2) (ix2 r b) = Cert.OddModel.key I (512 * t + r) b := by
  have e := sigB_at hI hh r b
  have e' := low_at hI b
  unfold k0_pay2
  generalize sigB (F := Ideal) hnV x2 = M at e ⊢
  generalize lowV (F := Ideal) x3 = L at e' ⊢
  pointwise
  rw [e, e']
  exact congrArg (fun x : EReal => (1 - Cert.OddModel.low I b) * x) (Cert.OddModel.sig_neg _)

end chunk

/-! ## The stores read back -/

/-- The carried rows after a point's stores, over whatever was there. -/
theorem canon_lstS (T : Fin 2 → FVec Ideal S8x512 .f32) (f : Nat → Nat → EReal) (L : List (View.Piece (Elt Ideal) S8x1024 .f32))
    (hT : ∀ (c : Fin 2) (a : Fin 8) (b : Fin 512), (T c (ix2 a b) : EReal) = f a (512 * c + b)) (a : Fin 8) (j : Fin 1024) :
    View.canon (lstS T ++ L) (ix2 a j) = f a j := by
  have hemb : ∀ (c : Fin 2) (x : S8x512.Idx), (pcS T c).2 x = (fun y : S8x1024.Idx => f (y 0).val (y 1).val) ((pcS T c).1.emb x) := fun c x => by
    rw [eq_ix2 x]
    refine (hT c _ _).trans (congrArg₂ f ?_ ?_)
    · show (x 0).val = 0 + 1 * (x 0).val; omega
    · show _ = 512 * c.val + 1 * (x 1).val; exact (congrArg _ (Nat.one_mul _)).symm
  refine View.canon_append_of_pieces (fun y : S8x1024.Idx => f (y 0).val (y 1).val) L (lstS T) ?_ (ix2 a j) ?_
  · intro p hp
    unfold lstS at hp
    simp only [List.mem_cons, List.not_mem_nil, or_false] at hp
    rcases hp with rfl | rfl <;> exact hemb _
  · have hj := j.isLt
    refine ⟨pcS T ⟨j.val / 512, by omega⟩, ?_, (Rect.mem_set_unit (inb := inS _)).mpr fun i => ?_⟩
    · have h : ∀ c : Fin 2, pcS T c ∈ lstS T := fun c => by
        match c with
        | 0 => simp [lstS]
        | 1 => simp [lstS]
      exact h _
    · match i with
      | ⟨0, _⟩ => exact ⟨Nat.zero_le _, by show a.val < 0 + 8; omega⟩
      | ⟨1, _⟩ => exact ⟨by show 512 * (j.val / 512) ≤ j.val; omega, by show j.val < 512 * (j.val / 512) + 512; omega⟩

section stored

variable {f : Nat → Nat → EReal}

theorem pcO_emb (o : Nat) (h : ∀ a, (![0, o] : Fin 2 → Nat) a + S512x512.size a ≤ S512x4224.size a) (v : FVec Ideal S512x512 .f32)
    (hv : ∀ r b : Fin 512, (v (ix2 r b) : EReal) = f r (o + b)) (x : S512x512.Idx) :
    (pcO o h v).2 x = (fun y : S512x4224.Idx => f (y 0).val (y 1).val) ((pcO o h v).1.emb x) := by
  rw [eq_ix2 x]
  refine (hv _ _).trans (congrArg₂ f ?_ ?_)
  · show (x 0).val = 0 + 1 * (x 0).val; omega
  · show _ = o + 1 * (x 1).val; exact (congrArg _ (Nat.one_mul _)).symm

theorem pcO_mem (o : Nat) (h : ∀ a, (![0, o] : Fin 2 → Nat) a + S512x512.size a ≤ S512x4224.size a) (v : FVec Ideal S512x512 .f32)
    (r : Fin 512) (j : Fin 4224) (h0 : o ≤ j.val) (h1 : j.val < o + 512) : ix2 r j ∈ (pcO o h v).1.set := by
  refine (Rect.mem_set_unit (inb := h)).mpr fun i => ?_
  match i with
  | ⟨0, _⟩ => exact ⟨Nat.zero_le _, by show r.val < 0 + 512; omega⟩
  | ⟨1, _⟩ => exact ⟨h0, h1⟩

theorem pcL_emb (v : FVec Ideal S512x128 .f32) (hv : ∀ (r : Fin 512) (b : Fin 128), (v (ix2 r b) : EReal) = f r (4096 + b)) (x : S512x128.Idx) :
    (pcL v).2 x = (fun y : S512x4224.Idx => f (y 0).val (y 1).val) ((pcL v).1.emb x) := by
  rw [eq_ix2 x]
  refine (hv _ _).trans (congrArg₂ f ?_ ?_)
  · show (x 0).val = 0 + 1 * (x 0).val; omega
  · show _ = 4096 + 1 * (x 1).val; exact (congrArg _ (Nat.one_mul _)).symm

theorem pcL_mem (v : FVec Ideal S512x128 .f32) (r : Fin 512) (j : Fin 4224) (h0 : 4096 ≤ j.val) : ix2 r j ∈ (pcL v).1.set := by
  refine (Rect.mem_set_unit (inb := inb_S512x4224_S512x128_0_4096)).mpr fun i => ?_
  match i with
  | ⟨0, _⟩ => exact ⟨Nat.zero_le _, by show r.val < 0 + 512; omega⟩
  | ⟨1, _⟩ => exact ⟨h0, by show j.val < 4096 + 128; omega⟩

end stored

/-- The packed rows read back. -/
theorem canon_lstO {hnV : FVec Ideal S512x1024 .bf16} (hI : Holds I t x0 x1 x2 x3 x4 x5) (hc : Carries I t xs)
    (hh : ∀ (r : Fin 512) (k : Fin 1024), (hnV (ix2 r k) : EReal) = Cert.OddModel.hn I (512 * t + r) k) (r : Fin 512) (j : Fin 4224) :
    View.canon (lstO hnV x2 x3 x4 x5 xs) (ix2 r j) = Cert.OddModel.out I (512 * t + r) j := by
  have g : ∀ {v : FVec Ideal S512x512 .f32} {r b : Fin 512} {x : EReal}, (v (ix2 r b) : EReal) = x → (k0_pay26 (F := Ideal) v (ix2 r b) : EReal) = Cert.FfnModel.gate x :=
    fun e => (gate_at _ _ _).trans (congrArg Cert.FfnModel.gate e)
  have p8 : ∀ (r : Fin 512) (b : Fin 128), (k0_pay3 (F := Ideal) hnV (wS x2) (ix2 r b) : EReal) = Cert.OddModel.out I (512 * t + r) (4096 + b) := fun r b => by
    rw [Cert.OddModel.out_small _ _ _ (by omega), small_at hI hh, show 4096 + b.val - 512 = 3584 + b.val by omega]
  have p7 : ∀ r b : Fin 512, (k0_pay26 (F := Ideal) (prodB hnV x2 6) (ix2 r b) : EReal) = Cert.OddModel.out I (512 * t + r) (3584 + b) := fun r b => by
    rw [Cert.OddModel.out_gate _ _ _ (by omega) (by omega), show 3584 + b.val - 512 = 3072 + b.val by omega]
    exact g (prodB_at hI hh 6 r b)
  have p6 : ∀ r b : Fin 512, (k0_pay26 (F := Ideal) (prodB hnV x2 5) (ix2 r b) : EReal) = Cert.OddModel.out I (512 * t + r) (3072 + b) := fun r b => by
    rw [Cert.OddModel.out_gate _ _ _ (by omega) (by omega), show 3072 + b.val - 512 = 2560 + b.val by omega]
    exact g (prodB_at hI hh 5 r b)
  have p5 : ∀ r b : Fin 512, (prodB (F := Ideal) hnV x2 4 (ix2 r b) : EReal) = Cert.OddModel.out I (512 * t + r) (2560 + b) := fun r b => by
    rw [Cert.OddModel.out_plain _ _ _ (by omega) (by omega), show 2560 + b.val - 512 = 2048 + b.val by omega]
    exact prodB_at hI hh 4 r b
  have p4 : ∀ r b : Fin 512, (k0_pay2 (F := Ideal) (lowV x3) (sigB hnV x2) (ix2 r b) : EReal) = Cert.OddModel.out I (512 * t + r) (2048 + b) := fun r b => by
    rw [Cert.OddModel.out_key _ _ _ (by omega) (by omega), key_at hI hh, Nat.add_sub_cancel_left]
  have p3 : ∀ r b : Fin 512, (k0_pay1 (F := Ideal) (lowV x3) (sigB hnV x2) (Scalar.ofBits .f32 0x3F800000#32) (ix2 r b) : EReal)
      = Cert.OddModel.out I (512 * t + r) (1536 + b) := fun r b => by
    rw [Cert.OddModel.out_decay _ _ _ (by omega) (by omega), decay_at hI hh, Nat.add_sub_cancel_left]
  have p2 : ∀ r b : Fin 512, (k0_pay26 (F := Ideal) (prodB hnV x2 2) (ix2 r b) : EReal) = Cert.OddModel.out I (512 * t + r) (1024 + b) := fun r b => by
    rw [Cert.OddModel.out_query _ _ _ (by omega) (by omega)]
    exact g (prodB_at hI hh 2 r b)
  have p1 : ∀ r b : Fin 512, (k0_pay26 (F := Ideal) (convB hnV x2 x4 x5 xs 1) (ix2 r b) : EReal) = Cert.OddModel.out I (512 * t + r) (512 + b) := fun r b => by
    rw [Cert.OddModel.out_conv _ _ _ (by omega)]
    exact g (convB_at hI hc hh 1 r b)
  have p0 : ∀ r b : Fin 512, (k0_pay26 (F := Ideal) (convB hnV x2 x4 x5 xs 0) (ix2 r b) : EReal) = Cert.OddModel.out I (512 * t + r) (0 + b) := fun r b => by
    rw [Cert.OddModel.out_conv _ _ _ (by omega)]
    exact g (convB_at hI hc hh 0 r b)
  have s0 := pcO_emb (f := fun r j => Cert.OddModel.out I (512 * t + r) j) 0 (by decide) _ p0
  have s1 := pcO_emb (f := fun r j => Cert.OddModel.out I (512 * t + r) j) 512 (by decide) _ p1
  have s2 := pcO_emb (f := fun r j => Cert.OddModel.out I (512 * t + r) j) 1024 (by decide) _ p2
  have s3 := pcO_emb (f := fun r j => Cert.OddModel.out I (512 * t + r) j) 1536 (by decide) _ p3
  have s4 := pcO_emb (f := fun r j => Cert.OddModel.out I (512 * t + r) j) 2048 (by decide) _ p4
  have s5 := pcO_emb (f := fun r j => Cert.OddModel.out I (512 * t + r) j) 2560 (by decide) _ p5
  have s6 := pcO_emb (f := fun r j => Cert.OddModel.out I (512 * t + r) j) 3072 (by decide) _ p6
  have s7 := pcO_emb (f := fun r j => Cert.OddModel.out I (512 * t + r) j) 3584 (by decide) _ p7
  have s8 := pcL_emb (f := fun r j => Cert.OddModel.out I (512 * t + r) j) _ p8
  refine View.canon_apply_of_pieces (fun y : S512x4224.Idx => Cert.OddModel.out I (512 * t + (y 0).val) (y 1).val) (lstO hnV x2 x3 x4 x5 xs) ?_ (ix2 r j) ?_
  · unfold lstO
    exact List.forall_mem_cons.mpr ⟨s8, List.forall_mem_cons.mpr ⟨s7, List.forall_mem_cons.mpr ⟨s6, List.forall_mem_cons.mpr ⟨s4,
      List.forall_mem_cons.mpr ⟨s3, List.forall_mem_cons.mpr ⟨s2, List.forall_mem_cons.mpr ⟨s1, List.forall_mem_cons.mpr ⟨s5,
      List.forall_mem_cons.mpr ⟨s0, fun _ h => absurd h List.not_mem_nil⟩⟩⟩⟩⟩⟩⟩⟩⟩
  · have hj := j.isLt
    unfold lstO
    by_cases h8 : 4096 ≤ j.val
    · exact ⟨_, .head _, pcL_mem _ _ _ h8⟩
    by_cases h7 : 3584 ≤ j.val
    · exact ⟨_, .tail _ (.head _), pcO_mem _ _ _ _ _ h7 (by omega)⟩
    by_cases h6 : 3072 ≤ j.val
    · exact ⟨_, .tail _ (.tail _ (.head _)), pcO_mem _ _ _ _ _ h6 (by omega)⟩
    by_cases h5 : 2560 ≤ j.val
    · exact ⟨_, .tail _ (.tail _ (.tail _ (.tail _ (.tail _ (.tail _ (.tail _ (.head _))))))), pcO_mem _ _ _ _ _ h5 (by omega)⟩
    by_cases h4 : 2048 ≤ j.val
    · exact ⟨_, .tail _ (.tail _ (.tail _ (.head _))), pcO_mem _ _ _ _ _ h4 (by omega)⟩
    by_cases h3 : 1536 ≤ j.val
    · exact ⟨_, .tail _ (.tail _ (.tail _ (.tail _ (.head _)))), pcO_mem _ _ _ _ _ h3 (by omega)⟩
    by_cases h2 : 1024 ≤ j.val
    · exact ⟨_, .tail _ (.tail _ (.tail _ (.tail _ (.tail _ (.head _))))), pcO_mem _ _ _ _ _ h2 (by omega)⟩
    by_cases h1 : 512 ≤ j.val
    · exact ⟨_, .tail _ (.tail _ (.tail _ (.tail _ (.tail _ (.tail _ (.head _)))))), pcO_mem _ _ _ _ _ h1 (by omega)⟩
    · exact ⟨_, .tail _ (.tail _ (.tail _ (.tail _ (.tail _ (.tail _ (.tail _ (.tail _ (.head _)))))))), pcO_mem _ _ _ _ _ (Nat.zero_le _) (by omega)⟩

end Cert.Kernel3Ideal.Odd

end
-- ==== Proof.OddPieces.lean ====
/- What a grid point of the second layer's input projection stores, in either of its cases, is the stages of `OddStages.lean` at each chunk of columns:
   over zero carried rows where a sequence begins, over the rows the point before left elsewhere. -/
module

public import proofs.«01_k».proof.Proof.Gen.Kernel3Ideal.Value
public import proofs.«01_k».proof.Proof.OddStages
public import Idealize.ShloMosaic.Lib.Pipeline.ReadBack
public import Idealize.ShloMosaic.Lib.Tactic

@[expose] public section

set_option maxRecDepth 16384

noncomputable section

namespace Cert.Kernel3Ideal.Odd

open Cert.Kernel3Ideal Cert.Kernel3Ideal.Gen Idealize.ShloMosaic Idealize.ShloMosaic.TcCoe Idealize.SL.Sem

variable {F : FTy → Type} [FloatOps F]

variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S1024x3712 .bf16) (harg3 : arg3.IsWhole) (arg4 : Memref sig .tc .vmem S2x512 .f32) (harg4 : arg4.IsWhole)
  (arg5 : Memref sig .tc .vmem S4x1024 .f32) (harg5 : arg5.IsWhole) (arg6 : Memref sig .tc .vmem S1x1024 .f32) (harg6 : arg6.IsWhole)
  (arg7 : Memref sig .tc .vmem S512x4224 .f32) (harg7 : arg7.IsWhole) (arg8 : Memref sig .tc .vmem S8x1024 .f32) (harg8 : arg8.IsWhole)
  (x0 : Vec F S512x1024 .f32) (x1 : Vec F S1x1024 .f32) (x2 : Vec F S1024x3712 .bf16) (x3 : Vec F S2x512 .f32) (x4 : Vec F S4x1024 .f32) (x5 : Vec F S1x1024 .f32)

/-- The carried rows' stores of a point where a sequence begins. -/
theorem carried_A (hc0 : cond0_0 i) :
    (kernelRun0_A c i arg1 harg1 arg2 harg2 arg3 harg3 arg4 harg4 arg5 harg5 arg6 harg6 arg7 harg7 arg8 harg8 hc0 x0 x1 x2 x3 x4 x5).2.1
      = lstS (tailB (k0_pay7 x0 x1) x2) ++ [⟨Rect.unit (s := S8x1024) ![0, 0] S8x1024.size inb_S8x1024_S8x1024_0_0, k0_pay6⟩] := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The packed rows' stores of a point where a sequence begins. -/
theorem result_A (hc0 : cond0_0 i) :
    (kernelRun0_A c i arg1 harg1 arg2 harg2 arg3 harg3 arg4 harg4 arg5 harg5 arg6 harg6 arg7 harg7 arg8 harg8 hc0 x0 x1 x2 x3 x4 x5).1
      = lstO (k0_pay7 x0 x1) x2 x3 x4 x5 k0_pay6 := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The carried rows' stores of a point where a sequence goes on. -/
theorem carried_B (hc0 : ¬cond0_0 i) (xs0 : Vec F S8x1024 .f32) :
    (kernelRun0_B c i arg1 harg1 arg2 harg2 arg3 harg3 arg4 harg4 arg5 harg5 arg6 harg6 arg7 harg7 arg8 harg8 hc0 x0 x1 x2 x3 x4 x5 xs0).2.1
      = lstS (tailB (k0_pay7 x0 x1) x2) := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

/-- The packed rows' stores of a point where a sequence goes on. -/
theorem result_B (hc0 : ¬cond0_0 i) (xs0 : Vec F S8x1024 .f32) :
    (kernelRun0_B c i arg1 harg1 arg2 harg2 arg3 harg3 arg4 harg4 arg5 harg5 arg6 harg6 arg7 harg7 arg8 harg8 hc0 x0 x1 x2 x3 x4 x5 xs0).1
      = lstO (k0_pay7 x0 x1) x2 x3 x4 x5 xs0 := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  rfl

end Cert.Kernel3Ideal.Odd

end
-- ==== Proof.OddPoints.lean ====
/- The points of the projection kernel's grid: what each leaves in the output block and in the carried rows, and the output array at an index. -/
module

public import proofs.«01_k».proof.Proof.OddStageVals
public import proofs.«01_k».proof.Proof.OddPieces
public import proofs.«01_k».proof.Proof.FfnPoints
public import Idealize.ShloMosaic.Lib.Pipeline.ValueKit
public import Idealize.ShloMosaic.Lib.KernelVsHost
public import Idealize.ShloMosaic.Lib.Claim

@[expose] public section

set_option maxRecDepth 16384

noncomputable section

namespace Cert.OddModel

open Cert.FfnModel (mat vec)

/-- The arguments as the model takes them: the gain is the first of the second layer's. -/
def Args.of (x : Fin 32768 → Fin 1024 → EReal) (g : Fin 1024 → EReal) (w : Fin 1024 → Fin 3592 → EReal) (l : Fin 2 → Fin 512 → EReal)
    (cw : Fin 4 → Fin 1024 → EReal) (cb : Fin 1024 → EReal) : Args where
  X := mat x
  G := vec g
  W := mat w
  L := mat l
  Cw := mat cw
  Cb := vec cb

end Cert.OddModel

namespace Cert.Kernel3Ideal.Odd

open Cert.Kernel3Ideal Cert.Kernel3Ideal.Gen Idealize.ShloMosaic Idealize.ShloMosaic.TcCoe Idealize.SL.Sem
open Cert.OddModel (Args)
open Cert.FfnModel (mat vec mat_at vec_at)

variable (m : (ℓ : Loc nD τ sig) → Buf (Elt Ideal) ℓ)

/-! ## The blocks of a point -/

/-- The kernel's arguments at core `c`. -/
def args (c : Dev nD) : Args :=
  Args.of (fun r k => m ((c : Thread nD τ).loc main_arg0) (ix2 r k)) (fun k => m ((c : Thread nD τ).loc main_arg1) (ix3 1 0 k))
    (fun k j => m ((c : Thread nD τ).loc main_arg2) (ix2 k j)) (fun i j => m ((c : Thread nD τ).loc main_arg3) (ix2 i j))
    (fun k j => m ((c : Thread nD τ).loc main_arg4) (ix2 k j)) (fun j => m ((c : Thread nD τ).loc main_arg5) (ix1 j))

theorem index_rows : ∀ t : Fin cfg0.N, win0_0.index t = ![t.val, 0] := by decide +kernel
theorem index_whole : ∀ t : Fin cfg0.N, win0_1.index t = ![0, 0] ∧ win0_2.index t = ![0, 0] ∧ win0_3.index t = ![0, 0]
    ∧ win0_4.index t = ![0, 0] ∧ win0_5.index t = ![0, 0] := by decide +kernel

theorem row_lt (t : Fin cfg0.N) (r : Fin 512) : 512 * t.val + r.val < 32768 := by
  have h : cfg0.N = 64 := N_0
  have := t.isLt
  omega

theorem blk0_at (c : Dev nD) (t : Fin cfg0.N) (r : Fin 512) (k : Fin 1024) :
    iblk m c 0 t (ix2 r k) = m ((c : Thread nD τ).loc main_arg0) (ix2 ⟨512 * t.val + r.val, row_lt t r⟩ k) := by
  have e := index_rows t
  blk_ext! [iblk, V, e]
theorem blk3_at (c : Dev nD) (t : Fin cfg0.N) (i : Fin 2) (j : Fin 512) : iblk m c 3 t (ix2 i j) = m ((c : Thread nD τ).loc main_arg3) (ix2 i j) := by
  have e := (index_whole t).2.2.1
  blk_ext! [iblk, V, e]
theorem blk4_at (c : Dev nD) (t : Fin cfg0.N) (k : Fin 4) (j : Fin 1024) : iblk m c 4 t (ix2 k j) = m ((c : Thread nD τ).loc main_arg4) (ix2 k j) := by
  have e := (index_whole t).2.2.2.1
  blk_ext! [iblk, V, e]
theorem blk1_at (c : Dev nD) (t : Fin cfg0.N) (k : Fin 1024) : iblk m c 1 t (ix2 0 k) = V m c main_v10 (ix2 0 k) := by
  have e := (index_whole t).1
  blk_ext! [iblk, e]
theorem blk2_at (c : Dev nD) (t : Fin cfg0.N) (k : Fin 1024) (j : Fin 3712) : iblk m c 2 t (ix2 k j) = V m c main_v5 (ix2 k j) := by
  have e := (index_whole t).2.1
  blk_ext! [iblk, e]
theorem blk5_at (c : Dev nD) (t : Fin cfg0.N) (j : Fin 1024) : iblk m c 5 t (ix2 0 j) = V m c main_v11 (ix2 0 j) := by
  have e := (index_whole t).2.2.2.2
  blk_ext! [iblk, e]

theorem entry_v10 (c : Dev nD) (k : Fin 1024) : (V m c main_v10 : Vec Ideal S1x1024 .f32) (ix2 0 k) = m ((c : Thread nD τ).loc main_arg1) (ix3 1 0 k) := by
  simp only [V, hostOps0]
  entry_read
  pointwise
theorem entry_v11 (c : Dev nD) (j : Fin 1024) : (V m c main_v11 : Vec Ideal S1x1024 .f32) (ix2 0 j) = m ((c : Thread nD τ).loc main_arg5) (ix1 j) := by
  simp only [V, hostOps0]
  entry_read
  pointwise
/-- The reordered weights: four ranges of columns side by side. -/
def cat (a : Vec Ideal S1024x1024 .bf16) (b : Vec Ideal S1024x2560 .bf16) (d : Vec Ideal S1024x8 .bf16) (e : Vec Ideal S1024x120 .bf16) : Vec Ideal S1024x3712 .bf16 :=
  concatenate S1024x3712 1 [⟨S1024x1024, a⟩, ⟨S1024x2560, b⟩, ⟨S1024x8, d⟩, ⟨S1024x120, e⟩] concatenates_S1024x1024_S1024x2560_S1024x8_S1024x120_S1024x3712_d1

theorem cat_at (a : Vec Ideal S1024x1024 .bf16) (b : Vec Ideal S1024x2560 .bf16) (d : Vec Ideal S1024x8 .bf16) (e : Vec Ideal S1024x120 .bf16) (W : Nat → Nat → EReal)
    (k : Fin 1024) (ha : ∀ j : Fin 1024, (a (ix2 k j) : EReal) = W k (2560 + j)) (hb : ∀ j : Fin 2560, (b (ix2 k j) : EReal) = W k j)
    (hd : ∀ j : Fin 8, (d (ix2 k j) : EReal) = W k (3584 + j)) (he : ∀ j : Fin 120, (e (ix2 k j) : EReal) = 0) (j : Fin 3712) :
    (cat a b d e (ix2 k j) : EReal)
      = if j.val < 1024 then W k (2560 + j) else if j.val < 3584 then W k (j - 1024) else if j.val < 3592 then W k j else 0 := by
  unfold cat
  pointwise
  simp only [ha, hb, hd, he]
  by_cases h0 : j.val < 1024
  · rw [dif_pos h0, if_pos h0]
  rw [dif_neg h0, if_neg h0]
  by_cases h1 : j.val < 3584
  · rw [dif_pos (by omega), if_pos h1]
  rw [dif_neg (by omega), if_neg h1]
  by_cases h2 : j.val < 3592
  · rw [dif_pos (by omega), if_pos h2, show 3584 + (j.val - 1024 - 2560) = j.val by omega]
  · rw [dif_neg (by omega), if_neg h2]

theorem v5_eq (c : Dev nD) : (V m c main_v5 : Vec Ideal S1024x3712 .bf16)
    = cat (V m c main_v2) (V m c main_v3) (V m c main_v4) (V m c main_v0) := by
  have hv : ∀ (b : Ref sig .tc) (v : b.ty.Contents (Elt Ideal)), V m c b = v → v = V m c b := fun b v h => h.symm
  refine Eq.trans (b := cat ?_ ?_ ?_ ?_) ?_ ?_
  case refine_5 =>
    simp only [V, hostOps0, StableHlo.after_cons, StableHlo.after_nil]
    rw [StableHlo.reshape_result_ne _ _ _ _ _ _ _ (by decide), StableHlo.reshape_result_ne _ _ _ _ _ _ _ (by decide),
      StableHlo.reshape_result_ne _ _ _ _ _ _ _ (by decide), StableHlo.unary_result_ne _ _ _ _ _ _ (by decide),
      StableHlo.reshape_result_ne _ _ _ _ _ _ _ (by decide), StableHlo.unary_result_ne _ _ _ _ _ _ (by decide), StableHlo.nary_result]
    rfl
  · congr 1 <;> apply hv <;> simp only [V, hostOps0, StableHlo.after_cons, StableHlo.after_nil] <;>
    rw [StableHlo.reshape_result_ne _ _ _ _ _ _ _ (by decide), StableHlo.reshape_result_ne _ _ _ _ _ _ _ (by decide),
      StableHlo.reshape_result_ne _ _ _ _ _ _ _ (by decide), StableHlo.unary_result_ne _ _ _ _ _ _ (by decide),
      StableHlo.reshape_result_ne _ _ _ _ _ _ _ (by decide), StableHlo.unary_result_ne _ _ _ _ _ _ (by decide),
      StableHlo.nary_result_ne _ _ _ _ _ _ (by decide)] <;> rfl

theorem entry_v2 (c : Dev nD) (k j : Fin 1024) : ((V m c main_v2 : Vec Ideal S1024x1024 .bf16) (ix2 k j) : EReal) = (args m c).W k (2560 + j) := by
  refine Eq.trans ?_ (mat_at (fun k j => m ((c : Thread nD τ).loc main_arg2) (ix2 k j)) k.val (2560 + j.val) k.isLt (by omega)).symm
  simp only [V, hostOps0]
  entry_read
  pointwise
theorem entry_v3 (c : Dev nD) (k : Fin 1024) (j : Fin 2560) : ((V m c main_v3 : Vec Ideal S1024x2560 .bf16) (ix2 k j) : EReal) = (args m c).W k j := by
  refine Eq.trans ?_ (mat_at (fun k j => m ((c : Thread nD τ).loc main_arg2) (ix2 k j)) k.val j.val k.isLt (by omega)).symm
  simp only [V, hostOps0]
  entry_read
  pointwise
theorem entry_v4 (c : Dev nD) (k : Fin 1024) (j : Fin 8) : ((V m c main_v4 : Vec Ideal S1024x8 .bf16) (ix2 k j) : EReal) = (args m c).W k (3584 + j) := by
  refine Eq.trans ?_ (mat_at (fun k j => m ((c : Thread nD τ).loc main_arg2) (ix2 k j)) k.val (3584 + j.val) k.isLt (by omega)).symm
  simp only [V, hostOps0]
  entry_read
  pointwise
theorem entry_v0 (c : Dev nD) (k : Fin 1024) (j : Fin 120) : ((V m c main_v0 : Vec Ideal S1024x120 .bf16) (ix2 k j) : EReal) = (0 : EReal) := by
  simp only [V, hostOps0]
  entry_read
  pointwise
theorem entry_v5 (c : Dev nD) (k : Fin 1024) (j : Fin 3712) :
    ((V m c main_v5 : Vec Ideal S1024x3712 .bf16) (ix2 k j) : EReal) = Cert.OddModel.wod (args m c) k j :=
  (congrFun (v5_eq m c) (ix2 k j)).trans
    (cat_at _ _ _ _ (args m c).W k (entry_v2 m c k) (entry_v3 m c k) (entry_v4 m c k) (entry_v0 m c k) j)

/-- A point's blocks hold the arguments' rows and the weights. -/
theorem holds (c : Dev nD) (t : Fin cfg0.N) :
    Holds (args m c) t.val (iblk m c 0 t) (iblk m c 1 t) (iblk m c 2 t) (iblk m c 3 t) (iblk m c 4 t) (iblk m c 5 t) where
  h0 r k := (blk0_at m c t r k).trans (mat_at (fun r k => m ((c : Thread nD τ).loc main_arg0) (ix2 r k)) _ k.val (row_lt t r) k.isLt).symm
  h1 k := ((blk1_at m c t k).trans (entry_v10 m c k)).trans (vec_at (fun k => m ((c : Thread nD τ).loc main_arg1) (ix3 1 0 k)) k.val k.isLt).symm
  h2 k j := (blk2_at m c t k j).trans (entry_v5 m c k j)
  h3 i j := (blk3_at m c t i j).trans (mat_at (fun k j => m ((c : Thread nD τ).loc main_arg3) (ix2 k j)) i.val j.val i.isLt j.isLt).symm
  h4 k j := (blk4_at m c t k j).trans (mat_at (fun k j => m ((c : Thread nD τ).loc main_arg4) (ix2 k j)) k.val j.val k.isLt j.isLt).symm
  h5 j := ((blk5_at m c t j).trans (entry_v11 m c j)).trans (vec_at (fun j => m ((c : Thread nD τ).loc main_arg5) (ix1 j)) j.val j.isLt).symm

/-! ## All points -/

theorem zero_carries (I : Args) (t : Nat) (ht : t % 4 = 0) : Carries I t (k0_pay6 (F := Ideal)) := fun a j => by
  rw [if_pos ht]
  unfold_payloads
  pointwise

/-- What a point leaves: the model's packed rows, and the last rows of its convolved products. -/
theorem outsAt_at (c : Dev nD) : ∀ (n : Nat) (hn : n < cfg0.N),
    (∀ (r : Fin 512) (k : Fin 4224), ((outsAt0 m c n hn).1 (ix2 r k) : EReal) = Cert.OddModel.out (args m c) (512 * n + r) k)
    ∧ (∀ (a : Fin 8) (j : Fin 1024), ((outsAt0 m c n hn).2 (ix2 a j) : EReal) = Cert.OddModel.q (args m c) (512 * n + (504 + a)) j) := by
  have hS : ∀ (t : Fin cfg0.N) (L : List (View.Piece (Elt Ideal) S8x1024 .f32)) (a : Fin 8) (j : Fin 1024),
      View.canon (lstS (tailB (k0_pay7 (iblk m c 0 t) (iblk m c 1 t)) (iblk m c 2 t)) ++ L) (ix2 a j)
        = Cert.OddModel.q (args m c) (512 * t.val + (504 + a)) j := fun t L a j =>
    canon_lstS _ (fun a j => Cert.OddModel.q (args m c) (512 * t.val + (504 + a)) j) L (tailB_at (holds m c t) (normed_at (holds m c t))) a j
  have hA : ∀ (t : Fin cfg0.N), t.val % 4 = 0 →
      (∀ (r : Fin 512) (k : Fin 4224), ((outsAt0 m c t.val t.isLt).1 (ix2 r k) : EReal) = Cert.OddModel.out (args m c) (512 * t.val + r) k)
      ∧ (∀ (a : Fin 8) (j : Fin 1024), ((outsAt0 m c t.val t.isLt).2 (ix2 a j) : EReal) = Cert.OddModel.q (args m c) (512 * t.val + (504 + a)) j) :=
      fun t h0 => by
    have hz := zero_carries (args m c) t.val h0
    rw [outsAt0_A m c t h0]
    refine ⟨fun r k => ?_, fun a j => ?_⟩
    · dsimp only
      unfold out0_A_6
      rw [View.read_writes_junk_eq_canon, result_A]
      exact canon_lstO (holds m c t) hz (normed_at (holds m c t)) r k
    · dsimp only
      unfold sout0_A_0
      rw [View.read_writes_junk_eq_canon, carried_A]
      exact hS t _ a j
  intro n
  induction n with
  | zero => exact fun hn => hA ⟨0, hn⟩ rfl
  | succ n ih =>
    intro hn
    by_cases h0 : (n + 1) % 4 = 0
    · exact hA ⟨n + 1, hn⟩ h0
    · have hl : Carries (args m c) (n + 1) (outsAt0 m c n (Nat.lt_of_succ_lt hn)).2 := fun a j => by
        rw [if_neg h0, (ih (Nat.lt_of_succ_lt hn)).2]
        exact congrArg (fun n => Cert.OddModel.q (args m c) n _) (by omega)
      rw [outsAt0_B m c ⟨n + 1, hn⟩ h0]
      refine ⟨fun r k => ?_, fun a j => ?_⟩
      · dsimp only
        unfold out0_B_6
        rw [View.read_writes_junk_eq_canon, result_B]
        exact canon_lstO (holds m c ⟨n + 1, hn⟩) hl (normed_at (holds m c ⟨n + 1, hn⟩)) r k
      · dsimp only
        unfold sout0_B_0
        rw [View.read_writes_junk_eq_canon, carried_B, ← List.append_nil (lstS _)]
        exact hS ⟨n + 1, hn⟩ _ a j

/-- The output array at a row and column. -/
theorem array_at (c : Dev nD) (r : Fin 32768) (k : Fin 4224) :
    (Cert.Kernel3Ideal.Value.G6 m c (ix2 r k) : EReal) = Cert.OddModel.out (args m c) r k := by
  have hN : cfg0.N = 64 := N_0
  have hp : Cert.Kernel3Ideal.Value.pt6Of (ix2 r k) = r.val / 512 := by
    show 1 * (r.val / 512 - 0) + 1 * (k.val / 4224 - 0) = _
    omega
  have hlt : Cert.Kernel3Ideal.Value.pt6Of (ix2 r k) < cfg0.N := by rw [hp, hN]; omega
  have hl : Cert.Kernel3Ideal.Value.loc6Of (ix2 r k) = ix2 ⟨r.val % 512, Nat.mod_lt _ (by decide)⟩ k := by
    funext a; apply Fin.ext
    match a with
    | ⟨0, _⟩ => rfl
    | ⟨1, _⟩ => show k.val % 4224 = k.val; omega
  unfold Cert.Kernel3Ideal.Value.G6
  rw [dif_pos hlt, ← Cert.Kernel3Ideal.Value.outsAt0_sweep m c _ hlt, hl, (outsAt_at m c _ hlt).1, hp]
  dsimp only
  rw [Nat.div_add_mod]

end Cert.Kernel3Ideal.Odd

end
-- ==== Proof.OddRef.lean ====
/- The reference of the second layer's projections, entry by entry: its arrays are the model's terms, where what the gates are fed is finite. -/
module

public import proofs.«01_k».proof.Proof.OddModel
public import proofs.«01_k».proof.Proof.Gen.Reference3Ideal.Read
public import Idealize.ShloMosaic.Lib.Pointwise
public import Idealize.ShloMosaic.Lib.Pipeline.ValueKit
public import Idealize.ShloMosaic.Lib.Routing.OpsOne

@[expose] public section

set_option maxRecDepth 16384

noncomputable section

namespace Cert.Reference3Ideal.Odd

open Cert.Reference3Ideal Cert.Reference3Ideal.Read Cert.Reference3Ideal.Gen Idealize.ShloMosaic Idealize.ShloMosaic.TcCoe Idealize.SL.Sem
open Cert.OddModel (Args FinGate q hn share low)
open Cert.FfnModel (gate gate_eq)

/-- The arrays hold the arguments. -/
structure Holds (I : Args) (x0 : Vec Ideal S32768x1024 .f32) (x1 : Vec Ideal S2x4x1024 .f32) (x2 : Vec Ideal S1024x3592 .f32)
    (x3 : Vec Ideal S2x512 .f32) (x4 : Vec Ideal S4x1024 .f32) (x5 : Vec Ideal S1024 .f32) : Prop where
  h0 : ∀ (r : Fin 32768) (c : Fin 1024), (x0 (ix2 r c) : EReal) = I.X r c
  h1 : ∀ c : Fin 1024, (x1 (ix3 1 0 c) : EReal) = I.G c
  h2 : ∀ (k : Fin 1024) (j : Fin 3592), (x2 (ix2 k j) : EReal) = I.W k j
  h3 : ∀ (i : Fin 2) (j : Fin 512), (x3 (ix2 i j) : EReal) = I.L i j
  h4 : ∀ (k : Fin 4) (j : Fin 1024), (x4 (ix2 k j) : EReal) = I.Cw k j
  h5 : ∀ j : Fin 1024, (x5 (ix1 j) : EReal) = I.Cb j

variable {I : Args} {x0 : Vec Ideal S32768x1024 .f32} {x1 : Vec Ideal S2x4x1024 .f32} {x2 : Vec Ideal S1024x3592 .f32}
  {x3 : Vec Ideal S2x512 .f32} {x4 : Vec Ideal S4x1024 .f32} {x5 : Vec Ideal S1024 .f32}

/-! ## The products, in the weights' own order of columns -/

/-- The products with the weights as given. -/
def qo (I : Args) (r j : Nat) : EReal := ∑ k : Fin 1024, hn I r k * I.W k j

theorem qo_lo (r j : Nat) (h : j < 1024) : qo I r (2560 + j) = q I r j := by
  unfold qo q Cert.OddModel.wod
  simp only [if_pos h]
theorem qo_mid (r j : Nat) (h : j < 2560) : qo I r j = q I r (1024 + j) := by
  unfold qo q Cert.OddModel.wod
  simp only [if_neg (show ¬1024 + j < 1024 by omega), if_pos (show 1024 + j < 3584 by omega), Nat.add_sub_cancel_left]
theorem qo_hi (r j : Nat) (h0 : 3584 ≤ j) (h : j < 3592) : qo I r j = q I r j := by
  unfold qo q Cert.OddModel.wod
  simp only [if_neg (show ¬j < 1024 by omega), if_neg (show ¬j < 3584 by omega), if_pos h]

/-- A row normed by its mean square, as the reference writes it. -/
theorem norm_at (M : FVec Ideal S16x2048x1024 .f32) (g : FVec Ideal S1024 .f32) (f G : Nat → EReal) (b : Fin 16) (t : Fin 2048) (c : Fin 1024)
    (hM : ∀ k : Fin 1024, (M (ix3 b t k) : EReal) = f k) (hg : ∀ k : Fin 1024, (g (ix1 k) : EReal) = G k) :
    mulf (mulf M (broadcastInDim S16x2048x1024 ![0, 1, 2] bcast_S16x2048x1_S16x2048x1024_0_1_2 (Host.rsqrt (addf (Host.divf
      (broadcastInDim S16x2048x1 ![0, 1] bcast_S16x2048_S16x2048x1_0_1
        (Host.reduceAdd (mulf M M) (constant S_ .f32 0x00000000#32) reducesTo_S16x2048x1024_S16x2048_d2 h_S_))
      (broadcastInDim S16x2048x1 ![] bcast_S_S16x2048x1 (constant S_ FTy.f32 0x44800000#32)))
      (broadcastInDim S16x2048x1 ![] bcast_S_S16x2048x1 (constant S_ FTy.f32 0x358637BD#32))))))
      (broadcastInDim S16x2048x1024 ![0, 1, 2] bcast_S1x1x1024_S16x2048x1024_0_1_2 (broadcastInDim S1x1x1024 ![2] bcast_S1024_S1x1x1024_2 g)) (ix3 b t c)
      = Cert.FfnModel.rms f G c := by
  pointwise
  simp only [hM, hg]
  rfl

theorem v4_at (hI : Holds I x0 x1 x2 x3 x4 x5) (c : Fin 1024) : val_main_v4 (F := Ideal) x1 (ix1 c) = I.G c := by
  unfold val_main_v4 val_main_v3 val_main_v2 val_main_v1
  pointwise
  exact hI.h1 c

theorem v0_at (hI : Holds I x0 x1 x2 x3 x4 x5) (b : Fin 16) (t : Fin 2048) (c : Fin 1024) :
    val_main_v0 (F := Ideal) x0 (ix3 b t c) = I.X (2048 * b + t) c := by
  unfold val_main_v0
  pointwise
  have er : b.val * 2048 + t.val = 2048 * b.val + t.val := by omega
  simp only [hI.h0, er]

theorem v17_at (hI : Holds I x0 x1 x2 x3 x4 x5) (b : Fin 16) (t : Fin 2048) (c : Fin 1024) :
    val_main_v17 (F := Ideal) x0 x1 (ix3 b t c) = hn I (2048 * b + t) c :=
  norm_at (val_main_v0 (F := Ideal) x0) (val_main_v4 (F := Ideal) x1) _ I.G b t c (v0_at hI b t) (v4_at hI)

theorem v18_at (hI : Holds I x0 x1 x2 x3 x4 x5) (b : Fin 16) (t : Fin 2048) (j : Fin 3592) :
    val_main_v18 (F := Ideal) x0 x1 x2 (ix3 b t j) = qo I (2048 * b + t) j := by
  have e := v17_at hI b t
  unfold val_main_v18
  generalize val_main_v17 (F := Ideal) x0 x1 = M at e ⊢
  pointwise
  simp only [e, hI.h2]
  rfl

/-- A range of columns of the products. -/
theorem part_at (M : FVec Ideal S16x2048x3592 .f32) (f : Nat → EReal) (b : Fin 16) (t : Fin 2048) (hM : ∀ j : Fin 3592, (M (ix3 b t j) : EReal) = f j)
    (j : Fin 512) :
    (extractStridedSlice S16x2048x512 ![0, 0, 0] M slices_S16x2048x3592_S16x2048x512_0_0_0 (ix3 b t j) : EReal) = f j
    ∧ (extractStridedSlice S16x2048x512 ![0, 0, 512] M slices_S16x2048x3592_S16x2048x512_0_0_512 (ix3 b t j) : EReal) = f (512 + j)
    ∧ (extractStridedSlice S16x2048x512 ![0, 0, 1024] M slices_S16x2048x3592_S16x2048x512_0_0_1024 (ix3 b t j) : EReal) = f (1024 + j)
    ∧ (extractStridedSlice S16x2048x512 ![0, 0, 1536] M slices_S16x2048x3592_S16x2048x512_0_0_1536 (ix3 b t j) : EReal) = f (1536 + j)
    ∧ (extractStridedSlice S16x2048x512 ![0, 0, 2048] M slices_S16x2048x3592_S16x2048x512_0_0_2048 (ix3 b t j) : EReal) = f (2048 + j) := by
  refine ⟨?_, ?_, ?_, ?_, ?_⟩ <;> pointwise <;> simp only [hM]

theorem v19_at (hI : Holds I x0 x1 x2 x3 x4 x5) (b : Fin 16) (t : Fin 2048) (j : Fin 512) :
    val_main_v19 (F := Ideal) x0 x1 x2 (ix3 b t j) = q I (2048 * b + t) (1024 + j) :=
  ((part_at (val_main_v18 (F := Ideal) x0 x1 x2) _ b t (v18_at hI b t) j).1).trans (qo_mid _ _ (by omega))
theorem v20_at (hI : Holds I x0 x1 x2 x3 x4 x5) (b : Fin 16) (t : Fin 2048) (j : Fin 512) :
    val_main_v20 (F := Ideal) x0 x1 x2 (ix3 b t j) = q I (2048 * b + t) (1536 + j) :=
  ((part_at (val_main_v18 (F := Ideal) x0 x1 x2) _ b t (v18_at hI b t) j).2.1).trans
    ((qo_mid _ _ (by omega)).trans (by rw [show 1024 + (512 + j.val) = 1536 + j.val by omega]))
theorem v21_at (hI : Holds I x0 x1 x2 x3 x4 x5) (b : Fin 16) (t : Fin 2048) (j : Fin 512) :
    val_main_v21 (F := Ideal) x0 x1 x2 (ix3 b t j) = q I (2048 * b + t) (2048 + j) :=
  ((part_at (val_main_v18 (F := Ideal) x0 x1 x2) _ b t (v18_at hI b t) j).2.2.1).trans
    ((qo_mid _ _ (by omega)).trans (by rw [show 1024 + (1024 + j.val) = 2048 + j.val by omega]))
theorem v22_at (hI : Holds I x0 x1 x2 x3 x4 x5) (b : Fin 16) (t : Fin 2048) (j : Fin 512) :
    val_main_v22 (F := Ideal) x0 x1 x2 (ix3 b t j) = q I (2048 * b + t) (2560 + j) :=
  ((part_at (val_main_v18 (F := Ideal) x0 x1 x2) _ b t (v18_at hI b t) j).2.2.2.1).trans
    ((qo_mid _ _ (by omega)).trans (by rw [show 1024 + (1536 + j.val) = 2560 + j.val by omega]))
theorem v23_at (hI : Holds I x0 x1 x2 x3 x4 x5) (b : Fin 16) (t : Fin 2048) (j : Fin 512) :
    val_main_v23 (F := Ideal) x0 x1 x2 (ix3 b t j) = q I (2048 * b + t) (3072 + j) :=
  ((part_at (val_main_v18 (F := Ideal) x0 x1 x2) _ b t (v18_at hI b t) j).2.2.2.2).trans
    ((qo_mid _ _ (by omega)).trans (by rw [show 1024 + (2048 + j.val) = 3072 + j.val by omega]))
theorem v24_at (hI : Holds I x0 x1 x2 x3 x4 x5) (b : Fin 16) (t : Fin 2048) (j : Fin 1024) :
    val_main_v24 (F := Ideal) x0 x1 x2 (ix3 b t j) = q I (2048 * b + t) j := by
  have e := v18_at hI b t
  unfold val_main_v24
  generalize val_main_v18 (F := Ideal) x0 x1 x2 = M at e ⊢
  pointwise
  simp only [e]
  exact qo_lo _ _ j.isLt
theorem v25_at (hI : Holds I x0 x1 x2 x3 x4 x5) (b : Fin 16) (t : Fin 2048) (j : Fin 8) :
    val_main_v25 (F := Ideal) x0 x1 x2 (ix3 b t j) = q I (2048 * b + t) (3584 + j) := by
  have e := v18_at hI b t
  unfold val_main_v25
  generalize val_main_v18 (F := Ideal) x0 x1 x2 = M at e ⊢
  pointwise
  simp only [e]
  exact qo_hi _ _ (by omega) (by omega)

/-! ## The lower bound -/

theorem v36_at (hI : Holds I x0 x1 x2 x3 x4 x5) (i : Fin 2) (j : Fin 512) : val_main_v36 (F := Ideal) x3 (ix2 i j) = share I i j := by
  have e : ∀ (i : Fin 2) (j : Fin 512), (x3 (ix2 i j) : EReal) = I.L i j := hI.h3
  have em : ∀ j : Fin 512, val_main_v28 (F := Ideal) x3 (ix1 j) = Cert.OddModel.top I j := fun j => by
    unfold val_main_v28 val_main_v27 val_main_v26 val_main_cst_2 val_main_cst_3
    pointwise
    simp only [e]
    exact Cert.OddModel.max_top I j
  unfold val_main_v36 val_main_v35 val_main_v34 val_main_v33 val_main_v32 val_main_v31 val_main_v30 val_main_v29 val_main_cst_4
  generalize val_main_v28 (F := Ideal) x3 = M at em ⊢
  pointwise
  simp only [e, em]
  rfl

/-- Adding up along a list. -/
theorem foldl_add {α : Type} (l : List α) (F : EReal → α → EReal) (g : α → EReal) (h : ∀ n r, F r n = r + g n) (init : EReal) :
    l.foldl F init = init + (l.map g).sum := by
  induction l generalizing init with
  | nil => simp
  | cons a l ih => rw [List.foldl_cons, ih, h, List.map_cons, List.sum_cons, add_assoc]

open Idealize.ShloMosaic.Routing in
/-- The running sum over two rows, at the second. -/
theorem window_at (Y : FVec Ideal S2x512 .f32) (f : Nat → EReal) (j : Fin 512) (hY : ∀ i : Fin 2, (Y (ix2 i j) : EReal) = f i) :
    (Host.reduceWindowAdd ![2, 1] ![1, 1] ![1, 0] ![0, 0] Y (val_main_call0_call0_v0 (F := Ideal)) reduceWindows_S2x512_S2x512_w2s1p1_0_w1s1p0_0 h_S_ (ix2 1 j) : EReal)
      = f 0 + f 1 := by
  have hi : (val_main_call0_call0_v0 (F := Ideal) (Shape.Idx.first h_S_) : EReal) = 0 := by
    rw [ValueIdx.eq_ix0 (Shape.Idx.first h_S_)]
    unfold val_main_call0_call0_v0 val_main_call0_call0_cst
    pointwise
  show (Host.reduceWindow (fun x y : EReal => x + y) ![2, 1] ![1, 1] ![1, 0] ![0, 0] Y
    (fun _ : (⟨0, ![]⟩ : Shape).Idx => val_main_call0_call0_v0 (F := Ideal) (Shape.Idx.first h_S_))
    reduceWindows_S2x512_S2x512_w2s1p1_0_w1s1p0_0 h_S_ (ix2 1 j) : EReal) = _
  unfold Host.reduceWindow
  have hj := j.isLt
  refine (foldl_add _ _ (fun n => f n.val) (fun n r => ?_) _).trans ?_
  · have hw0 : ((shape2 2 1).rowMajor.symm n 0).val = n.val := by rw [symm_col]; rfl
    have hw1 : ((shape2 2 1).rowMajor.symm n 1).val = 0 := by rw [symm_col]; rfl
    have hn : n.val < 2 := (n.cast (numel_col 2)).isLt
    dsimp only
    rw [dif_pos fun a => by
      match a with
      | ⟨0, _⟩ =>
        show 1 ≤ 1 * 1 + ((shape2 2 1).rowMajor.symm n 0).val ∧ 1 * 1 + ((shape2 2 1).rowMajor.symm n 0).val - 1 < 2
        rw [hw0]
        omega
      | ⟨1, _⟩ =>
        show 0 ≤ j.val * 1 + ((shape2 2 1).rowMajor.symm n 1).val ∧ j.val * 1 + ((shape2 2 1).rowMajor.symm n 1).val - 0 < 512
        rw [hw1]
        omega]
    refine congrArg (fun x : EReal => r + x) ((congrArg Y (funext fun a => Fin.ext ?_)).trans (hY ⟨n.val, hn⟩))
    match a with
    | ⟨0, _⟩ =>
      show 1 * 1 + ((shape2 2 1).rowMajor.symm n 0).val - 1 = n.val
      rw [hw0]
      omega
    | ⟨1, _⟩ =>
      show j.val * 1 + ((shape2 2 1).rowMajor.symm n 1).val - 0 = j.val
      rw [hw1]
      omega
  · rw [hi, zero_add, map_finRange_val _ f]
    refine (congrArg (fun M => ((List.range M).map f).sum) (numel_col 2)).trans ?_
    simp [List.range_succ]

theorem v44_at (hI : Holds I x0 x1 x2 x3 x4 x5) (j : Fin 512) : val_main_v44 (F := Ideal) x3 (ix1 j) = low I j := by
  have e := v36_at hI
  have ew : val_main_v37 (F := Ideal) x3 (ix2 1 j) = share I 0 j + share I 1 j :=
    window_at (val_main_v36 (F := Ideal) x3) (fun i => share I i j) j fun i => e i j
  unfold val_main_v44 val_main_v43 val_main_v42 val_main_v41 val_main_v40 val_main_v39 val_main_v38
  generalize val_main_v37 (F := Ideal) x3 = N at ew ⊢
  generalize val_main_v36 (F := Ideal) x3 = M at e ⊢
  pointwise
  rw [ew, e]
  rfl

/-! ## The gates, the decay and the key -/

theorem silu_at (M : FVec Ideal S16x2048x512 .f32) (f : Nat → EReal) (b : Fin 16) (t : Fin 2048) (j : Fin 512) (hM : (M (ix3 b t j) : EReal) = f j)
    (hf : f j ≠ ⊥) :
    (mulf M (Host.divf (broadcastInDim S16x2048x512 ![] bcast_S_S16x2048x512 (constant S_ .f32 0x3F800000#32))
      (addf (broadcastInDim S16x2048x512 ![] bcast_S_S16x2048x512 (constant S_ .f32 0x3F800000#32)) (Host.exp (Host.negf M)))) (ix3 b t j) : EReal)
      = gate (f j) := by
  pointwise
  rw [hM, gate_eq _ hf, ← Cert.OddModel.sig_eq]
  rfl

theorem v58_at (hI : Holds I x0 x1 x2 x3 x4 x5) (b : Fin 16) (t : Fin 2048) (j : Fin 512) :
    val_main_v58 (F := Ideal) x0 x1 x2 x3 (ix3 b t j) = low I j + (1 - low I j) * Cert.OddModel.sig (q I (2048 * b + t) (1536 + j)) := by
  have e := v20_at hI b t
  have el := v44_at hI
  unfold val_main_v58 val_main_v57 val_main_v56 val_main_v55 val_main_v54 val_main_v53 val_main_v52 val_main_v51 val_main_v50 val_main_v49
    val_main_v48 val_main_v47 val_main_v46 val_main_v45 val_main_cst_5 val_main_cst_6 val_main_cst_7
  generalize val_main_v20 (F := Ideal) x0 x1 x2 = M at e ⊢
  generalize val_main_v44 (F := Ideal) x3 = N at el ⊢
  pointwise
  rw [e, el]
  rfl

theorem v104_at (hI : Holds I x0 x1 x2 x3 x4 x5) (b : Fin 16) (t : Fin 2048) (j : Fin 512) :
    val_main_v104 (F := Ideal) x0 x1 x2 x3 (ix3 b t j) = Cert.OddModel.decay I (2048 * b + t) j :=
  congrArg Ideal.log (v58_at hI b t j)

theorem v70_at (hI : Holds I x0 x1 x2 x3 x4 x5) (b : Fin 16) (t : Fin 2048) (j : Fin 512) :
    val_main_v70 (F := Ideal) x0 x1 x2 x3 (ix3 b t j) = Cert.OddModel.key I (2048 * b + t) j := by
  have e := v20_at hI b t
  have el := v44_at hI
  unfold val_main_v70 val_main_v69 val_main_v68 val_main_v67 val_main_v66 val_main_v65 val_main_v64 val_main_v63 val_main_v62 val_main_v61
    val_main_v60 val_main_v59 val_main_cst_8 val_main_cst_9 val_main_cst_10
  generalize val_main_v20 (F := Ideal) x0 x1 x2 = M at e ⊢
  generalize val_main_v44 (F := Ideal) x3 = N at el ⊢
  pointwise
  rw [e, el]
  rfl

theorem v71_at (hI : Holds I x0 x1 x2 x3 x4 x5) (b : Fin 16) (t : Fin 2051) (j : Fin 1024) :
    val_main_v71 (F := Ideal) x0 x1 x2 (ix3 b t j) = if t.val < 3 then 0 else q I (2048 * b + t - 3) j := by
  have e := v24_at hI b
  unfold val_main_v71 val_main_call1_v0 val_main_c
  generalize val_main_v24 (F := Ideal) x0 x1 x2 = M at e ⊢
  pointwise
  have ht := t.isLt
  by_cases h : t.val < 3
  · rw [dif_neg (by omega), if_pos h]
    show (((0#32 : BitVec 32).toInt : ℝ) : EReal) = 0
    simp
  · rw [dif_pos ⟨by omega, by omega⟩, if_neg h, e]
    exact congrArg (fun n => q I n _) (by show 2048 * b.val + (t.val - 3) = _; omega)

theorem v101_at (hI : Holds I x0 x1 x2 x3 x4 x5) (b : Fin 16) (t : Fin 2048) (j : Fin 1024) :
    val_main_v101 (F := Ideal) x0 x1 x2 x4 x5 (ix3 b t j) = Cert.OddModel.conv I (2048 * b + t) j := by
  have e := v71_at hI b
  unfold val_main_v101 val_main_v100 val_main_v99 val_main_v98 val_main_v97 val_main_v96 val_main_v95 val_main_v94 val_main_v93 val_main_v92
    val_main_v91 val_main_v90 val_main_v89 val_main_v88 val_main_v87 val_main_v86 val_main_v85 val_main_v84 val_main_v83 val_main_v82 val_main_v81
    val_main_v80 val_main_v79 val_main_v78 val_main_v77 val_main_v76 val_main_v75 val_main_v74 val_main_v73 val_main_v72
  generalize val_main_v71 (F := Ideal) x0 x1 x2 = M at e ⊢
  pointwise
  simp only [e, hI.h4, hI.h5]
  have hb : ∀ o k : Nat, o + k = 3 → (if o + t.val < 3 then (0 : EReal) else q I (2048 * b.val + (o + t.val) - 3) j)
      = Cert.OddModel.back I (2048 * b.val + t.val) k j := fun o k hk => by
    have ht := t.isLt
    unfold Cert.OddModel.back
    by_cases h : o + t.val < 3
    · rw [if_pos h, if_pos (by omega)]
    · rw [if_neg h, if_neg (by omega)]
      exact congrArg (fun n => q I n _) (by omega)
  have h0 := hb 0 3 rfl
  have h1 := hb 1 2 rfl
  have h2 := hb 2 1 rfl
  have h3 := hb 3 0 rfl
  rw [Nat.zero_add] at h0
  have h4 : Cert.OddModel.back I (2048 * b.val + t.val) 0 j = q I (2048 * b.val + t.val) j := by
    unfold Cert.OddModel.back
    rw [if_neg (Nat.not_lt_zero _), Nat.sub_zero]
  rw [h0, h1, h2, h3, h4]
  rfl

theorem v102_at (hI : Holds I x0 x1 x2 x3 x4 x5) (hf : FinGate I) (b : Fin 16) (t : Fin 2048) (j : Fin 1024) :
    val_main_v102 (F := Ideal) x0 x1 x2 x4 x5 (ix3 b t j) = gate (Cert.OddModel.conv I (2048 * b + t) j) := by
  have e := v101_at hI b t j
  unfold val_main_v102 val_main_call2_v5 val_main_call2_v4 val_main_call2_v3 val_main_call2_v2 val_main_call2_v1 val_main_call2_v0
    val_main_call2_cst val_main_call2_cst_0
  generalize val_main_v101 (F := Ideal) x0 x1 x2 x4 x5 = M at e ⊢
  pointwise
  rw [e, gate_eq _ (Cert.OddModel.conv_fin I hf _ _ j.isLt).ne_bot, ← Cert.OddModel.sig_eq]
  rfl

theorem v103_at (hI : Holds I x0 x1 x2 x3 x4 x5) (hf : FinGate I) (b : Fin 16) (t : Fin 2048) (j : Fin 512) :
    val_main_v103 (F := Ideal) x0 x1 x2 (ix3 b t j) = gate (q I (2048 * b + t) (1024 + j)) :=
  silu_at (val_main_v19 (F := Ideal) x0 x1 x2) (fun j => q I (2048 * b + t) (1024 + j)) b t j (v19_at hI b t j)
    (Cert.OddModel.q_fin I hf _ _ (by omega)).ne_bot
theorem v105_at (hI : Holds I x0 x1 x2 x3 x4 x5) (hf : FinGate I) (b : Fin 16) (t : Fin 2048) (j : Fin 512) :
    val_main_v105 (F := Ideal) x0 x1 x2 (ix3 b t j) = gate (q I (2048 * b + t) (2560 + j)) :=
  silu_at (val_main_v22 (F := Ideal) x0 x1 x2) (fun j => q I (2048 * b + t) (2560 + j)) b t j (v22_at hI b t j)
    (Cert.OddModel.q_fin I hf _ _ (by omega)).ne_bot
theorem v106_at (hI : Holds I x0 x1 x2 x3 x4 x5) (hf : FinGate I) (b : Fin 16) (t : Fin 2048) (j : Fin 512) :
    val_main_v106 (F := Ideal) x0 x1 x2 (ix3 b t j) = gate (q I (2048 * b + t) (3072 + j)) :=
  silu_at (val_main_v23 (F := Ideal) x0 x1 x2) (fun j => q I (2048 * b + t) (3072 + j)) b t j (v23_at hI b t j)
    (Cert.OddModel.q_fin I hf _ _ (by omega)).ne_bot

/-! ## The packed rows -/

theorem v108_at (hI : Holds I x0 x1 x2 x3 x4 x5) (hf : FinGate I) (b : Fin 16) (t : Fin 2048) (j : Fin 4224) :
    val_main_v108 (F := Ideal) x0 x1 x2 x3 x4 x5 (ix3 b t j) = Cert.OddModel.out I (2048 * b + t) j := by
  have e0 := v102_at hI hf b t
  have e1 := v103_at hI hf b t
  have e2 := v104_at hI b t
  have e3 := v70_at hI b t
  have e4 := v21_at hI b t
  have e5 := v105_at hI hf b t
  have e6 := v106_at hI hf b t
  have e7 := v25_at hI b t
  unfold val_main_v108 val_main_v107 val_main_cst_11
  generalize val_main_v102 (F := Ideal) x0 x1 x2 x4 x5 = A0 at e0 ⊢
  generalize val_main_v103 (F := Ideal) x0 x1 x2 = A1 at e1 ⊢
  generalize val_main_v104 (F := Ideal) x0 x1 x2 x3 = A2 at e2 ⊢
  generalize val_main_v70 (F := Ideal) x0 x1 x2 x3 = A3 at e3 ⊢
  generalize val_main_v21 (F := Ideal) x0 x1 x2 = A4 at e4 ⊢
  generalize val_main_v105 (F := Ideal) x0 x1 x2 = A5 at e5 ⊢
  generalize val_main_v106 (F := Ideal) x0 x1 x2 = A6 at e6 ⊢
  generalize val_main_v25 (F := Ideal) x0 x1 x2 = A7 at e7 ⊢
  pointwise
  simp only [e0, e1, e2, e3, e4, e5, e6, e7]
  by_cases h0 : j.val < 1024
  · rw [dif_pos h0, Cert.OddModel.out_conv I _ _ h0]
  rw [dif_neg h0]
  by_cases h1 : j.val < 1536
  · rw [dif_pos (by omega), Cert.OddModel.out_query I _ _ (by omega) h1, show 1024 + (j.val - 1024) = j.val by omega]
  rw [dif_neg (by omega)]
  by_cases h2 : j.val < 2048
  · rw [dif_pos (by omega), Cert.OddModel.out_decay I _ _ (by omega) h2, show j.val - 1024 - 512 = j.val - 1536 by omega]
  rw [dif_neg (by omega)]
  by_cases h3 : j.val < 2560
  · rw [dif_pos (by omega), Cert.OddModel.out_key I _ _ (by omega) h3, show j.val - 1024 - 512 - 512 = j.val - 2048 by omega]
  rw [dif_neg (by omega)]
  by_cases h4 : j.val < 3072
  · rw [dif_pos (by omega), Cert.OddModel.out_plain I _ _ (by omega) h4, show 2048 + (j.val - 1024 - 512 - 512 - 512) = j.val - 512 by omega]
  rw [dif_neg (by omega)]
  by_cases h5 : j.val < 3584
  · rw [dif_pos (by omega), Cert.OddModel.out_gate I _ _ (by omega) (by omega), show 2560 + (j.val - 1024 - 512 - 512 - 512 - 512) = j.val - 512 by omega]
  rw [dif_neg (by omega)]
  by_cases h6 : j.val < 4096
  · rw [dif_pos (by omega), Cert.OddModel.out_gate I _ _ (by omega) h6, show 3072 + (j.val - 1024 - 512 - 512 - 512 - 512 - 512) = j.val - 512 by omega]
  rw [dif_neg (by omega), Cert.OddModel.out_small I _ _ (by omega)]
  by_cases h7 : j.val < 4104
  · rw [dif_pos (by omega), show 3584 + (j.val - 1024 - 512 - 512 - 512 - 512 - 512 - 512) = j.val - 512 by omega]
  rw [dif_neg (by omega)]
  exact (Cert.OddModel.q_zero I _ _ (by omega)).symm

/-- The reference's result at a row and column. -/
theorem v109_at (hI : Holds I x0 x1 x2 x3 x4 x5) (hf : FinGate I) (r : Fin 32768) (j : Fin 4224) :
    val_main_v109 (F := Ideal) x0 x1 x2 x3 x4 x5 (ix2 r j) = Cert.OddModel.out I r j := by
  have er : 2048 * (r.val / 2048) + r.val % 2048 = r.val := Nat.div_add_mod _ _
  have e : val_main_v108 (F := Ideal) x0 x1 x2 x3 x4 x5 (ix3 ⟨r.val / 2048, by omega⟩ ⟨r.val % 2048, by omega⟩ j) = Cert.OddModel.out I r j := by
    refine (v108_at hI hf ⟨r.val / 2048, by omega⟩ ⟨r.val % 2048, by omega⟩ j).trans ?_
    simp only [er]
  rw [← e]
  unfold val_main_v109
  generalize val_main_v108 (F := Ideal) x0 x1 x2 x3 x4 x5 = M
  pointwise

end Cert.Reference3Ideal.Odd

end
-- ==== Proof.OddPre.lean ====
/- The precondition of the projections read: where it holds, the weights the gates are fed from are finite. -/
module

public import proofs.«01_k».proof.Proof.OddRef
public import proofs.«01_k».proof.Proof.FfnPre
public import proofs.«01_k».proof.Proof.Gen.Pre_finite_silu_weights
public import Idealize.ShloMosaic.Lib.Pointwise

@[expose] public section

set_option maxRecDepth 16384

noncomputable section

namespace Cert.Pre_finite_silu_weights.Odd

open Cert.Pre_finite_silu_weights Idealize.ShloMosaic Idealize.ShloMosaic.TcCoe Idealize.SL.Sem
open Cert.OddModel (Args FinGate)
open Cert.FfnModel (IsReal)
open Cert.Pre_finite_gate_weights.Ffn (real_of_cmp)
open Cert.Reference3Ideal.Odd (Holds)

variable (x0 : FVec Ideal S32768x1024 .f32) (x1 : FVec Ideal S2x4x1024 .f32) (x2 : FVec Ideal S1024x3592 .f32) (x3 : FVec Ideal S2x512 .f32)
  (x4 : FVec Ideal S4x1024 .f32) (x5 : FVec Ideal S1024 .f32)

theorem norm_real (h : (fn (F := Ideal) x0 x1 x2 x3 x4 x5).1 = fun _ => 1#1) (k : Fin 1024) : IsReal (x1 (ix3 1 0 k)) := by
  have e := congrFun h (ix1 k)
  unfold fn at e
  dsimp only at e
  pointwise at e
  exact real_of_cmp _ e

theorem query_real (h : (fn (F := Ideal) x0 x1 x2 x3 x4 x5).2.1 = fun _ => 1#1) (k : Fin 1024) (j : Fin 512) : IsReal (x2 (ix2 k ⟨j.val, by omega⟩)) := by
  have e := congrFun h (ix2 k j)
  unfold fn at e
  dsimp only at e
  pointwise at e
  exact real_of_cmp _ e

theorem rest_real (h : (fn (F := Ideal) x0 x1 x2 x3 x4 x5).2.2.1 = fun _ => 1#1) (k : Fin 1024) (j : Fin 2048) :
    IsReal (x2 (ix2 k ⟨1536 + j.val, by omega⟩)) := by
  have e := congrFun h (ix2 k j)
  unfold fn at e
  dsimp only at e
  pointwise at e
  exact real_of_cmp _ e

theorem conv_real (h : (fn (F := Ideal) x0 x1 x2 x3 x4 x5).2.2.2.1 = fun _ => 1#1) (k : Fin 4) (j : Fin 1024) : IsReal (x4 (ix2 k j)) := by
  have e := congrFun h (ix2 k j)
  unfold fn at e
  dsimp only at e
  pointwise at e
  exact real_of_cmp _ e

theorem bias_real (h : (fn (F := Ideal) x0 x1 x2 x3 x4 x5).2.2.2.2 = fun _ => 1#1) (j : Fin 1024) : IsReal (x5 (ix1 j)) := by
  have e := congrFun h (ix1 j)
  unfold fn at e
  dsimp only at e
  pointwise at e
  exact real_of_cmp _ e

/-- What the precondition says of the arrays a call is given. -/
theorem finGate {I : Args} (hI : Holds I x0 x1 x2 x3 x4 x5)
    (h : (fn (F := Ideal) x0 x1 x2 x3 x4 x5).1 = (fun _ => 1#1) ∧ (fn (F := Ideal) x0 x1 x2 x3 x4 x5).2.1 = (fun _ => 1#1)
      ∧ (fn (F := Ideal) x0 x1 x2 x3 x4 x5).2.2.1 = (fun _ => 1#1) ∧ (fn (F := Ideal) x0 x1 x2 x3 x4 x5).2.2.2.1 = (fun _ => 1#1)
      ∧ (fn (F := Ideal) x0 x1 x2 x3 x4 x5).2.2.2.2 = (fun _ => 1#1)) : FinGate I := by
  refine ⟨fun c hc => ?_, fun k hk j hj => ?_, fun k hk j hj => ?_, fun k hk j hj => ?_, fun j hj => ?_⟩
  · exact (hI.h1 ⟨c, hc⟩) ▸ norm_real x0 x1 x2 x3 x4 x5 h.1 ⟨c, hc⟩
  · exact (hI.h2 ⟨k, hk⟩ ⟨j, by omega⟩) ▸ query_real x0 x1 x2 x3 x4 x5 h.2.1 ⟨k, hk⟩ ⟨j, hj⟩
  · exact (hI.h2 ⟨k, hk⟩ ⟨1536 + j, by omega⟩) ▸ rest_real x0 x1 x2 x3 x4 x5 h.2.2.1 ⟨k, hk⟩ ⟨j, hj⟩
  · exact (hI.h4 ⟨k, hk⟩ ⟨j, hj⟩) ▸ conv_real x0 x1 x2 x3 x4 x5 h.2.2.2.1 ⟨k, hk⟩ ⟨j, hj⟩
  · exact (hI.h5 ⟨j, hj⟩) ▸ bias_real x0 x1 x2 x3 x4 x5 h.2.2.2.2 ⟨j, hj⟩

end Cert.Pre_finite_silu_weights.Odd

end
-- ==== Proof.EvenStages.lean ====
/- The stages of one 256-row tile of the first layer's input projection, as functions of the vectors they read, at any chunk of 256 columns. The body
   writes them out once per chunk; `EvenPieces.lean` shows that what it stores are these functions, and `EvenStageVals.lean` reads each at an index. -/
module

public import proofs.«01_k».proof.Proof.Gen.Kernel4Ideal.Skeleton
public import Idealize.ShloMosaic.Lib.Pipeline.ValueKit

@[expose] public section

set_option maxRecDepth 16384

noncomputable section

namespace Cert.Kernel4Ideal.Even

open Cert.Kernel4Ideal Cert.Kernel4Ideal.Gen Idealize.ShloMosaic Idealize.ShloMosaic.TcCoe Idealize.SL.Sem

variable {F : FTy → Type} [FloatOps F]

/-! ## The slices, at any chunk -/

theorem inW : ∀ c : Fin 14, ∀ a, (![0, 256 * c.val] : Fin 2 → Nat) a + S1024x256.size a ≤ S1024x3712.size a := by decide
theorem inC : ∀ (k : Fin 4) (c : Fin 6), ∀ a, (![k.val, 256 * c.val] : Fin 2 → Nat) a + S1x256.size a ≤ S4x1536.size a := by decide
theorem inS : ∀ c : Fin 6, ∀ a, (![0, 256 * c.val] : Fin 2 → Nat) a + S8x256.size a ≤ S8x1536.size a := by decide
theorem inQ : ∀ c : Fin 6, ∀ a, (![0, 256 * c.val] : Fin 2 → Nat) a + S256x256.size a ≤ S256x1536.size a := by decide
theorem inA : ∀ (c : Fin 6) (d : Fin 2), ∀ a, (![0, 256 * c.val + 128 * d.val] : Fin 2 → Nat) a + S256x128.size a ≤ S256x1536.size a := by decide
theorem inG : ∀ c : Fin 2, ∀ a, (![0, 256 * c.val] : Fin 2 → Nat) a + S256x256.size a ≤ S256x512.size a := by decide
theorem inD : ∀ d : Fin 2, S256x256.Slices ![0, 128 * d.val] S256x128 := by decide

/-- The projection weights, the taps and the carried rows, at a chunk's columns; the small weights. -/
def wC (x2 : Vec F S1024x3712 .bf16) (c : Fin 14) : Vec F S1024x256 .bf16 := View.ld x2 (Rect.unit (s := S1024x3712) ![0, 256 * c.val] S1024x256.size (inW c))
def tapC (x3 : Vec F S4x1536 .f32) (k : Fin 4) (c : Fin 6) : Vec F S1x256 .f32 :=
  View.ld x3 (Rect.unit (s := S4x1536) ![k.val, 256 * c.val] S1x256.size (inC k c))
def carryC (xs : Vec F S8x1536 .f32) (c : Fin 6) : Vec F S8x256 .f32 := View.ld xs (Rect.unit (s := S8x1536) ![0, 256 * c.val] S8x256.size (inS c))
def wS (x2 : Vec F S1024x3712 .bf16) : Vec F S1024x128 .bf16 :=
  View.ld x2 (Rect.unit (s := S1024x3712) ![0, 3584] S1024x128.size inb_S1024x3712_S1024x128_0_3584)

/-! ## The stages -/

/-- A chunk of products; the rows carried to the next tile; the convolved columns' gate. -/
def prodB (hn : FVec F S256x1024 .bf16) (x2 : Vec F S1024x3712 .bf16) (c : Fin 14) : FVec F S256x256 .f32 := k0_pay5 hn (wC x2 c)
def tailB (hn : FVec F S256x1024 .bf16) (x2 : Vec F S1024x3712 .bf16) (c : Fin 6) : FVec F S8x256 .f32 := k0_pay6 (prodB hn x2 ⟨6 + c.val, by omega⟩)
def fedB (hn : FVec F S256x1024 .bf16) (x2 : Vec F S1024x3712 .bf16) (x3 : Vec F S4x1536 .f32) (xs : Vec F S8x1536 .f32) (c : Fin 6) : FVec F S256x256 .f32 :=
  k0_pay7 (prodB hn x2 ⟨6 + c.val, by omega⟩) (carryC xs c) (tapC x3 0 c) (tapC x3 1 c) (tapC x3 2 c) (tapC x3 3 c)
/-- One head of a chunk; it at unit length; it scaled. -/
def headB (v : FVec F S256x256 .f32) (d : Fin 2) : FVec F S256x128 .f32 := extractStridedSlice S256x128 ![0, 128 * d.val] v (inD d)
def unitB (v : FVec F S256x128 .f32) : FVec F S256x128 .f32 :=
  mulf v (broadcastTo S256x128 (rsqrt (addf (shapeCast S256x1 (multiReduction .add [1] S256 (mulf v v) 0x00000000#32 reduces_S256x128_S256 (.inl rfl) rfl) shapeCasts_S256_S256x1)
    (broadcast S256x1 (Scalar.ofBits .f32 0x358637BD#32)))) broadcasts_S256x1_S256x128)
def scaleB (v : FVec F S256x128 .f32) : FVec F S256x128 .f32 := mulf v (broadcast S256x128 (Scalar.ofBits .f32 0x3DB504F3#32))
/-- What is stored of head `d` of chunk `c`. -/
def actB (v : FVec F S256x256 .f32) (c : Fin 6) (d : Fin 2) : FVec F S256x128 .f32 :=
  if c.val < 2 then scaleB (unitB (headB v d)) else if c.val < 4 then unitB (headB v d) else headB v d

/-! ## The stores -/

/-- A store of `w` columns from column `o`. -/
def pc {n m w : Nat} {e : EltTy} (o : Nat) (h : ∀ a, (![0, o] : Fin 2 → Nat) a + (⟨2, ![n, w]⟩ : Shape).size a ≤ (⟨2, ![n, m]⟩ : Shape).size a)
    (v : Vec F ⟨2, ![n, w]⟩ e) : View.Piece (Elt F) ⟨2, ![n, m]⟩ e :=
  ⟨Rect.unit (s := ⟨2, ![n, m]⟩) ![0, o] (⟨2, ![n, w]⟩ : Shape).size h, v⟩

/-- The stores of a point, the last made first: the carried rows, the attention columns, the heads, the gate, the small columns. -/
def lstS (T : Fin 6 → FVec F S8x256 .f32) : List (View.Piece (Elt F) S8x1536 .f32) :=
  [pc _ (inS 5) (T 5), pc _ (inS 4) (T 4), pc _ (inS 3) (T 3), pc _ (inS 2) (T 2), pc _ (inS 1) (T 1), pc _ (inS 0) (T 0)]
def lstQ (T : Fin 6 → FVec F S256x256 .bf16) : List (View.Piece (Elt F) S256x1536 .bf16) :=
  [pc _ (inQ 5) (T 5), pc _ (inQ 4) (T 4), pc _ (inQ 3) (T 3), pc _ (inQ 2) (T 2), pc _ (inQ 1) (T 1), pc _ (inQ 0) (T 0)]
def lstA (T : Fin 6 → Fin 2 → FVec F S256x128 .f32) : List (View.Piece (Elt F) S256x1536 .f32) :=
  [pc _ (inA 5 1) (T 5 1), pc _ (inA 5 0) (T 5 0), pc _ (inA 4 1) (T 4 1), pc _ (inA 4 0) (T 4 0), pc _ (inA 3 1) (T 3 1), pc _ (inA 3 0) (T 3 0),
    pc _ (inA 2 1) (T 2 1), pc _ (inA 2 0) (T 2 0), pc _ (inA 1 1) (T 1 1), pc _ (inA 1 0) (T 1 0), pc _ (inA 0 1) (T 0 1), pc _ (inA 0 0) (T 0 0)]
def lstG (T : Fin 2 → FVec F S256x256 .f32) : List (View.Piece (Elt F) S256x512 .f32) := [pc _ (inG 1) (T 1), pc _ (inG 0) (T 0)]
def lstL (v : FVec F S256x128 .f32) : List (View.Piece (Elt F) S256x128 .f32) := [pc 0 inb_S256x128_S256x128_0_0 v]

/-- What is stored, of the normed rows, the weights, the taps and the carried rows. -/
def resQ (hn : FVec F S256x1024 .bf16) (x2 : Vec F S1024x3712 .bf16) : List (View.Piece (Elt F) S256x1536 .bf16) :=
  lstQ fun c => k0_pay12 (prodB hn x2 ⟨c.val, by omega⟩)
def resA (hn : FVec F S256x1024 .bf16) (x2 : Vec F S1024x3712 .bf16) (x3 : Vec F S4x1536 .f32) (xs : Vec F S8x1536 .f32) : List (View.Piece (Elt F) S256x1536 .f32) :=
  lstA fun c => actB (fedB hn x2 x3 xs c) c
def resG (hn : FVec F S256x1024 .bf16) (x2 : Vec F S1024x3712 .bf16) : List (View.Piece (Elt F) S256x512 .f32) :=
  lstG fun c => k0_pay60 (prodB hn x2 ⟨12 + c.val, by omega⟩)
def resL (hn : FVec F S256x1024 .bf16) (x2 : Vec F S1024x3712 .bf16) : List (View.Piece (Elt F) S256x128 .f32) := lstL (k0_pay59 hn (wS x2))

end Cert.Kernel4Ideal.Even

end
-- ==== Proof.EvenModel.lean ====
/- The first layer's input projection as one function of its arguments, by natural-number row and column. The products are numbered by the columns of
   the reordered weights: the attention columns first, then the convolved ones, the gate's, the small columns and zeros. -/
module

public import proofs.«01_k».proof.Proof.FfnModel

@[expose] public section

noncomputable section

namespace Cert.EvenModel

open Idealize.ShloMosaic
open Cert.FfnModel (IsReal rms gate fin_add fin_mul fin_sum fin_zero rms_fin)

/-- The arguments by row and column: the rows, the gain, the projection weights and the taps. -/
structure Args where
  X : Nat → Nat → EReal
  G : Nat → EReal
  W : Nat → Nat → EReal
  Cw : Nat → Nat → EReal

variable (I : Args)

/-- The weights with their columns reordered, and the products. -/
def wev (k j : Nat) : EReal := if j < 1536 then I.W k j else if j < 3072 then I.W k (8 + j) else if j < 3584 then I.W k (16 + j)
  else if j < 3592 then I.W k (j - 2048) else if j < 3600 then I.W k (j - 512) else 0
def hn (r c : Nat) : EReal := rms (I.X r) I.G c
def q (r j : Nat) : EReal := ∑ k : Fin 1024, hn I r k * wev I k j
/-- The row `k` earlier in the same sequence of 2048, the four-tap convolution and its gate. -/
def back (r k j : Nat) : EReal := if r % 2048 < k then 0 else q I (r - k) (1536 + j)
def conv (r j : Nat) : EReal := back I r 3 j * I.Cw 0 j + back I r 2 j * I.Cw 1 j + back I r 1 j * I.Cw 2 j + q I r (1536 + j) * I.Cw 3 j
def fed (r j : Nat) : EReal := gate (conv I r j)
/-- Column `b` of the 128 from column `o`, over the root of their squares' sum. -/
def unit (f : Nat → EReal) (o b : Nat) : EReal :=
  f (o + b) * Ideal.rsqrt ((∑ k : Fin 128, f (o + k) * f (o + k)) + Ideal.ofBits .f32 897988541#32)
/-- The second result at head `p` and column `b` of it: queries of unit length, scaled, then keys of unit length, then values. -/
def head (r p b : Nat) : EReal :=
  if p < 4 then unit (fed I r) (128 * p) b * Ideal.ofBits .f32 1035273459#32 else if p < 8 then unit (fed I r) (128 * p) b else fed I r (128 * p + b)
def act (r j : Nat) : EReal := head I r (j / 128) (j % 128)
/-- The third result: the gate's columns. -/
def out (r j : Nat) : EReal := gate (q I r (3072 + j))

theorem act_head (r p b : Nat) (hb : b < 128) : act I r (128 * p + b) = head I r p b := by
  unfold act
  rw [show (128 * p + b) / 128 = p by omega, show (128 * p + b) % 128 = b by omega]

/-! ## What the gates are fed -/

/-- What the gates are fed is finite when the weights it comes from are. -/
structure FinGate : Prop where
  g : ∀ c < 1024, IsReal (I.G c)
  w0 : ∀ k < 1024, ∀ j < 1536, IsReal (I.W k (1544 + j))
  w1 : ∀ k < 1024, ∀ j < 512, IsReal (I.W k (3088 + j))
  cw : ∀ k < 4, ∀ j < 1536, IsReal (I.Cw k j)

theorem wev_fin (h : FinGate I) (k j : Nat) (hk : k < 1024) (h0 : 1536 ≤ j) (h1 : j < 3584) : IsReal (wev I k j) := by
  unfold wev
  rw [if_neg (by omega)]
  split
  · rw [show 8 + j = 1544 + (j - 1536) by omega]
    exact h.w0 k hk _ (by omega)
  · rw [show 16 + j = 3088 + (j - 3072) by omega]
    exact h.w1 k hk _ (by omega)

theorem q_fin (h : FinGate I) (r j : Nat) (h0 : 1536 ≤ j) (h1 : j < 3584) : IsReal (q I r j) :=
  fin_sum _ _ fun k _ => fin_mul (rms_fin _ _ _ k.isLt (h.g _ k.isLt)) (wev_fin I h _ _ k.isLt h0 h1)

theorem back_fin (h : FinGate I) (r k j : Nat) (hj : j < 1536) : IsReal (back I r k j) := by
  unfold back
  split
  · exact fin_zero
  · exact q_fin I h _ _ (by omega) (by omega)

theorem conv_fin (h : FinGate I) (r j : Nat) (hj : j < 1536) : IsReal (conv I r j) :=
  fin_add (fin_add (fin_add (fin_mul (back_fin I h _ _ _ hj) (h.cw 0 (by omega) _ hj)) (fin_mul (back_fin I h _ _ _ hj) (h.cw 1 (by omega) _ hj)))
    (fin_mul (back_fin I h _ _ _ hj) (h.cw 2 (by omega) _ hj))) (fin_mul (q_fin I h _ _ (by omega) (by omega)) (h.cw 3 (by omega) _ hj))

/-- The columns past the small ones are zero. -/
theorem q_zero (r j : Nat) (hj : 3600 ≤ j) : q I r j = 0 := by
  have h : ∀ k, wev I k j = 0 := fun k => by
    unfold wev
    rw [if_neg (by omega), if_neg (by omega), if_neg (by omega), if_neg (by omega), if_neg (by omega)]
  unfold q
  simp only [h, mul_zero, Finset.sum_const_zero]

end Cert.EvenModel

end
-- ==== Proof.EvenStageVals.lean ====
/- The stages of `EvenStages.lean` at an index: on blocks that hold the arguments' rows they are the model's terms. -/
module

public import proofs.«01_k».proof.Proof.EvenStages
public import proofs.«01_k».proof.Proof.EvenModel
public import Idealize.ShloMosaic.Lib.Pipeline.ReadBack

@[expose] public section

set_option maxRecDepth 16384

noncomputable section

namespace Cert.Kernel4Ideal.Even

open Cert.Kernel4Ideal Cert.Kernel4Ideal.Gen Idealize.ShloMosaic Idealize.ShloMosaic.TcCoe Idealize.SL.Sem
open Cert.EvenModel (Args)

/-! ## The blocks of a point -/

/-- The blocks hold the arguments' rows of point `t`, and the weights. -/
structure Holds (I : Args) (t : Nat) (x0 : Vec Ideal S256x1024 .f32) (x1 : Vec Ideal S1x1024 .f32) (x2 : Vec Ideal S1024x3712 .bf16)
    (x3 : Vec Ideal S4x1536 .f32) : Prop where
  h0 : ∀ (r : Fin 256) (c : Fin 1024), (x0 (ix2 r c) : EReal) = I.X (256 * t + r) c
  h1 : ∀ c : Fin 1024, (x1 (ix2 0 c) : EReal) = I.G c
  h2 : ∀ (k : Fin 1024) (j : Fin 3712), (x2 (ix2 k j) : EReal) = Cert.EvenModel.wev I k j
  h3 : ∀ (k : Fin 4) (j : Fin 1536), (x3 (ix2 k j) : EReal) = I.Cw k j

/-- The carried rows before point `t`: nothing where a sequence begins, else the last rows of the tile before it. Only the last three are read. -/
def Carries (I : Args) (t : Nat) (xs : Vec Ideal S8x1536 .f32) : Prop :=
  ∀ (a : Fin 8) (j : Fin 1536), (xs (ix2 a j) : EReal) = if t % 8 = 0 then 0 else Cert.EvenModel.q I (256 * t + a - 8) (1536 + j)

variable {I : Args} {t : Nat} {x0 : Vec Ideal S256x1024 .f32} {x1 : Vec Ideal S1x1024 .f32} {x2 : Vec Ideal S1024x3712 .bf16}
  {x3 : Vec Ideal S4x1536 .f32} {xs : Vec Ideal S8x1536 .f32}

theorem normed_at (hI : Holds I t x0 x1 x2 x3) (r : Fin 256) (c : Fin 1024) :
    k0_pay2 (F := Ideal) x0 x1 (ix2 r c) = Cert.EvenModel.hn I (256 * t + r) c := by
  unfold_payloads
  pointwise
  simp only [hI.h0, hI.h1]
  rfl

/-! ## One chunk of columns -/

section chunk

variable {hnV : FVec Ideal S256x1024 .bf16}

theorem prodB_at (hI : Holds I t x0 x1 x2 x3)
    (hh : ∀ (r : Fin 256) (k : Fin 1024), (hnV (ix2 r k) : EReal) = Cert.EvenModel.hn I (256 * t + r) k) (c : Fin 14) (r b : Fin 256) :
    prodB (F := Ideal) hnV x2 c (ix2 r b) = Cert.EvenModel.q I (256 * t + r) (256 * c + b) := by
  unfold prodB wC
  unfold_payloads
  pointwise
  simp only [hh, hI.h2]
  rfl

theorem small_at (hI : Holds I t x0 x1 x2 x3)
    (hh : ∀ (r : Fin 256) (k : Fin 1024), (hnV (ix2 r k) : EReal) = Cert.EvenModel.hn I (256 * t + r) k) (r : Fin 256) (b : Fin 128) :
    k0_pay59 (F := Ideal) hnV (wS x2) (ix2 r b) = Cert.EvenModel.q I (256 * t + r) (3584 + b) := by
  unfold wS
  unfold_payloads
  pointwise
  simp only [hh, hI.h2]
  rfl

theorem qkv_at (v : FVec Ideal S256x256 .f32) (r b : Fin 256) : k0_pay12 (F := Ideal) v (ix2 r b) = v (ix2 r b) := by
  unfold_payloads
  pointwise

theorem gate_at (v : FVec Ideal S256x256 .f32) (r b : Fin 256) : k0_pay60 (F := Ideal) v (ix2 r b) = Cert.FfnModel.gate (v (ix2 r b)) := by
  unfold_payloads
  pointwise
  rfl

/-- The products of a convolved chunk. -/
theorem prodC_at (hI : Holds I t x0 x1 x2 x3)
    (hh : ∀ (r : Fin 256) (k : Fin 1024), (hnV (ix2 r k) : EReal) = Cert.EvenModel.hn I (256 * t + r) k) (c : Fin 6) (r b : Fin 256) :
    prodB (F := Ideal) hnV x2 ⟨6 + c.val, by omega⟩ (ix2 r b) = Cert.EvenModel.q I (256 * t + r) (1536 + (256 * c + b)) :=
  (prodB_at hI hh _ r b).trans (congrArg (Cert.EvenModel.q I _) (by show 256 * (6 + c.val) + b.val = _; omega))

theorem tailB_at (hI : Holds I t x0 x1 x2 x3)
    (hh : ∀ (r : Fin 256) (k : Fin 1024), (hnV (ix2 r k) : EReal) = Cert.EvenModel.hn I (256 * t + r) k) (c : Fin 6) (a : Fin 8) (b : Fin 256) :
    tailB (F := Ideal) hnV x2 c (ix2 a b) = Cert.EvenModel.q I (256 * t + (248 + a)) (1536 + (256 * c + b)) := by
  unfold tailB k0_pay6
  have e := prodC_at hI hh c
  generalize prodB (F := Ideal) hnV x2 ⟨6 + c.val, _⟩ = U at e ⊢
  pointwise
  exact e _ _

theorem fedB_at (hI : Holds I t x0 x1 x2 x3) (hc : Carries I t xs)
    (hh : ∀ (r : Fin 256) (k : Fin 1024), (hnV (ix2 r k) : EReal) = Cert.EvenModel.hn I (256 * t + r) k) (c : Fin 6) (r b : Fin 256) :
    fedB (F := Ideal) hnV x2 x3 xs c (ix2 r b) = Cert.EvenModel.fed I (256 * t + r) (256 * c + b) := by
  have e := prodC_at hI hh c
  unfold fedB k0_pay7 carryC tapC
  generalize prodB (F := Ideal) hnV x2 ⟨6 + c.val, _⟩ = U at e ⊢
  have hcb : 256 * c.val + b.val < 1536 := by have := c.isLt; have := b.isLt; omega
  have hb : ∀ o k : Nat, o + k = 8 → (ho : o ≤ 8) → (if h1 : o + r.val < 8 then (xs (ix2 ⟨o + r.val, h1⟩ ⟨256 * c.val + b.val, hcb⟩) : EReal)
      else U (ix2 ⟨o + r.val - 8, by omega⟩ b)) = Cert.EvenModel.back I (256 * t + r) k (256 * c + b) := fun o k hok _ => by
    unfold Cert.EvenModel.back
    have hr := r.isLt
    split
    · rename_i h1
      rw [hc]
      by_cases ht : t % 8 = 0
      · rw [if_pos ht, if_pos (by omega)]
      · rw [if_neg ht, if_neg (by omega)]
        exact congrArg (fun n => Cert.EvenModel.q I n _) (by show 256 * t + (o + r.val) - 8 = _; omega)
    · rename_i h1
      refine (e _ _).trans ?_
      rw [if_neg (by omega)]
      exact congrArg (fun n => Cert.EvenModel.q I n _) (by show 256 * t + (o + r.val - 8) = _; omega)
  pointwise
  refine Eq.trans (b := Cert.FfnModel.gate _) rfl (congrArg Cert.FfnModel.gate ?_)
  unfold Cert.EvenModel.conv
  refine congrArg₂ (· + ·) (congrArg₂ (· + ·) (congrArg₂ (· + ·) (congrArg₂ (· * ·) (hb 5 3 rfl (by omega)) (hI.h3 0 _))
    (congrArg₂ (· * ·) (hb 6 2 rfl (by omega)) (hI.h3 1 _))) (congrArg₂ (· * ·) (hb 7 1 rfl (by omega)) (hI.h3 2 _)))
    (congrArg₂ (· * ·) (e r b) (hI.h3 3 _))

/-! ## One head -/

theorem headB_at (v : FVec Ideal S256x256 .f32) (d : Fin 2) (r : Fin 256) (b : Fin 128) :
    headB (F := Ideal) v d (ix2 r b) = v (ix2 r ⟨128 * d.val + b.val, by omega⟩) := by
  unfold headB
  pointwise

theorem unitB_at (v : FVec Ideal S256x128 .f32) (f : Nat → Nat → EReal) (o : Nat) (hv : ∀ (r : Fin 256) (b : Fin 128), (v (ix2 r b) : EReal) = f r (o + b))
    (r : Fin 256) (b : Fin 128) : unitB (F := Ideal) v (ix2 r b) = Cert.EvenModel.unit (f r) o b := by
  unfold unitB
  pointwise
  simp only [hv]
  rfl

theorem scaleB_at (v : FVec Ideal S256x128 .f32) (r : Fin 256) (b : Fin 128) :
    (scaleB (F := Ideal) v (ix2 r b) : EReal) = (v (ix2 r b) : EReal) * Ideal.ofBits .f32 1035273459#32 := by
  unfold scaleB
  pointwise

theorem actB_at (v : FVec Ideal S256x256 .f32) (c : Fin 6)
    (hv : ∀ r b : Fin 256, (v (ix2 r b) : EReal) = Cert.EvenModel.fed I (256 * t + r) (256 * c + b)) (d : Fin 2) (r : Fin 256) (b : Fin 128) :
    (actB (F := Ideal) v c d (ix2 r b) : EReal) = Cert.EvenModel.act I (256 * t + r) (256 * c + 128 * d + b) := by
  have hd : ∀ (r : Fin 256) (b : Fin 128), (headB (F := Ideal) v d (ix2 r b) : EReal) = Cert.EvenModel.fed I (256 * t + r) (128 * (2 * c + d) + b) := fun r b =>
    ((headB_at v d r b).trans (hv _ _)).trans (congrArg (Cert.EvenModel.fed I _) (by show 256 * c.val + (128 * d.val + b.val) = _; omega))
  have hu := unitB_at (headB (F := Ideal) v d) (fun r => Cert.EvenModel.fed I (256 * t + r)) (128 * (2 * c + d)) hd
  rw [show 256 * c.val + 128 * d.val + b.val = 128 * (2 * c.val + d.val) + b.val by omega, Cert.EvenModel.act_head _ _ _ _ b.isLt]
  unfold actB Cert.EvenModel.head
  have := d.isLt
  by_cases h0 : c.val < 2
  · rw [if_pos h0, if_pos (show 2 * c.val + d.val < 4 by omega), scaleB_at, hu]
  rw [if_neg h0, if_neg (show ¬2 * c.val + d.val < 4 by omega)]
  by_cases h1 : c.val < 4
  · rw [if_pos h1, if_pos (show 2 * c.val + d.val < 8 by omega), hu]
  · rw [if_neg h1, if_neg (show ¬2 * c.val + d.val < 8 by omega), hd]

end chunk

/-! ## The stores read back -/

theorem pc_emb {n m w : Nat} {e : EltTy} (f : Nat → Nat → Elt Ideal e) (o : Nat)
    (h : ∀ a, (![0, o] : Fin 2 → Nat) a + (⟨2, ![n, w]⟩ : Shape).size a ≤ (⟨2, ![n, m]⟩ : Shape).size a) (v : Vec Ideal ⟨2, ![n, w]⟩ e)
    (hv : ∀ (r : Fin n) (b : Fin w), v (ix2 r b) = f r (o + b)) (x : (⟨2, ![n, w]⟩ : Shape).Idx) :
    (pc o h v).2 x = (fun y : (⟨2, ![n, m]⟩ : Shape).Idx => f (y 0).val (y 1).val) ((pc o h v).1.emb x) := by
  rw [eq_ix2 x]
  refine (hv _ _).trans (congrArg₂ f ?_ ?_)
  · show (x 0).val = 0 + 1 * (x 0).val; omega
  · show _ = o + 1 * (x 1).val; exact (congrArg _ (Nat.one_mul _)).symm

theorem pc_mem {n m w : Nat} {e : EltTy} (o : Nat)
    (h : ∀ a, (![0, o] : Fin 2 → Nat) a + (⟨2, ![n, w]⟩ : Shape).size a ≤ (⟨2, ![n, m]⟩ : Shape).size a) (v : Vec Ideal ⟨2, ![n, w]⟩ e)
    (r : Fin n) (j : Fin m) (h0 : o ≤ j.val) (h1 : j.val < o + w) : ix2 r j ∈ (pc o h v).1.set := by
  refine (Rect.mem_set_unit (inb := h)).mpr fun i => ?_
  match i with
  | ⟨0, _⟩ => exact ⟨Nat.zero_le _, by show r.val < 0 + n; omega⟩
  | ⟨1, _⟩ => exact ⟨h0, h1⟩

/-- Stores of the columns of `f` that between them cover a row read back as `f`, over whatever was there. -/
theorem canon_cols {n m : Nat} {e : EltTy} (f : Nat → Nat → Elt Ideal e) (L' L : List (View.Piece (Elt Ideal) (⟨2, ![n, m]⟩ : Shape) e))
    (hL : ∀ p ∈ L, ∀ x, p.2 x = (fun y : (⟨2, ![n, m]⟩ : Shape).Idx => f (y 0).val (y 1).val) (p.1.emb x)) (r : Fin n) (j : Fin m)
    (hm : ∃ p ∈ L, ix2 r j ∈ p.1.set) : View.canon (L ++ L') (ix2 r j) = f r j :=
  View.canon_append_of_pieces (fun y : (⟨2, ![n, m]⟩ : Shape).Idx => f (y 0).val (y 1).val) L' L hL (ix2 r j) hm

theorem canon_lstS (T : Fin 6 → FVec Ideal S8x256 .f32) (f : Nat → Nat → EReal) (L : List (View.Piece (Elt Ideal) S8x1536 .f32))
    (hT : ∀ (c : Fin 6) (a : Fin 8) (b : Fin 256), (T c (ix2 a b) : EReal) = f a (256 * c + b)) (a : Fin 8) (j : Fin 1536) :
    View.canon (lstS T ++ L) (ix2 a j) = f a j := by
  refine canon_cols (e := .f32) f L (lstS T) ?_ a j ?_
  · intro p hp
    unfold lstS at hp
    simp only [List.mem_cons, List.not_mem_nil, or_false] at hp
    rcases hp with rfl | rfl | rfl | rfl | rfl | rfl <;> exact pc_emb (e := .f32) f _ _ _ (hT _)
  · have h : ∀ c : Fin 6, pc _ (inS c) (T c) ∈ lstS T := fun c => by
      match c with
      | 0 | 1 | 2 | 3 | 4 | 5 => simp [lstS]
    exact ⟨_, h ⟨j.val / 256, by omega⟩, pc_mem _ _ _ a j (by show 256 * (j.val / 256) ≤ _; omega) (by show _ < 256 * (j.val / 256) + 256; omega)⟩

theorem canon_lstQ (T : Fin 6 → FVec Ideal S256x256 .bf16) (f : Nat → Nat → EReal)
    (hT : ∀ (c : Fin 6) (a : Fin 256) (b : Fin 256), (T c (ix2 a b) : EReal) = f a (256 * c + b)) (a : Fin 256) (j : Fin 1536) :
    View.canon (lstQ T) (ix2 a j) = f a j := by
  rw [← List.append_nil (lstQ T)]
  refine canon_cols (e := .bf16) f [] (lstQ T) ?_ a j ?_
  · intro p hp
    unfold lstQ at hp
    simp only [List.mem_cons, List.not_mem_nil, or_false] at hp
    rcases hp with rfl | rfl | rfl | rfl | rfl | rfl <;> exact pc_emb (e := .bf16) f _ _ _ (hT _)
  · have h : ∀ c : Fin 6, pc _ (inQ c) (T c) ∈ lstQ T := fun c => by
      match c with
      | 0 | 1 | 2 | 3 | 4 | 5 => simp [lstQ]
    exact ⟨_, h ⟨j.val / 256, by omega⟩, pc_mem _ _ _ a j (by show 256 * (j.val / 256) ≤ _; omega) (by show _ < 256 * (j.val / 256) + 256; omega)⟩

theorem canon_lstA (T : Fin 6 → Fin 2 → FVec Ideal S256x128 .f32) (f : Nat → Nat → EReal)
    (hT : ∀ (c : Fin 6) (d : Fin 2) (a : Fin 256) (b : Fin 128), (T c d (ix2 a b) : EReal) = f a (256 * c + 128 * d + b)) (a : Fin 256) (j : Fin 1536) :
    View.canon (lstA T) (ix2 a j) = f a j := by
  rw [← List.append_nil (lstA T)]
  refine canon_cols (e := .f32) f [] (lstA T) ?_ a j ?_
  · intro p hp
    unfold lstA at hp
    simp only [List.mem_cons, List.not_mem_nil, or_false] at hp
    rcases hp with rfl | rfl | rfl | rfl | rfl | rfl | rfl | rfl | rfl | rfl | rfl | rfl <;> exact pc_emb (e := .f32) f _ _ _ (hT _ _)
  · have h : ∀ (c : Fin 6) (d : Fin 2), pc _ (inA c d) (T c d) ∈ lstA T := fun c d => by
      match c, d with
      | 0, 0 | 0, 1 | 1, 0 | 1, 1 | 2, 0 | 2, 1 | 3, 0 | 3, 1 | 4, 0 | 4, 1 | 5, 0 | 5, 1 => simp [lstA]
    refine ⟨_, h ⟨j.val / 256, by omega⟩ ⟨j.val % 256 / 128, by omega⟩, pc_mem _ _ _ a j ?_ ?_⟩
    · show 256 * (j.val / 256) + 128 * (j.val % 256 / 128) ≤ _; omega
    · show _ < 256 * (j.val / 256) + 128 * (j.val % 256 / 128) + 128; omega

theorem canon_lstG (T : Fin 2 → FVec Ideal S256x256 .f32) (f : Nat → Nat → EReal)
    (hT : ∀ (c : Fin 2) (a : Fin 256) (b : Fin 256), (T c (ix2 a b) : EReal) = f a (256 * c + b)) (a : Fin 256) (j : Fin 512) :
    View.canon (lstG T) (ix2 a j) = f a j := by
  rw [← List.append_nil (lstG T)]
  refine canon_cols (e := .f32) f [] (lstG T) ?_ a j ?_
  · intro p hp
    unfold lstG at hp
    simp only [List.mem_cons, List.not_mem_nil, or_false] at hp
    rcases hp with rfl | rfl <;> exact pc_emb (e := .f32) f _ _ _ (hT _)
  · have h : ∀ c : Fin 2, pc _ (inG c) (T c) ∈ lstG T := fun c => by
      match c with
      | 0 | 1 => simp [lstG]
    exact ⟨_, h ⟨j.val / 256, by omega⟩, pc_mem _ _ _ a j (by show 256 * (j.val / 256) ≤ _; omega) (by show _ < 256 * (j.val / 256) + 256; omega)⟩

theorem canon_lstL (v : FVec Ideal S256x128 .f32) (f : Nat → Nat → EReal)
    (hv : ∀ (a : Fin 256) (b : Fin 128), (v (ix2 a b) : EReal) = f a b) (a : Fin 256) (j : Fin 128) :
    View.canon (lstL v) (ix2 a j) = f a j := by
  rw [← List.append_nil (lstL v)]
  refine canon_cols (e := .f32) f [] (lstL v) ?_ a j ?_
  · intro p hp
    unfold lstL at hp
    simp only [List.mem_cons, List.not_mem_nil, or_false] at hp
    subst hp
    exact pc_emb (e := .f32) f _ _ _ fun r b => (hv r b).trans (congrArg (f r) (Nat.zero_add _).symm)
  · exact ⟨_, .head _, pc_mem _ _ _ a j (Nat.zero_le _) (by have := j.isLt; show _ < 0 + 128; omega)⟩

end Cert.Kernel4Ideal.Even

end
-- ==== Proof.EvenPieces.lean ====
/- What a grid point of the first layer's input projection stores, in either of its cases, is the stages of `EvenStages.lean` at each chunk of columns:
   over zero carried rows where a sequence begins, over the rows the point before left elsewhere. -/
module

public import proofs.«01_k».proof.Proof.Gen.Kernel4Ideal.Value
public import proofs.«01_k».proof.Proof.EvenStages
public import Idealize.ShloMosaic.Lib.Pipeline.ReadBack
public import Idealize.ShloMosaic.Lib.Tactic

@[expose] public section

set_option maxRecDepth 16384

noncomputable section

namespace Cert.Kernel4Ideal.Even

open Cert.Kernel4Ideal Cert.Kernel4Ideal.Gen Idealize.ShloMosaic Idealize.ShloMosaic.TcCoe Idealize.SL.Sem

variable {F : FTy → Type} [FloatOps F]

variable (c : Dev nD) (i : grid0.Coords) (arg1 : Memref sig .tc .vmem S256x1024 .f32) (harg1 : arg1.IsWhole) (arg2 : Memref sig .tc .vmem S1x1024 .f32) (harg2 : arg2.IsWhole)
  (arg3 : Memref sig .tc .vmem S1024x3712 .bf16) (harg3 : arg3.IsWhole) (arg4 : Memref sig .tc .vmem S4x1536 .f32) (harg4 : arg4.IsWhole)
  (arg5 : Memref sig .tc .vmem S256x1536 .bf16) (harg5 : arg5.IsWhole) (arg6 : Memref sig .tc .vmem S256x1536 .f32) (harg6 : arg6.IsWhole)
  (arg7 : Memref sig .tc .vmem S256x512 .f32) (harg7 : arg7.IsWhole) (arg8 : Memref sig .tc .vmem S256x128 .f32) (harg8 : arg8.IsWhole)
  (arg9 : Memref sig .tc .vmem S8x1536 .f32) (harg9 : arg9.IsWhole)
  (x0 : Vec F S256x1024 .f32) (x1 : Vec F S1x1024 .f32) (x2 : Vec F S1024x3712 .bf16) (x3 : Vec F S4x1536 .f32)

/-- The stores of a point where a sequence begins. -/
theorem stores_A (hc0 : cond0_0 i) :
    (kernelRun0_A c i arg1 harg1 arg2 harg2 arg3 harg3 arg4 harg4 arg5 harg5 arg6 harg6 arg7 harg7 arg8 harg8 arg9 harg9 hc0 x0 x1 x2 x3).1 = resQ (k0_pay2 x0 x1) x2
      ∧ (kernelRun0_A c i arg1 harg1 arg2 harg2 arg3 harg3 arg4 harg4 arg5 harg5 arg6 harg6 arg7 harg7 arg8 harg8 arg9 harg9 hc0 x0 x1 x2 x3).2.1 = resA (k0_pay2 x0 x1) x2 x3 k0_pay1
      ∧ (kernelRun0_A c i arg1 harg1 arg2 harg2 arg3 harg3 arg4 harg4 arg5 harg5 arg6 harg6 arg7 harg7 arg8 harg8 arg9 harg9 hc0 x0 x1 x2 x3).2.2.1 = resG (k0_pay2 x0 x1) x2
      ∧ (kernelRun0_A c i arg1 harg1 arg2 harg2 arg3 harg3 arg4 harg4 arg5 harg5 arg6 harg6 arg7 harg7 arg8 harg8 arg9 harg9 hc0 x0 x1 x2 x3).2.2.2.1 = resL (k0_pay2 x0 x1) x2
      ∧ (kernelRun0_A c i arg1 harg1 arg2 harg2 arg3 harg3 arg4 harg4 arg5 harg5 arg6 harg6 arg7 harg7 arg8 harg8 arg9 harg9 hc0 x0 x1 x2 x3).2.2.2.2.1 = lstS (tailB (k0_pay2 x0 x1) x2) ++ [⟨Rect.unit (s := S8x1536) ![0, 0] S8x1536.size inb_S8x1536_S8x1536_0_0, k0_pay1⟩] := by
  unfold kernelRun0_A
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  exact ⟨rfl, rfl, rfl, rfl, rfl⟩

/-- The stores of a point where a sequence goes on. -/
theorem stores_B (hc0 : ¬cond0_0 i) (xs0 : Vec F S8x1536 .f32) :
    (kernelRun0_B c i arg1 harg1 arg2 harg2 arg3 harg3 arg4 harg4 arg5 harg5 arg6 harg6 arg7 harg7 arg8 harg8 arg9 harg9 hc0 x0 x1 x2 x3 xs0).1 = resQ (k0_pay2 x0 x1) x2
      ∧ (kernelRun0_B c i arg1 harg1 arg2 harg2 arg3 harg3 arg4 harg4 arg5 harg5 arg6 harg6 arg7 harg7 arg8 harg8 arg9 harg9 hc0 x0 x1 x2 x3 xs0).2.1 = resA (k0_pay2 x0 x1) x2 x3 xs0
      ∧ (kernelRun0_B c i arg1 harg1 arg2 harg2 arg3 harg3 arg4 harg4 arg5 harg5 arg6 harg6 arg7 harg7 arg8 harg8 arg9 harg9 hc0 x0 x1 x2 x3 xs0).2.2.1 = resG (k0_pay2 x0 x1) x2
      ∧ (kernelRun0_B c i arg1 harg1 arg2 harg2 arg3 harg3 arg4 harg4 arg5 harg5 arg6 harg6 arg7 harg7 arg8 harg8 arg9 harg9 hc0 x0 x1 x2 x3 xs0).2.2.2.1 = resL (k0_pay2 x0 x1) x2
      ∧ (kernelRun0_B c i arg1 harg1 arg2 harg2 arg3 harg3 arg4 harg4 arg5 harg5 arg6 harg6 arg7 harg7 arg8 harg8 arg9 harg9 hc0 x0 x1 x2 x3 xs0).2.2.2.2.1 = lstS (tailB (k0_pay2 x0 x1) x2) := by
  unfold kernelRun0_B
  dsimp only
  sl_unfold_run_names
  simp (disch := decide) only [↓ View.readCov_skip, ↓ View.readCov_cons_toLoadRect, ↓ View.readCov_fill]
  simp (disch := decide) only [View.canon_cons_unit_lit', View.ld_unit_lit', View.readCov_unit_lit', View.readCov_cons_unit_lit',
    View.readAt_eq_ld, Memref.IsWhole.read_unread]
  exact ⟨rfl, rfl, rfl, rfl, rfl⟩

/-- So the blocks after a point where a sequence begins. -/
theorem outs_A (hc0 : cond0_0 i) :
    out0_A_4 c i arg1 harg1 arg2 harg2 arg3 harg3 arg4 harg4 arg5 harg5 arg6 harg6 arg7 harg7 arg8 harg8 arg9 harg9 hc0 x0 x1 x2 x3 = View.canon (resQ (k0_pay2 x0 x1) x2)
      ∧ out0_A_5 c i arg1 harg1 arg2 harg2 arg3 harg3 arg4 harg4 arg5 harg5 arg6 harg6 arg7 harg7 arg8 harg8 arg9 harg9 hc0 x0 x1 x2 x3 = View.canon (resA (k0_pay2 x0 x1) x2 x3 k0_pay1)
      ∧ out0_A_6 c i arg1 harg1 arg2 harg2 arg3 harg3 arg4 harg4 arg5 harg5 arg6 harg6 arg7 harg7 arg8 harg8 arg9 harg9 hc0 x0 x1 x2 x3 = View.canon (resG (k0_pay2 x0 x1) x2)
      ∧ out0_A_7 c i arg1 harg1 arg2 harg2 arg3 harg3 arg4 harg4 arg5 harg5 arg6 harg6 arg7 harg7 arg8 harg8 arg9 harg9 hc0 x0 x1 x2 x3 = View.canon (resL (k0_pay2 x0 x1) x2)
      ∧ sout0_A_0 c i arg1 harg1 arg2 harg2 arg3 harg3 arg4 harg4 arg5 harg5 arg6 harg6 arg7 harg7 arg8 harg8 arg9 harg9 hc0 x0 x1 x2 x3 = View.canon (lstS (tailB (k0_pay2 x0 x1) x2) ++ [⟨Rect.unit (s := S8x1536) ![0, 0] S8x1536.size inb_S8x1536_S8x1536_0_0, k0_pay1⟩])  := by
  obtain ⟨e0, e1, e2, e3, es⟩ := stores_A c i arg1 harg1 arg2 harg2 arg3 harg3 arg4 harg4 arg5 harg5 arg6 harg6 arg7 harg7 arg8 harg8 arg9 harg9 x0 x1 x2 x3 hc0
  refine ⟨?_, ?_, ?_, ?_, ?_⟩
  · unfold out0_A_4
    rw [View.read_writes_junk_eq_canon, e0]
  · unfold out0_A_5
    rw [View.read_writes_junk_eq_canon, e1]
  · unfold out0_A_6
    rw [View.read_writes_junk_eq_canon, e2]
  · unfold out0_A_7
    rw [View.read_writes_junk_eq_canon, e3]
  · unfold sout0_A_0
    rw [View.read_writes_junk_eq_canon, es]

/-- So the blocks after a point where a sequence goes on. -/
theorem outs_B (hc0 : ¬cond0_0 i) (xs0 : Vec F S8x1536 .f32) :
    out0_B_4 c i arg1 harg1 arg2 harg2 arg3 harg3 arg4 harg4 arg5 harg5 arg6 harg6 arg7 harg7 arg8 harg8 arg9 harg9 hc0 x0 x1 x2 x3 xs0 = View.canon (resQ (k0_pay2 x0 x1) x2)
      ∧ out0_B_5 c i arg1 harg1 arg2 harg2 arg3 harg3 arg4 harg4 arg5 harg5 arg6 harg6 arg7 harg7 arg8 harg8 arg9 harg9 hc0 x0 x1 x2 x3 xs0 = View.canon (resA (k0_pay2 x0 x1) x2 x3 xs0)
      ∧ out0_B_6 c i arg1 harg1 arg2 harg2 arg3 harg3 arg4 harg4 arg5 harg5 arg6 harg6 arg7 harg7 arg8 harg8 arg9 harg9 hc0 x0 x1 x2 x3 xs0 = View.canon (resG (k0_pay2 x0 x1) x2)
      ∧ out0_B_7 c i arg1 harg1 arg2 harg2 arg3 harg3 arg4 harg4 arg5 harg5 arg6 harg6 arg7 harg7 arg8 harg8 arg9 harg9 hc0 x0 x1 x2 x3 xs0 = View.canon (resL (k0_pay2 x0 x1) x2)
      ∧ sout0_B_0 c i arg1 harg1 arg2 harg2 arg3 harg3 arg4 harg4 arg5 harg5 arg6 harg6 arg7 harg7 arg8 harg8 arg9 harg9 hc0 x0 x1 x2 x3 xs0 = View.canon (lstS (tailB (k0_pay2 x0 x1) x2))  := by
  obtain ⟨e0, e1, e2, e3, es⟩ := stores_B c i arg1 harg1 arg2 harg2 arg3 harg3 arg4 harg4 arg5 harg5 arg6 harg6 arg7 harg7 arg8 harg8 arg9 harg9 x0 x1 x2 x3 hc0 xs0
  refine ⟨?_, ?_, ?_, ?_, ?_⟩
  · unfold out0_B_4
    rw [View.read_writes_junk_eq_canon, e0]
  · unfold out0_B_5
    rw [View.read_writes_junk_eq_canon, e1]
  · unfold out0_B_6
    rw [View.read_writes_junk_eq_canon, e2]
  · unfold out0_B_7
    rw [View.read_writes_junk_eq_canon, e3]
  · unfold sout0_B_0
    rw [View.read_writes_junk_eq_canon, es]

end Cert.Kernel4Ideal.Even

end
-- ==== Proof.EvenPoints.lean ====
/- The points of the first layer's projection kernel's grid: what each leaves in its four output blocks and in the carried rows, and the output arrays at
   an index. -/
module

public import proofs.«01_k».proof.Proof.EvenStageVals
public import proofs.«01_k».proof.Proof.EvenPieces
public import proofs.«01_k».proof.Proof.FfnPoints
public import Idealize.ShloMosaic.Lib.Pipeline.ValueKit
public import Idealize.ShloMosaic.Lib.KernelVsHost
public import Idealize.ShloMosaic.Lib.Claim

@[expose] public section

set_option maxRecDepth 16384

noncomputable section

namespace Cert.EvenModel

open Cert.FfnModel (mat vec)

/-- The arguments as the model takes them: the gain is the first of the first layer's. -/
def Args.of (x : Fin 32768 → Fin 1024 → EReal) (g : Fin 1024 → EReal) (w : Fin 1024 → Fin 3600 → EReal) (cw : Fin 4 → Fin 1536 → EReal) : Args where
  X := mat x
  G := vec g
  W := mat w
  Cw := mat cw

end Cert.EvenModel

namespace Cert.Kernel4Ideal.Even

open Cert.Kernel4Ideal Cert.Kernel4Ideal.Gen Idealize.ShloMosaic Idealize.ShloMosaic.TcCoe Idealize.SL.Sem
open Cert.EvenModel (Args)
open Cert.FfnModel (mat vec mat_at vec_at)

variable (m : (ℓ : Loc nD τ sig) → Buf (Elt Ideal) ℓ)

/-! ## The blocks of a point -/

/-- The kernel's arguments at core `c`. -/
def args (c : Dev nD) : Args :=
  Args.of (fun r k => m ((c : Thread nD τ).loc main_arg0) (ix2 r k)) (fun k => m ((c : Thread nD τ).loc main_arg1) (ix3 0 0 k))
    (fun k j => m ((c : Thread nD τ).loc main_arg2) (ix2 k j)) (fun k j => m ((c : Thread nD τ).loc main_arg3) (ix2 k j))

theorem index_rows : ∀ t : Fin cfg0.N, win0_0.index t = ![t.val, 0] := by decide +kernel
theorem index_whole : ∀ t : Fin cfg0.N, win0_1.index t = ![0, 0] ∧ win0_2.index t = ![0, 0] ∧ win0_3.index t = ![0, 0] := by decide +kernel

theorem row_lt (t : Fin cfg0.N) (r : Fin 256) : 256 * t.val + r.val < 32768 := by
  have h : cfg0.N = 128 := N_0
  have := t.isLt
  omega

theorem blk0_at (c : Dev nD) (t : Fin cfg0.N) (r : Fin 256) (k : Fin 1024) :
    iblk m c 0 t (ix2 r k) = m ((c : Thread nD τ).loc main_arg0) (ix2 ⟨256 * t.val + r.val, row_lt t r⟩ k) := by
  have e := index_rows t
  blk_ext! [iblk, V, e]
theorem blk3_at (c : Dev nD) (t : Fin cfg0.N) (k : Fin 4) (j : Fin 1536) : iblk m c 3 t (ix2 k j) = m ((c : Thread nD τ).loc main_arg3) (ix2 k j) := by
  have e := (index_whole t).2.2
  blk_ext! [iblk, V, e]
theorem blk1_at (c : Dev nD) (t : Fin cfg0.N) (k : Fin 1024) : iblk m c 1 t (ix2 0 k) = V m c main_v12 (ix2 0 k) := by
  have e := (index_whole t).1
  blk_ext! [iblk, e]
theorem blk2_at (c : Dev nD) (t : Fin cfg0.N) (k : Fin 1024) (j : Fin 3712) : iblk m c 2 t (ix2 k j) = V m c main_v7 (ix2 k j) := by
  have e := (index_whole t).2.1
  blk_ext! [iblk, e]

theorem entry_v12 (c : Dev nD) (k : Fin 1024) : (V m c main_v12 : Vec Ideal S1x1024 .f32) (ix2 0 k) = m ((c : Thread nD τ).loc main_arg1) (ix3 0 0 k) := by
  simp only [V, hostOps0]
  entry_read
  pointwise
/-- The reordered weights: six ranges of columns side by side. -/
def cat (a b : Vec Ideal S1024x1536 .bf16) (d : Vec Ideal S1024x512 .bf16) (e f : Vec Ideal S1024x8 .bf16) (z : Vec Ideal S1024x112 .bf16) : Vec Ideal S1024x3712 .bf16 :=
  concatenate S1024x3712 1 [⟨S1024x1536, a⟩, ⟨S1024x1536, b⟩, ⟨S1024x512, d⟩, ⟨S1024x8, e⟩, ⟨S1024x8, f⟩, ⟨S1024x112, z⟩]
    concatenates_S1024x1536_S1024x1536_S1024x512_S1024x8_S1024x8_S1024x112_S1024x3712_d1

theorem cat_at (a b : Vec Ideal S1024x1536 .bf16) (d : Vec Ideal S1024x512 .bf16) (e f : Vec Ideal S1024x8 .bf16) (z : Vec Ideal S1024x112 .bf16) (I : Args)
    (k : Fin 1024) (ha : ∀ j : Fin 1536, (a (ix2 k j) : EReal) = I.W k j) (hb : ∀ j : Fin 1536, (b (ix2 k j) : EReal) = I.W k (1544 + j))
    (hd : ∀ j : Fin 512, (d (ix2 k j) : EReal) = I.W k (3088 + j)) (he : ∀ j : Fin 8, (e (ix2 k j) : EReal) = I.W k (1536 + j))
    (hf : ∀ j : Fin 8, (f (ix2 k j) : EReal) = I.W k (3080 + j)) (hz : ∀ j : Fin 112, (z (ix2 k j) : EReal) = 0) (j : Fin 3712) :
    (cat a b d e f z (ix2 k j) : EReal) = Cert.EvenModel.wev I k j := by
  unfold cat Cert.EvenModel.wev
  pointwise
  simp only [ha, hb, hd, he, hf, hz]
  by_cases h0 : j.val < 1536
  · rw [dif_pos h0, if_pos h0]
  rw [dif_neg h0, if_neg h0]
  by_cases h1 : j.val < 3072
  · rw [dif_pos (by omega), if_pos h1, show 1544 + (j.val - 1536) = 8 + j.val by omega]
  rw [dif_neg (by omega), if_neg h1]
  by_cases h2 : j.val < 3584
  · rw [dif_pos (by omega), if_pos h2, show 3088 + (j.val - 1536 - 1536) = 16 + j.val by omega]
  rw [dif_neg (by omega), if_neg h2]
  by_cases h3 : j.val < 3592
  · rw [dif_pos (by omega), if_pos h3, show 1536 + (j.val - 1536 - 1536 - 512) = j.val - 2048 by omega]
  rw [dif_neg (by omega), if_neg h3]
  by_cases h4 : j.val < 3600
  · rw [dif_pos (by omega), if_pos h4, show 3080 + (j.val - 1536 - 1536 - 512 - 8) = j.val - 512 by omega]
  · rw [dif_neg (by omega), if_neg h4]

theorem v7_eq (c : Dev nD) : (V m c main_v7 : Vec Ideal S1024x3712 .bf16)
    = cat (V m c main_v2) (V m c main_v3) (V m c main_v4) (V m c main_v5) (V m c main_v6) (V m c main_v0) := by
  have hv : ∀ (b : Ref sig .tc) (v : b.ty.Contents (Elt Ideal)), V m c b = v → v = V m c b := fun b v h => h.symm
  refine Eq.trans (b := cat ?_ ?_ ?_ ?_ ?_ ?_) ?_ ?_
  case refine_7 =>
    simp only [V, hostOps0, StableHlo.after_cons, StableHlo.after_nil]
    rw [StableHlo.reshape_result_ne _ _ _ _ _ _ _ (by decide), StableHlo.reshape_result_ne _ _ _ _ _ _ _ (by decide),
      StableHlo.unary_result_ne _ _ _ _ _ _ (by decide), StableHlo.reshape_result_ne _ _ _ _ _ _ _ (by decide),
      StableHlo.unary_result_ne _ _ _ _ _ _ (by decide), StableHlo.nary_result]
    rfl
  · congr 1 <;> apply hv <;> simp only [V, hostOps0, StableHlo.after_cons, StableHlo.after_nil] <;>
    rw [StableHlo.reshape_result_ne _ _ _ _ _ _ _ (by decide), StableHlo.reshape_result_ne _ _ _ _ _ _ _ (by decide),
      StableHlo.unary_result_ne _ _ _ _ _ _ (by decide), StableHlo.reshape_result_ne _ _ _ _ _ _ _ (by decide),
      StableHlo.unary_result_ne _ _ _ _ _ _ (by decide), StableHlo.nary_result_ne _ _ _ _ _ _ (by decide)] <;> rfl

theorem entry_v2 (c : Dev nD) (k : Fin 1024) (j : Fin 1536) : ((V m c main_v2 : Vec Ideal S1024x1536 .bf16) (ix2 k j) : EReal) = (args m c).W k j := by
  refine Eq.trans ?_ (mat_at (fun k j => m ((c : Thread nD τ).loc main_arg2) (ix2 k j)) k.val j.val k.isLt (by omega)).symm
  simp only [V, hostOps0]
  entry_read
  pointwise
theorem entry_v3 (c : Dev nD) (k : Fin 1024) (j : Fin 1536) : ((V m c main_v3 : Vec Ideal S1024x1536 .bf16) (ix2 k j) : EReal) = (args m c).W k (1544 + j) := by
  refine Eq.trans ?_ (mat_at (fun k j => m ((c : Thread nD τ).loc main_arg2) (ix2 k j)) k.val (1544 + j.val) k.isLt (by omega)).symm
  simp only [V, hostOps0]
  entry_read
  pointwise
theorem entry_v4 (c : Dev nD) (k : Fin 1024) (j : Fin 512) : ((V m c main_v4 : Vec Ideal S1024x512 .bf16) (ix2 k j) : EReal) = (args m c).W k (3088 + j) := by
  refine Eq.trans ?_ (mat_at (fun k j => m ((c : Thread nD τ).loc main_arg2) (ix2 k j)) k.val (3088 + j.val) k.isLt (by omega)).symm
  simp only [V, hostOps0]
  entry_read
  pointwise
theorem entry_v5 (c : Dev nD) (k : Fin 1024) (j : Fin 8) : ((V m c main_v5 : Vec Ideal S1024x8 .bf16) (ix2 k j) : EReal) = (args m c).W k (1536 + j) := by
  refine Eq.trans ?_ (mat_at (fun k j => m ((c : Thread nD τ).loc main_arg2) (ix2 k j)) k.val (1536 + j.val) k.isLt (by omega)).symm
  simp only [V, hostOps0]
  entry_read
  pointwise
theorem entry_v6 (c : Dev nD) (k : Fin 1024) (j : Fin 8) : ((V m c main_v6 : Vec Ideal S1024x8 .bf16) (ix2 k j) : EReal) = (args m c).W k (3080 + j) := by
  refine Eq.trans ?_ (mat_at (fun k j => m ((c : Thread nD τ).loc main_arg2) (ix2 k j)) k.val (3080 + j.val) k.isLt (by omega)).symm
  simp only [V, hostOps0]
  entry_read
  pointwise
theorem entry_v0 (c : Dev nD) (k : Fin 1024) (j : Fin 112) : ((V m c main_v0 : Vec Ideal S1024x112 .bf16) (ix2 k j) : EReal) = (0 : EReal) := by
  simp only [V, hostOps0]
  entry_read
  pointwise
theorem entry_v7 (c : Dev nD) (k : Fin 1024) (j : Fin 3712) :
    ((V m c main_v7 : Vec Ideal S1024x3712 .bf16) (ix2 k j) : EReal) = Cert.EvenModel.wev (args m c) k j :=
  (congrFun (v7_eq m c) (ix2 k j)).trans
    (cat_at _ _ _ _ _ _ (args m c) k (entry_v2 m c k) (entry_v3 m c k) (entry_v4 m c k) (entry_v5 m c k) (entry_v6 m c k) (entry_v0 m c k) j)

/-- A point's blocks hold the arguments' rows and the weights. -/
theorem holds (c : Dev nD) (t : Fin cfg0.N) : Holds (args m c) t.val (iblk m c 0 t) (iblk m c 1 t) (iblk m c 2 t) (iblk m c 3 t) where
  h0 r k := (blk0_at m c t r k).trans (mat_at (fun r k => m ((c : Thread nD τ).loc main_arg0) (ix2 r k)) _ k.val (row_lt t r) k.isLt).symm
  h1 k := ((blk1_at m c t k).trans (entry_v12 m c k)).trans (vec_at (fun k => m ((c : Thread nD τ).loc main_arg1) (ix3 0 0 k)) k.val k.isLt).symm
  h2 k j := (blk2_at m c t k j).trans (entry_v7 m c k j)
  h3 k j := (blk3_at m c t k j).trans (mat_at (fun k j => m ((c : Thread nD τ).loc main_arg3) (ix2 k j)) k.val j.val k.isLt j.isLt).symm

/-! ## All points -/

theorem zero_carries (I : Args) (t : Nat) (ht : t % 8 = 0) : Carries I t (k0_pay1 (F := Ideal)) := fun a j => by
  rw [if_pos ht]
  unfold_payloads
  pointwise

/-- What the four output blocks and the carried rows hold after point `n`. -/
structure After (I : Args) (n : Nat) (y0 : Vec Ideal S256x1536 .bf16) (y1 : Vec Ideal S256x1536 .f32) (y2 : Vec Ideal S256x512 .f32)
    (y3 : Vec Ideal S256x128 .f32) (ys : Vec Ideal S8x1536 .f32) : Prop where
  h0 : ∀ (r : Fin 256) (j : Fin 1536), (y0 (ix2 r j) : EReal) = Cert.EvenModel.q I (256 * n + r) j
  h1 : ∀ (r : Fin 256) (j : Fin 1536), (y1 (ix2 r j) : EReal) = Cert.EvenModel.act I (256 * n + r) j
  h2 : ∀ (r : Fin 256) (j : Fin 512), (y2 (ix2 r j) : EReal) = Cert.EvenModel.out I (256 * n + r) j
  h3 : ∀ (r : Fin 256) (j : Fin 128), (y3 (ix2 r j) : EReal) = Cert.EvenModel.q I (256 * n + r) (3584 + j)
  hs : ∀ (a : Fin 8) (j : Fin 1536), (ys (ix2 a j) : EReal) = Cert.EvenModel.q I (256 * n + (248 + a)) (1536 + j)

/-- The stores of a point read back, over whatever the carried rows held. -/
theorem after_stores (c : Dev nD) (t : Fin cfg0.N) (xs : Vec Ideal S8x1536 .f32) (hc : Carries (args m c) t.val xs)
    (L : List (View.Piece (Elt Ideal) S8x1536 .f32)) :
    After (args m c) t.val (View.canon (resQ (k0_pay2 (iblk m c 0 t) (iblk m c 1 t)) (iblk m c 2 t)))
      (View.canon (resA (k0_pay2 (iblk m c 0 t) (iblk m c 1 t)) (iblk m c 2 t) (iblk m c 3 t) xs))
      (View.canon (resG (k0_pay2 (iblk m c 0 t) (iblk m c 1 t)) (iblk m c 2 t))) (View.canon (resL (k0_pay2 (iblk m c 0 t) (iblk m c 1 t)) (iblk m c 2 t)))
      (View.canon (lstS (tailB (k0_pay2 (iblk m c 0 t) (iblk m c 1 t)) (iblk m c 2 t)) ++ L)) := by
  have hI := holds m c t
  have hh := normed_at hI
  refine ⟨fun r j => ?_, fun r j => ?_, fun r j => ?_, fun r j => ?_, fun a j => ?_⟩
  · exact canon_lstQ _ (fun r j => Cert.EvenModel.q (args m c) (256 * t.val + r) j) (fun k r b => (qkv_at _ r b).trans (prodB_at hI hh _ r b)) r j
  · exact canon_lstA _ (fun r j => Cert.EvenModel.act (args m c) (256 * t.val + r) j) (fun k d r b => actB_at _ k (fedB_at hI hc hh k) d r b) r j
  · refine canon_lstG _ (fun r j => Cert.EvenModel.out (args m c) (256 * t.val + r) j) (fun k r b => (gate_at _ r b).trans ?_) r j
    refine congrArg Cert.FfnModel.gate ((prodB_at hI hh _ r b).trans (congrArg (Cert.EvenModel.q _ _) ?_))
    show 256 * (12 + k.val) + b.val = 3072 + (256 * k.val + b.val)
    omega
  · exact canon_lstL _ (fun r j => Cert.EvenModel.q (args m c) (256 * t.val + r) (3584 + j)) (small_at hI hh) r j
  · exact canon_lstS _ (fun a j => Cert.EvenModel.q (args m c) (256 * t.val + (248 + a)) (1536 + j)) L (tailB_at hI hh) a j

/-- What a point leaves. -/
theorem outsAt_at (c : Dev nD) : ∀ (n : Nat) (hn : n < cfg0.N), After (args m c) n (outsAt0 m c n hn).1 (outsAt0 m c n hn).2.1 (outsAt0 m c n hn).2.2.1
    (outsAt0 m c n hn).2.2.2.1 (outsAt0 m c n hn).2.2.2.2 := by
  have hA : ∀ (t : Fin cfg0.N), t.val % 8 = 0 → After (args m c) t.val (outsAt0 m c t.val t.isLt).1 (outsAt0 m c t.val t.isLt).2.1
      (outsAt0 m c t.val t.isLt).2.2.1 (outsAt0 m c t.val t.isLt).2.2.2.1 (outsAt0 m c t.val t.isLt).2.2.2.2 := fun t h0 => by
    rw [outsAt0_A m c t h0]
    dsimp only
    rw [(outs_A ..).1, (outs_A ..).2.1, (outs_A ..).2.2.1, (outs_A ..).2.2.2.1, (outs_A ..).2.2.2.2]
    exact after_stores m c t _ (zero_carries (args m c) t.val h0) _
  intro n
  induction n with
  | zero => exact fun hn => hA ⟨0, hn⟩ rfl
  | succ n ih =>
    intro hn
    by_cases h0 : (n + 1) % 8 = 0
    · exact hA ⟨n + 1, hn⟩ h0
    · have hl : Carries (args m c) (n + 1) (outsAt0 m c n (Nat.lt_of_succ_lt hn)).2.2.2.2 := fun a j => by
        rw [if_neg h0, (ih (Nat.lt_of_succ_lt hn)).hs]
        exact congrArg (fun n => Cert.EvenModel.q (args m c) n _) (by omega)
      rw [outsAt0_B m c ⟨n + 1, hn⟩ h0]
      dsimp only
      rw [(outs_B ..).1, (outs_B ..).2.1, (outs_B ..).2.2.1, (outs_B ..).2.2.2.1, (outs_B ..).2.2.2.2, ← List.append_nil (lstS _)]
      exact after_stores m c ⟨n + 1, hn⟩ _ hl _

/-- The output arrays at a row and column. -/
theorem qkv_array_at (c : Dev nD) (r : Fin 32768) (k : Fin 1536) :
    (Cert.Kernel4Ideal.Value.G4 m c (ix2 r k) : EReal) = Cert.EvenModel.q (args m c) r k := by
  have hN : cfg0.N = 128 := N_0
  have hp : Cert.Kernel4Ideal.Value.pt4Of (ix2 r k) = r.val / 256 := by
    show 1 * (r.val / 256 - 0) + 1 * (k.val / 1536 - 0) = _
    omega
  have hlt : Cert.Kernel4Ideal.Value.pt4Of (ix2 r k) < cfg0.N := by rw [hp, hN]; omega
  have hl : Cert.Kernel4Ideal.Value.loc4Of (ix2 r k) = ix2 ⟨r.val % 256, Nat.mod_lt _ (by decide)⟩ k := by
    funext a; apply Fin.ext
    match a with
    | ⟨0, _⟩ => rfl
    | ⟨1, _⟩ => show k.val % 1536 = k.val; omega
  unfold Cert.Kernel4Ideal.Value.G4
  rw [dif_pos hlt, ← Cert.Kernel4Ideal.Value.outsAt0_sweep m c _ hlt, hl, (outsAt_at m c _ hlt).h0, hp]
  dsimp only
  rw [Nat.div_add_mod]

theorem act_array_at (c : Dev nD) (r : Fin 32768) (k : Fin 1536) :
    (Cert.Kernel4Ideal.Value.G5 m c (ix2 r k) : EReal) = Cert.EvenModel.act (args m c) r k := by
  have hN : cfg0.N = 128 := N_0
  have hp : Cert.Kernel4Ideal.Value.pt5Of (ix2 r k) = r.val / 256 := by
    show 1 * (r.val / 256 - 0) + 1 * (k.val / 1536 - 0) = _
    omega
  have hlt : Cert.Kernel4Ideal.Value.pt5Of (ix2 r k) < cfg0.N := by rw [hp, hN]; omega
  have hl : Cert.Kernel4Ideal.Value.loc5Of (ix2 r k) = ix2 ⟨r.val % 256, Nat.mod_lt _ (by decide)⟩ k := by
    funext a; apply Fin.ext
    match a with
    | ⟨0, _⟩ => rfl
    | ⟨1, _⟩ => show k.val % 1536 = k.val; omega
  unfold Cert.Kernel4Ideal.Value.G5
  rw [dif_pos hlt, ← Cert.Kernel4Ideal.Value.outsAt0_sweep m c _ hlt, hl, (outsAt_at m c _ hlt).h1, hp]
  dsimp only
  rw [Nat.div_add_mod]

theorem gate_array_at (c : Dev nD) (r : Fin 32768) (k : Fin 512) :
    (Cert.Kernel4Ideal.Value.G6 m c (ix2 r k) : EReal) = Cert.EvenModel.out (args m c) r k := by
  have hN : cfg0.N = 128 := N_0
  have hp : Cert.Kernel4Ideal.Value.pt6Of (ix2 r k) = r.val / 256 := by
    show 1 * (r.val / 256 - 0) + 1 * (k.val / 512 - 0) = _
    omega
  have hlt : Cert.Kernel4Ideal.Value.pt6Of (ix2 r k) < cfg0.N := by rw [hp, hN]; omega
  have hl : Cert.Kernel4Ideal.Value.loc6Of (ix2 r k) = ix2 ⟨r.val % 256, Nat.mod_lt _ (by decide)⟩ k := by
    funext a; apply Fin.ext
    match a with
    | ⟨0, _⟩ => rfl
    | ⟨1, _⟩ => show k.val % 512 = k.val; omega
  unfold Cert.Kernel4Ideal.Value.G6
  rw [dif_pos hlt, ← Cert.Kernel4Ideal.Value.outsAt0_sweep m c _ hlt, hl, (outsAt_at m c _ hlt).h2, hp]
  dsimp only
  rw [Nat.div_add_mod]

theorem small_array_at (c : Dev nD) (r : Fin 32768) (k : Fin 128) :
    (Cert.Kernel4Ideal.Value.G7 m c (ix2 r k) : EReal) = Cert.EvenModel.q (args m c) r (3584 + k) := by
  have hN : cfg0.N = 128 := N_0
  have hp : Cert.Kernel4Ideal.Value.pt7Of (ix2 r k) = r.val / 256 := by
    show 1 * (r.val / 256 - 0) + 1 * (k.val / 128 - 0) = _
    omega
  have hlt : Cert.Kernel4Ideal.Value.pt7Of (ix2 r k) < cfg0.N := by rw [hp, hN]; omega
  have hl : Cert.Kernel4Ideal.Value.loc7Of (ix2 r k) = ix2 ⟨r.val % 256, Nat.mod_lt _ (by decide)⟩ k := by
    funext a; apply Fin.ext
    match a with
    | ⟨0, _⟩ => rfl
    | ⟨1, _⟩ => show k.val % 128 = k.val; omega
  unfold Cert.Kernel4Ideal.Value.G7
  rw [dif_pos hlt, ← Cert.Kernel4Ideal.Value.outsAt0_sweep m c _ hlt, hl, (outsAt_at m c _ hlt).h3, hp]
  dsimp only
  rw [Nat.div_add_mod]

end Cert.Kernel4Ideal.Even

end
-- ==== Proof.EvenRef.lean ====
/- The reference of the first layer's projections, entry by entry: its arrays are the model's terms, where what the gates are fed is finite. -/
module

public import proofs.«01_k».proof.Proof.EvenModel
public import proofs.«01_k».proof.Proof.OddModel
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.Reference4Ideal.Even

open Cert.Reference4Ideal Cert.Reference4Ideal.Read Cert.Reference4Ideal.Gen Idealize.ShloMosaic Idealize.ShloMosaic.TcCoe Idealize.SL.Sem
open Cert.EvenModel (Args FinGate q hn fed)
open Cert.FfnModel (gate gate_eq)

/-- The arrays hold the arguments. -/
structure Holds (I : Args) (x0 : Vec Ideal S32768x1024 .f32) (x1 : Vec Ideal S2x4x1024 .f32) (x2 : Vec Ideal S1024x3600 .f32)
    (x3 : Vec Ideal S4x1536 .f32) : Prop where
  h0 : ∀ (r : Fin 32768) (c : Fin 1024), (x0 (ix2 r c) : EReal) = I.X r c
  h1 : ∀ c : Fin 1024, (x1 (ix3 0 0 c) : EReal) = I.G c
  h2 : ∀ (k : Fin 1024) (j : Fin 3600), (x2 (ix2 k j) : EReal) = I.W k j
  h3 : ∀ (k : Fin 4) (j : Fin 1536), (x3 (ix2 k j) : EReal) = I.Cw k j

variable {I : Args} {x0 : Vec Ideal S32768x1024 .f32} {x1 : Vec Ideal S2x4x1024 .f32} {x2 : Vec Ideal S1024x3600 .f32} {x3 : Vec Ideal S4x1536 .f32}

/-! ## The products, in the weights' own order of columns -/

/-- The products with the weights as given. -/
def qo (I : Args) (r j : Nat) : EReal := ∑ k : Fin 1024, hn I r k * I.W k j

theorem qo_attn (r j : Nat) (h : j < 1536) : qo I r j = q I r j := by
  unfold qo q Cert.EvenModel.wev
  simp only [if_pos h]
theorem qo_conv (r j : Nat) (h : j < 1536) : qo I r (1544 + j) = q I r (1536 + j) := by
  unfold qo q Cert.EvenModel.wev
  simp only [if_neg (show ¬1536 + j < 1536 by omega), if_pos (show 1536 + j < 3072 by omega), show 8 + (1536 + j) = 1544 + j by omega]
theorem qo_gate (r j : Nat) (h : j < 512) : qo I r (3088 + j) = q I r (3072 + j) := by
  unfold qo q Cert.EvenModel.wev
  simp only [if_neg (show ¬3072 + j < 1536 by omega), if_neg (show ¬3072 + j < 3072 by omega), if_pos (show 3072 + j < 3584 by omega),
    show 16 + (3072 + j) = 3088 + j by omega]
theorem qo_forget (r j : Nat) (h : j < 8) : qo I r (1536 + j) = q I r (3584 + j) := by
  unfold qo q Cert.EvenModel.wev
  simp only [if_neg (show ¬3584 + j < 1536 by omega), if_neg (show ¬3584 + j < 3072 by omega), if_neg (show ¬3584 + j < 3584 by omega),
    if_pos (show 3584 + j < 3592 by omega), show 3584 + j - 2048 = 1536 + j by omega]
theorem qo_small (r j : Nat) (h : j < 8) : qo I r (3080 + j) = q I r (3592 + j) := by
  unfold qo q Cert.EvenModel.wev
  simp only [if_neg (show ¬3592 + j < 1536 by omega), if_neg (show ¬3592 + j < 3072 by omega), if_neg (show ¬3592 + j < 3584 by omega),
    if_neg (show ¬3592 + j < 3592 by omega), if_pos (show 3592 + j < 3600 by omega), show 3592 + j - 512 = 3080 + j by omega]

/-- A row normed by its mean square, as the reference writes it. -/
theorem norm_at (M : FVec Ideal S16x2048x1024 .f32) (g : FVec Ideal S1024 .f32) (f G : Nat → EReal) (b : Fin 16) (t : Fin 2048) (c : Fin 1024)
    (hM : ∀ k : Fin 1024, (M (ix3 b t k) : EReal) = f k) (hg : ∀ k : Fin 1024, (g (ix1 k) : EReal) = G k) :
    mulf (mulf M (broadcastInDim S16x2048x1024 ![0, 1, 2] bcast_S16x2048x1_S16x2048x1024_0_1_2 (Host.rsqrt (addf (Host.divf
      (broadcastInDim S16x2048x1 ![0, 1] bcast_S16x2048_S16x2048x1_0_1
        (Host.reduceAdd (mulf M M) (constant S_ .f32 0x00000000#32) reducesTo_S16x2048x1024_S16x2048_d2 h_S_))
      (broadcastInDim S16x2048x1 ![] bcast_S_S16x2048x1 (constant S_ FTy.f32 0x44800000#32)))
      (broadcastInDim S16x2048x1 ![] bcast_S_S16x2048x1 (constant S_ FTy.f32 0x358637BD#32))))))
      (broadcastInDim S16x2048x1024 ![0, 1, 2] bcast_S1x1x1024_S16x2048x1024_0_1_2 (broadcastInDim S1x1x1024 ![2] bcast_S1024_S1x1x1024_2 g)) (ix3 b t c)
      = Cert.FfnModel.rms f G c := by
  pointwise
  simp only [hM, hg]
  rfl

theorem v4_at (hI : Holds I x0 x1 x2 x3) (c : Fin 1024) : val_main_v4 (F := Ideal) x1 (ix1 c) = I.G c := by
  unfold val_main_v4 val_main_v3 val_main_v2 val_main_v1
  pointwise
  exact hI.h1 c

theorem v0_at (hI : Holds I x0 x1 x2 x3) (b : Fin 16) (t : Fin 2048) (c : Fin 1024) :
    val_main_v0 (F := Ideal) x0 (ix3 b t c) = I.X (2048 * b + t) c := by
  unfold val_main_v0
  pointwise
  have er : b.val * 2048 + t.val = 2048 * b.val + t.val := by omega
  simp only [hI.h0, er]

theorem v17_at (hI : Holds I x0 x1 x2 x3) (b : Fin 16) (t : Fin 2048) (c : Fin 1024) :
    val_main_v17 (F := Ideal) x0 x1 (ix3 b t c) = hn I (2048 * b + t) c :=
  norm_at (val_main_v0 (F := Ideal) x0) (val_main_v4 (F := Ideal) x1) _ I.G b t c (v0_at hI b t) (v4_at hI)

theorem v18_at (hI : Holds I x0 x1 x2 x3) (b : Fin 16) (t : Fin 2048) (j : Fin 3600) :
    val_main_v18 (F := Ideal) x0 x1 x2 (ix3 b t j) = qo I (2048 * b + t) j := by
  have e := v17_at hI b t
  unfold val_main_v18
  generalize val_main_v17 (F := Ideal) x0 x1 = M at e ⊢
  pointwise
  simp only [e, hI.h2]
  rfl

/-- A range of columns of the products. -/
theorem part_at (hI : Holds I x0 x1 x2 x3) (b : Fin 16) (t : Fin 2048) {w : Nat} (o : Nat) (h : S16x2048x3600.Slices ![0, 0, o] ⟨3, ![16, 2048, w]⟩) (j : Fin w)
    (hj : o + j.val < 3600) :
    (extractStridedSlice ⟨3, ![16, 2048, w]⟩ ![0, 0, o] (val_main_v18 (F := Ideal) x0 x1 x2) h (ix3 b t j) : EReal) = qo I (2048 * b + t) (o + j) := by
  refine Eq.trans (congrArg (val_main_v18 (F := Ideal) x0 x1 x2) (a₂ := ix3 b t ⟨o + j.val, hj⟩) (funext fun a => Fin.ext ?_)) (v18_at hI b t _)
  match a with
  | ⟨0, _⟩ => exact Nat.zero_add _
  | ⟨1, _⟩ => exact Nat.zero_add _
  | ⟨2, _⟩ => rfl

theorem v19_at (hI : Holds I x0 x1 x2 x3) (b : Fin 16) (t : Fin 2048) (j : Fin 512) :
    val_main_v19 (F := Ideal) x0 x1 x2 (ix3 b t j) = q I (2048 * b + t) j :=
  (part_at hI b t 0 _ j (by omega)).trans ((congrArg (qo I _) (Nat.zero_add _)).trans (qo_attn _ _ (by omega)))
theorem v20_at (hI : Holds I x0 x1 x2 x3) (b : Fin 16) (t : Fin 2048) (j : Fin 512) :
    val_main_v20 (F := Ideal) x0 x1 x2 (ix3 b t j) = q I (2048 * b + t) (512 + j) :=
  (part_at hI b t 512 _ j (by omega)).trans (qo_attn _ _ (by omega))
theorem v21_at (hI : Holds I x0 x1 x2 x3) (b : Fin 16) (t : Fin 2048) (j : Fin 512) :
    val_main_v21 (F := Ideal) x0 x1 x2 (ix3 b t j) = q I (2048 * b + t) (1024 + j) :=
  (part_at hI b t 1024 _ j (by omega)).trans (qo_attn _ _ (by omega))
theorem v22_at (hI : Holds I x0 x1 x2 x3) (b : Fin 16) (t : Fin 2048) (j : Fin 8) :
    val_main_v22 (F := Ideal) x0 x1 x2 (ix3 b t j) = q I (2048 * b + t) (3584 + j) :=
  (part_at hI b t 1536 _ j (by omega)).trans (qo_forget _ _ (by omega))
theorem v23_at (hI : Holds I x0 x1 x2 x3) (b : Fin 16) (t : Fin 2048) (j : Fin 1536) :
    val_main_v23 (F := Ideal) x0 x1 x2 (ix3 b t j) = q I (2048 * b + t) (1536 + j) :=
  (part_at hI b t 1544 _ j (by omega)).trans (qo_conv _ _ (by omega))
theorem v24_at (hI : Holds I x0 x1 x2 x3) (b : Fin 16) (t : Fin 2048) (j : Fin 4) :
    val_main_v24 (F := Ideal) x0 x1 x2 (ix3 b t j) = q I (2048 * b + t) (3592 + j) :=
  (part_at hI b t 3080 _ j (by omega)).trans (qo_small _ _ (by omega))
theorem v25_at (hI : Holds I x0 x1 x2 x3) (b : Fin 16) (t : Fin 2048) (j : Fin 4) :
    val_main_v25 (F := Ideal) x0 x1 x2 (ix3 b t j) = q I (2048 * b + t) (3596 + j) :=
  (part_at hI b t 3084 _ j (by omega)).trans
    ((congrArg (qo I _) (by omega)).trans ((qo_small _ (4 + j.val) (by omega)).trans (congrArg (q I _) (by omega))))
theorem v26_at (hI : Holds I x0 x1 x2 x3) (b : Fin 16) (t : Fin 2048) (j : Fin 512) :
    val_main_v26 (F := Ideal) x0 x1 x2 (ix3 b t j) = q I (2048 * b + t) (3072 + j) :=
  (part_at hI b t 3088 _ j (by omega)).trans (qo_gate _ _ (by omega))

/-! ## The convolution and the gates -/

theorem v27_at (hI : Holds I x0 x1 x2 x3) (b : Fin 16) (t : Fin 2051) (j : Fin 1536) :
    val_main_v27 (F := Ideal) x0 x1 x2 (ix3 b t j) = if t.val < 3 then 0 else q I (2048 * b + t - 3) (1536 + j) := by
  have e := v23_at hI b
  unfold val_main_v27 val_main_call0_v0 val_main_c
  generalize val_main_v23 (F := Ideal) x0 x1 x2 = M at e ⊢
  pointwise
  have ht := t.isLt
  by_cases h : t.val < 3
  · rw [dif_neg (by omega), if_pos h]
    show (((0#32 : BitVec 32).toInt : ℝ) : EReal) = 0
    simp
  · rw [dif_pos ⟨by omega, by omega⟩, if_neg h, e]
    exact congrArg (fun n => q I n _) (by show 2048 * b.val + (t.val - 3) = _; omega)

theorem v54_at (hI : Holds I x0 x1 x2 x3) (b : Fin 16) (t : Fin 2048) (j : Fin 1536) :
    val_main_v54 (F := Ideal) x0 x1 x2 x3 (ix3 b t j) = Cert.EvenModel.conv I (2048 * b + t) j := by
  have e := v27_at hI b
  unfold val_main_v54 val_main_v53 val_main_v52 val_main_v51 val_main_v50 val_main_v49 val_main_v48 val_main_v47 val_main_v46 val_main_v45 val_main_v44 val_main_v43 val_main_v42
    val_main_v41 val_main_v40 val_main_v39 val_main_v38 val_main_v37 val_main_v36 val_main_v35 val_main_v34 val_main_v33 val_main_v32 val_main_v31 val_main_v30 val_main_v29 val_main_v28
  generalize val_main_v27 (F := Ideal) x0 x1 x2 = M at e ⊢
  pointwise
  simp only [e, hI.h3]
  have hb : ∀ o k : Nat, o + k = 3 → (if o + t.val < 3 then (0 : EReal) else q I (2048 * b.val + (o + t.val) - 3) (1536 + j))
      = Cert.EvenModel.back I (2048 * b.val + t.val) k j := fun o k hk => by
    have ht := t.isLt
    unfold Cert.EvenModel.back
    by_cases h : o + t.val < 3
    · rw [if_pos h, if_pos (by omega)]
    · rw [if_neg h, if_neg (by omega)]
      exact congrArg (fun n => q I n _) (by omega)
  have h0 := hb 0 3 rfl
  have h1 := hb 1 2 rfl
  have h2 := hb 2 1 rfl
  have h3 := hb 3 0 rfl
  rw [Nat.zero_add] at h0
  have h4 : Cert.EvenModel.back I (2048 * b.val + t.val) 0 j = q I (2048 * b.val + t.val) (1536 + j) := by
    unfold Cert.EvenModel.back
    rw [if_neg (Nat.not_lt_zero _), Nat.sub_zero]
  rw [h0, h1, h2, h3, h4]
  rfl

theorem v55_at (hI : Holds I x0 x1 x2 x3) (hf : FinGate I) (b : Fin 16) (t : Fin 2048) (j : Fin 1536) :
    val_main_v55 (F := Ideal) x0 x1 x2 x3 (ix3 b t j) = fed I (2048 * b + t) j := by
  have e := v54_at hI b t j
  unfold val_main_v55 val_main_call1_v5 val_main_call1_v4 val_main_call1_v3 val_main_call1_v2 val_main_call1_v1 val_main_call1_v0
    val_main_call1_cst val_main_call1_cst_0
  generalize val_main_v54 (F := Ideal) x0 x1 x2 x3 = M at e ⊢
  pointwise
  unfold fed
  rw [e, gate_eq _ (Cert.EvenModel.conv_fin I hf _ _ j.isLt).ne_bot, ← Cert.OddModel.sig_eq]
  rfl

theorem v89_at (hI : Holds I x0 x1 x2 x3) (hf : FinGate I) (b : Fin 16) (t : Fin 2048) (j : Fin 512) :
    val_main_v89 (F := Ideal) x0 x1 x2 (ix3 b t j) = Cert.EvenModel.out I (2048 * b + t) j := by
  have e := v26_at hI b t j
  unfold val_main_v89 val_main_call2_v5 val_main_call2_v4 val_main_call2_v3 val_main_call2_v2 val_main_call2_v1 val_main_call2_v0
    val_main_call2_cst val_main_call2_cst_0
  generalize val_main_v26 (F := Ideal) x0 x1 x2 = M at e ⊢
  pointwise
  unfold Cert.EvenModel.out
  rw [e, gate_eq _ (Cert.EvenModel.q_fin I hf _ _ (by omega) (by omega)).ne_bot, ← Cert.OddModel.sig_eq]
  rfl

/-! ## The heads -/

theorem heads_at (M : FVec Ideal S16x2048x512 .f32) (f : Nat → EReal) (b : Fin 16) (t : Fin 2048) (hM : ∀ j : Fin 512, (M (ix3 b t j) : EReal) = f j)
    (h : Fin 4) (d : Fin 128) :
    (shapeCast S16x2048x4x128 M shapeCasts_S16x2048x512_S16x2048x4x128 (ix4 b t h d) : EReal) = f (128 * h + d) := by
  pointwise
  rw [hM]
  exact congrArg f (by show h.val * 128 + d.val = _; omega)

theorem unit_at (H : FVec Ideal S16x2048x4x128 .f32) (f : Nat → EReal) (o : Nat) (b : Fin 16) (t : Fin 2048) (h : Fin 4)
    (hH : ∀ d : Fin 128, (H (ix4 b t h d) : EReal) = f (o + d)) (d : Fin 128) :
    mulf H (broadcastInDim S16x2048x4x128 ![0, 1, 2, 3] bcast_S16x2048x4x1_S16x2048x4x128_0_1_2_3 (Host.rsqrt (addf
      (broadcastInDim S16x2048x4x1 ![0, 1, 2] bcast_S16x2048x4_S16x2048x4x1_0_1_2
        (Host.reduceAdd (mulf H H) (constant S_ .f32 0x00000000#32) reducesTo_S16x2048x4x128_S16x2048x4_d3 h_S_))
      (broadcastInDim S16x2048x4x1 ![] bcast_S_S16x2048x4x1 (constant S_ FTy.f32 0x358637BD#32))))) (ix4 b t h d) = Cert.EvenModel.unit f o d := by
  pointwise
  simp only [hH]
  rfl

/-- The three ranges of the gated columns, by head. -/
theorem v59_at (hI : Holds I x0 x1 x2 x3) (hf : FinGate I) (b : Fin 16) (t : Fin 2048) (h : Fin 4) (d : Fin 128) :
    val_main_v59 (F := Ideal) x0 x1 x2 x3 (ix4 b t h d) = fed I (2048 * b + t) (128 * h + d) := by
  refine heads_at (val_main_v56 (F := Ideal) x0 x1 x2 x3) (fun j => fed I (2048 * b + t) j) b t (fun j => ?_) h d
  have e := v55_at hI hf b t
  unfold val_main_v56
  generalize val_main_v55 (F := Ideal) x0 x1 x2 x3 = M at e ⊢
  pointwise
  exact e _
theorem v70_at (hI : Holds I x0 x1 x2 x3) (hf : FinGate I) (b : Fin 16) (t : Fin 2048) (h : Fin 4) (d : Fin 128) :
    val_main_v70 (F := Ideal) x0 x1 x2 x3 (ix4 b t h d) = fed I (2048 * b + t) (128 * (4 + h) + d) := by
  refine (heads_at (val_main_v57 (F := Ideal) x0 x1 x2 x3) (fun j => fed I (2048 * b + t) (512 + j)) b t (fun j => ?_) h d).trans (congrArg (fed I _) (by omega))
  have e := v55_at hI hf b t
  unfold val_main_v57
  generalize val_main_v55 (F := Ideal) x0 x1 x2 x3 = M at e ⊢
  pointwise
  exact e _
theorem v79_at (hI : Holds I x0 x1 x2 x3) (hf : FinGate I) (b : Fin 16) (t : Fin 2048) (h : Fin 4) (d : Fin 128) :
    val_main_v79 (F := Ideal) x0 x1 x2 x3 (ix4 b t h d) = fed I (2048 * b + t) (128 * (8 + h) + d) := by
  refine (heads_at (val_main_v58 (F := Ideal) x0 x1 x2 x3) (fun j => fed I (2048 * b + t) (1024 + j)) b t (fun j => ?_) h d).trans (congrArg (fed I _) (by omega))
  have e := v55_at hI hf b t
  unfold val_main_v58
  generalize val_main_v55 (F := Ideal) x0 x1 x2 x3 = M at e ⊢
  pointwise
  exact e _

theorem v69_at (hI : Holds I x0 x1 x2 x3) (hf : FinGate I) (b : Fin 16) (t : Fin 2048) (h : Fin 4) (d : Fin 128) :
    val_main_v69 (F := Ideal) x0 x1 x2 x3 (ix4 b t h d) = Cert.EvenModel.head I (2048 * b + t) h d := by
  have e : val_main_v67 (F := Ideal) x0 x1 x2 x3 (ix4 b t h d) = Cert.EvenModel.unit (fed I (2048 * b + t)) (128 * h) d :=
    unit_at (val_main_v59 (F := Ideal) x0 x1 x2 x3) _ _ b t h (v59_at hI hf b t h) d
  unfold val_main_v69 val_main_v68 val_main_cst_4 Cert.EvenModel.head
  generalize val_main_v67 (F := Ideal) x0 x1 x2 x3 = M at e ⊢
  pointwise
  rw [e]
theorem v78_at (hI : Holds I x0 x1 x2 x3) (hf : FinGate I) (b : Fin 16) (t : Fin 2048) (h : Fin 4) (d : Fin 128) :
    val_main_v78 (F := Ideal) x0 x1 x2 x3 (ix4 b t h d) = Cert.EvenModel.head I (2048 * b + t) (4 + h) d := by
  unfold Cert.EvenModel.head
  rw [if_neg (show ¬4 + h.val < 4 by omega), if_pos (show 4 + h.val < 8 by omega)]
  exact unit_at (val_main_v70 (F := Ideal) x0 x1 x2 x3) _ _ b t h (v70_at hI hf b t h) d
theorem v79_head (hI : Holds I x0 x1 x2 x3) (hf : FinGate I) (b : Fin 16) (t : Fin 2048) (h : Fin 4) (d : Fin 128) :
    val_main_v79 (F := Ideal) x0 x1 x2 x3 (ix4 b t h d) = Cert.EvenModel.head I (2048 * b + t) (8 + h) d := by
  unfold Cert.EvenModel.head
  rw [if_neg (show ¬8 + h.val < 4 by omega), if_neg (show ¬8 + h.val < 8 by omega)]
  exact v79_at hI hf b t h d

/-! ## The results -/

/-- Rows of all sequences one after another. -/
theorem rows_at (w : Nat) (M : FVec Ideal ⟨3, ![16, 2048, w]⟩ .f32) (f : Nat → Nat → EReal)
    (hM : ∀ (b : Fin 16) (t : Fin 2048) (j : Fin w), (M (ix3 b t j) : EReal) = f (2048 * b + t) j) (r : Fin 32768) (j : Fin w) :
    (M (ix3 ⟨r.val / 2048, by omega⟩ ⟨r.val % 2048, by omega⟩ j) : EReal) = f r j :=
  (hM _ _ j).trans (congrArg (fun n => f n j) (Nat.div_add_mod r.val 2048))

theorem cols_at (M : FVec Ideal S16x2048x4x128 .f32) (f : Nat → Nat → Nat → EReal)
    (hM : ∀ (b : Fin 16) (t : Fin 2048) (h : Fin 4) (d : Fin 128), (M (ix4 b t h d) : EReal) = f (2048 * b + t) h d) (r : Fin 32768) (j : Fin 512) :
    (shapeCast S32768x512 M shapeCasts_S16x2048x4x128_S32768x512 (ix2 r j) : EReal) = f r (j / 128) (j % 128) := by
  have e := (hM ⟨r.val / 2048, by omega⟩ ⟨r.val % 2048, by omega⟩ ⟨j.val / 128, by omega⟩ ⟨j.val % 128, by omega⟩).trans
    (congrArg (fun n => f n _ _) (Nat.div_add_mod r.val 2048))
  rw [← e]
  pointwise

theorem v80_at (hI : Holds I x0 x1 x2 x3) (r : Fin 32768) (j : Fin 512) : val_main_v80 (F := Ideal) x0 x1 x2 (ix2 r j) = q I r j := by
  refine Eq.trans ?_ (rows_at 512 (val_main_v19 (F := Ideal) x0 x1 x2) (fun r j => q I r j) (v19_at hI) r j)
  unfold val_main_v80
  generalize val_main_v19 (F := Ideal) x0 x1 x2 = M
  pointwise
theorem v81_at (hI : Holds I x0 x1 x2 x3) (r : Fin 32768) (j : Fin 512) : val_main_v81 (F := Ideal) x0 x1 x2 (ix2 r j) = q I r (512 + j) := by
  refine Eq.trans ?_ (rows_at 512 (val_main_v20 (F := Ideal) x0 x1 x2) (fun r j => q I r (512 + j)) (v20_at hI) r j)
  unfold val_main_v81
  generalize val_main_v20 (F := Ideal) x0 x1 x2 = M
  pointwise
theorem v82_at (hI : Holds I x0 x1 x2 x3) (r : Fin 32768) (j : Fin 512) : val_main_v82 (F := Ideal) x0 x1 x2 (ix2 r j) = q I r (1024 + j) := by
  refine Eq.trans ?_ (rows_at 512 (val_main_v21 (F := Ideal) x0 x1 x2) (fun r j => q I r (1024 + j)) (v21_at hI) r j)
  unfold val_main_v82
  generalize val_main_v21 (F := Ideal) x0 x1 x2 = M
  pointwise
theorem v92_at (hI : Holds I x0 x1 x2 x3) (r : Fin 32768) (j : Fin 8) : val_main_v92 (F := Ideal) x0 x1 x2 (ix2 r j) = q I r (3584 + j) := by
  refine Eq.trans ?_ (rows_at 8 (val_main_v22 (F := Ideal) x0 x1 x2) (fun r j => q I r (3584 + j)) (v22_at hI) r j)
  unfold val_main_v92
  generalize val_main_v22 (F := Ideal) x0 x1 x2 = M
  pointwise
theorem v93_at (hI : Holds I x0 x1 x2 x3) (r : Fin 32768) (j : Fin 4) : val_main_v93 (F := Ideal) x0 x1 x2 (ix2 r j) = q I r (3592 + j) := by
  refine Eq.trans ?_ (rows_at 4 (val_main_v24 (F := Ideal) x0 x1 x2) (fun r j => q I r (3592 + j)) (v24_at hI) r j)
  unfold val_main_v93
  generalize val_main_v24 (F := Ideal) x0 x1 x2 = M
  pointwise
theorem v94_at (hI : Holds I x0 x1 x2 x3) (r : Fin 32768) (j : Fin 4) : val_main_v94 (F := Ideal) x0 x1 x2 (ix2 r j) = q I r (3596 + j) := by
  refine Eq.trans ?_ (rows_at 4 (val_main_v25 (F := Ideal) x0 x1 x2) (fun r j => q I r (3596 + j)) (v25_at hI) r j)
  unfold val_main_v94
  generalize val_main_v25 (F := Ideal) x0 x1 x2 = M
  pointwise
theorem v90_at (hI : Holds I x0 x1 x2 x3) (hf : FinGate I) (r : Fin 32768) (j : Fin 512) :
    val_main_v90 (F := Ideal) x0 x1 x2 (ix2 r j) = Cert.EvenModel.out I r j := by
  refine Eq.trans ?_ (rows_at 512 (val_main_v89 (F := Ideal) x0 x1 x2) (fun r j => Cert.EvenModel.out I r j) (v89_at hI hf) r j)
  unfold val_main_v90
  generalize val_main_v89 (F := Ideal) x0 x1 x2 = M
  pointwise

theorem v84_at (hI : Holds I x0 x1 x2 x3) (r : Fin 32768) (j : Fin 1536) : val_main_v84 (F := Ideal) x0 x1 x2 (ix2 r j) = q I r j := by
  have e0 := v80_at hI r
  have e1 := v81_at hI r
  have e2 := v82_at hI r
  unfold val_main_v84 val_main_v83
  generalize val_main_v80 (F := Ideal) x0 x1 x2 = A0 at e0 ⊢
  generalize val_main_v81 (F := Ideal) x0 x1 x2 = A1 at e1 ⊢
  generalize val_main_v82 (F := Ideal) x0 x1 x2 = A2 at e2 ⊢
  pointwise
  simp only [e0, e1, e2]
  by_cases h0 : j.val < 512
  · rw [dif_pos h0]
  rw [dif_neg h0]
  by_cases h1 : j.val < 1024
  · rw [dif_pos (by omega), show 512 + (j.val - 512) = j.val by omega]
  · rw [dif_neg (by omega), show 1024 + (j.val - 512 - 512) = j.val by omega]

theorem v88_at (hI : Holds I x0 x1 x2 x3) (hf : FinGate I) (r : Fin 32768) (j : Fin 1536) :
    val_main_v88 (F := Ideal) x0 x1 x2 x3 (ix2 r j) = Cert.EvenModel.act I r j := by
  have e0 : ∀ j : Fin 512, val_main_v85 (F := Ideal) x0 x1 x2 x3 (ix2 r j) = Cert.EvenModel.head I r (j / 128) (j % 128) :=
    cols_at (val_main_v69 (F := Ideal) x0 x1 x2 x3) (fun r p d => Cert.EvenModel.head I r p d) (v69_at hI hf) r
  have e1 : ∀ j : Fin 512, val_main_v86 (F := Ideal) x0 x1 x2 x3 (ix2 r j) = Cert.EvenModel.head I r (4 + j / 128) (j % 128) :=
    cols_at (val_main_v78 (F := Ideal) x0 x1 x2 x3) (fun r p d => Cert.EvenModel.head I r (4 + p) d) (v78_at hI hf) r
  have e2 : ∀ j : Fin 512, val_main_v87 (F := Ideal) x0 x1 x2 x3 (ix2 r j) = Cert.EvenModel.head I r (8 + j / 128) (j % 128) :=
    cols_at (val_main_v79 (F := Ideal) x0 x1 x2 x3) (fun r p d => Cert.EvenModel.head I r (8 + p) d) (v79_head hI hf) r
  unfold val_main_v88 Cert.EvenModel.act
  generalize val_main_v85 (F := Ideal) x0 x1 x2 x3 = A0 at e0 ⊢
  generalize val_main_v86 (F := Ideal) x0 x1 x2 x3 = A1 at e1 ⊢
  generalize val_main_v87 (F := Ideal) x0 x1 x2 x3 = A2 at e2 ⊢
  pointwise
  simp only [e0, e1, e2]
  by_cases h0 : j.val < 512
  · rw [dif_pos h0]
  rw [dif_neg h0]
  by_cases h1 : j.val < 1024
  · rw [dif_pos (by omega), show 4 + (j.val - 512) / 128 = j.val / 128 by omega, show (j.val - 512) % 128 = j.val % 128 by omega]
  · rw [dif_neg (by omega), show 8 + (j.val - 512 - 512) / 128 = j.val / 128 by omega, show (j.val - 512 - 512) % 128 = j.val % 128 by omega]

theorem v96_at (hI : Holds I x0 x1 x2 x3) (r : Fin 32768) (j : Fin 128) : val_main_v96 (F := Ideal) x0 x1 x2 (ix2 r j) = q I r (3584 + j) := by
  have e0 := v92_at hI r
  have e1 := v93_at hI r
  have e2 := v94_at hI r
  unfold val_main_v96 val_main_v95 val_main_v91 val_main_cst_7
  generalize val_main_v92 (F := Ideal) x0 x1 x2 = A0 at e0 ⊢
  generalize val_main_v93 (F := Ideal) x0 x1 x2 = A1 at e1 ⊢
  generalize val_main_v94 (F := Ideal) x0 x1 x2 = A2 at e2 ⊢
  pointwise
  simp only [e0, e1, e2]
  by_cases h0 : j.val < 8
  · rw [dif_pos h0]
  rw [dif_neg h0]
  by_cases h1 : j.val < 12
  · rw [dif_pos (by omega), show 3592 + (j.val - 8) = 3584 + j.val by omega]
  rw [dif_neg (by omega)]
  by_cases h2 : j.val < 16
  · rw [dif_pos (by omega), show 3596 + (j.val - 8 - 4) = 3584 + j.val by omega]
  · rw [dif_neg (by omega)]
    exact (Cert.EvenModel.q_zero I _ _ (by omega)).symm

end Cert.Reference4Ideal.Even

end
-- ==== Proof.EvenPre.lean ====
/- The precondition of the first layer's projections read: where it holds, the weights the gates are fed from are finite. -/
module

public import proofs.«01_k».proof.Proof.EvenRef
public import proofs.«01_k».proof.Proof.FfnPre
public import proofs.«01_k».proof.Proof.Gen.Pre_finite_even_weights
public import Idealize.ShloMosaic.Lib.Pointwise

@[expose] public section

set_option maxRecDepth 16384

noncomputable section

namespace Cert.Pre_finite_even_weights.Even

open Cert.Pre_finite_even_weights Idealize.ShloMosaic Idealize.ShloMosaic.TcCoe Idealize.SL.Sem
open Cert.EvenModel (Args FinGate)
open Cert.FfnModel (IsReal)
open Cert.Pre_finite_gate_weights.Ffn (real_of_cmp)
open Cert.Reference4Ideal.Even (Holds)

variable (x0 : FVec Ideal S32768x1024 .f32) (x1 : FVec Ideal S2x4x1024 .f32) (x2 : FVec Ideal S1024x3600 .f32) (x3 : FVec Ideal S4x1536 .f32)

theorem norm_real (h : (fn (F := Ideal) x0 x1 x2 x3).1 = fun _ => 1#1) (k : Fin 1024) : IsReal (x1 (ix3 0 0 k)) := by
  have e := congrFun h (ix1 k)
  unfold fn at e
  dsimp only at e
  pointwise at e
  exact real_of_cmp _ e

theorem conv_in_real (h : (fn (F := Ideal) x0 x1 x2 x3).2.1 = fun _ => 1#1) (k : Fin 1024) (j : Fin 1536) : IsReal (x2 (ix2 k ⟨1544 + j.val, by omega⟩)) := by
  have e := congrFun h (ix2 k j)
  unfold fn at e
  dsimp only at e
  pointwise at e
  exact real_of_cmp _ e

theorem gate_real (h : (fn (F := Ideal) x0 x1 x2 x3).2.2.1 = fun _ => 1#1) (k : Fin 1024) (j : Fin 512) : IsReal (x2 (ix2 k ⟨3088 + j.val, by omega⟩)) := by
  have e := congrFun h (ix2 k j)
  unfold fn at e
  dsimp only at e
  pointwise at e
  exact real_of_cmp _ e

theorem conv_real (h : (fn (F := Ideal) x0 x1 x2 x3).2.2.2 = fun _ => 1#1) (k : Fin 4) (j : Fin 1536) : IsReal (x3 (ix2 k j)) := by
  have e := congrFun h (ix2 k j)
  unfold fn at e
  dsimp only at e
  pointwise at e
  exact real_of_cmp _ e

/-- What the precondition says of the arrays a call is given. -/
theorem finGate {I : Args} (hI : Holds I x0 x1 x2 x3)
    (h : (fn (F := Ideal) x0 x1 x2 x3).1 = (fun _ => 1#1) ∧ (fn (F := Ideal) x0 x1 x2 x3).2.1 = (fun _ => 1#1)
      ∧ (fn (F := Ideal) x0 x1 x2 x3).2.2.1 = (fun _ => 1#1) ∧ (fn (F := Ideal) x0 x1 x2 x3).2.2.2 = (fun _ => 1#1)) : FinGate I := by
  refine ⟨fun c hc => ?_, fun k hk j hj => ?_, fun k hk j hj => ?_, fun k hk j hj => ?_⟩
  · exact (hI.h1 ⟨c, hc⟩) ▸ norm_real x0 x1 x2 x3 h.1 ⟨c, hc⟩
  · exact (hI.h2 ⟨k, hk⟩ ⟨1544 + j, by omega⟩) ▸ conv_in_real x0 x1 x2 x3 h.2.1 ⟨k, hk⟩ ⟨j, hj⟩
  · exact (hI.h2 ⟨k, hk⟩ ⟨3088 + j, by omega⟩) ▸ gate_real x0 x1 x2 x3 h.2.2.1 ⟨k, hk⟩ ⟨j, hj⟩
  · exact (hI.h3 ⟨k, hk⟩ ⟨j, hj⟩) ▸ conv_real x0 x1 x2 x3 h.2.2.2 ⟨k, hk⟩ ⟨j, hj⟩

end Cert.Pre_finite_even_weights.Even

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_gate_weights
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_silu_weights
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite_even_weights
public import proofs.«01_k».proof.Proof.Gen.Kernel4Ideal.Value
public import proofs.«01_k».proof.Proof.Gen.Reference4Ideal.Run
public import proofs.«01_k».proof.Proof.Gen.Reference4Ideal.Read
public import proofs.«01_k».proof.Proof.SsdRef
public import proofs.«01_k».proof.Proof.FfnPoints
public import proofs.«01_k».proof.Proof.FfnRef
public import proofs.«01_k».proof.Proof.FfnPre
public import proofs.«01_k».proof.Proof.OddPoints
public import proofs.«01_k».proof.Proof.OddRef
public import proofs.«01_k».proof.Proof.OddPre
public import proofs.«01_k».proof.Proof.EvenPoints
public import proofs.«01_k».proof.Proof.EvenRef
public import proofs.«01_k».proof.Proof.EvenPre
public import Idealize.ShloMosaic.Adequacy
public import Idealize.ShloMosaic.Init

@[expose] public section

noncomputable section

namespace Cert.Proof

open Idealize.ShloMosaic Idealize.SL.Sem Cert.Kernel

/-! ## The state-space scan -/

/-- The reference's result, at the kernel's arguments. -/
theorem ssd_reads (m : (ℓ : Loc Cert.KernelIdeal.nD Cert.KernelIdeal.τ Cert.KernelIdeal.sig) → Buf (Elt Ideal) ℓ) (c : Dev Cert.KernelIdeal.nD) :
    Cert.ReferenceIdeal.Ssd.Reads (Cert.KernelIdeal.Ssd.args m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) where
  hP r k hr hk := (Cert.KernelIdeal.Ssd.args_P m c r k hr hk).symm
  hAl h := (Cert.KernelIdeal.Ssd.args_Al m c h.val h.isLt).symm
  hDb h := (Cert.KernelIdeal.Ssd.args_Db m c h.val h.isLt).symm
  hD h := (Cert.KernelIdeal.Ssd.args_D m c h).symm
  hG k := (Cert.KernelIdeal.Ssd.args_G m c k).symm

theorem ssd_algebraic : Cert.algebraic_KernelIdeal_ReferenceIdeal := by
  intro m ρ m' ρ' _ hagree
  refine ⟨fun c => Cert.KernelIdeal.Value.G7 m c, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4⟩ := hagree c
  refine (Cert.ReferenceIdeal.Read.val_main_v237_eq (F := Ideal) (Idealize.ShloMosaic.StableHlo.launchContents m' c)).trans ?_
  refine (congr (congr (congr (congr (congrArg (Cert.ReferenceIdeal.Read.val_main_v237 (F := Ideal)) a0) a1) a2) a3) a4).trans ?_
  funext i
  rw [Idealize.ShloMosaic.eq_ix2 i]
  exact (Cert.ReferenceIdeal.Ssd.v237_at (ssd_reads m c) _ _).trans (Cert.KernelIdeal.Ssd.result_at m c _ _).symm

/-! ## The feed-forward stage -/

/-- The reference's arguments, at the kernel's arguments. -/
theorem ffn_reads (m : (ℓ : Loc Cert.Kernel2Ideal.nD Cert.Kernel2Ideal.τ Cert.Kernel2Ideal.sig) → Buf (Elt Ideal) ℓ) (c : Dev Cert.Kernel2Ideal.nD) :
    Cert.Reference2Ideal.Ffn.Holds (Cert.Kernel2Ideal.Ffn.args m c)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8)) where
  h0 r k := (Cert.FfnModel.mat_at (fun r k => m ((c.tc : Thread Cert.Kernel2Ideal.nD Cert.Kernel2Ideal.τ).loc Cert.Kernel2Ideal.main_arg0) (ix2 r k)) r.val k.val r.isLt k.isLt).symm
  h1 r k := (Cert.FfnModel.mat_at (fun r k => m ((c.tc : Thread Cert.Kernel2Ideal.nD Cert.Kernel2Ideal.τ).loc Cert.Kernel2Ideal.main_arg1) (ix2 r k)) r.val k.val r.isLt k.isLt).symm
  h2 r k := (Cert.FfnModel.mat_at (fun r k => m ((c.tc : Thread Cert.Kernel2Ideal.nD Cert.Kernel2Ideal.τ).loc Cert.Kernel2Ideal.main_arg2) (ix2 r k)) r.val k.val r.isLt k.isLt).symm
  h4 k j := (Cert.FfnModel.mat_at (fun k j => m ((c.tc : Thread Cert.Kernel2Ideal.nD Cert.Kernel2Ideal.τ).loc Cert.Kernel2Ideal.main_arg4) (ix3 1 k j)) k.val j.val k.isLt j.isLt).symm
  h5 k j := (Cert.FfnModel.mat_at (fun k j => m ((c.tc : Thread Cert.Kernel2Ideal.nD Cert.Kernel2Ideal.τ).loc Cert.Kernel2Ideal.main_arg5) (ix3 1 k j)) k.val j.val k.isLt j.isLt).symm
  h6 k j := (Cert.FfnModel.mat_at (fun k j => m ((c.tc : Thread Cert.Kernel2Ideal.nD Cert.Kernel2Ideal.τ).loc Cert.Kernel2Ideal.main_arg6) (ix3 1 k j)) k.val j.val k.isLt j.isLt).symm
  h8 k j := (Cert.FfnModel.mat_at (fun k j => m ((c.tc : Thread Cert.Kernel2Ideal.nD Cert.Kernel2Ideal.τ).loc Cert.Kernel2Ideal.main_arg8) (ix3 1 k j)) k.val j.val k.isLt j.isLt).symm
  g1 k := (Cert.FfnModel.vec_at (fun k => m ((c.tc : Thread Cert.Kernel2Ideal.nD Cert.Kernel2Ideal.τ).loc Cert.Kernel2Ideal.main_arg3) (ix3 1 1 k)) k.val k.isLt).symm
  g2 k := (Cert.FfnModel.vec_at (fun k => m ((c.tc : Thread Cert.Kernel2Ideal.nD Cert.Kernel2Ideal.τ).loc Cert.Kernel2Ideal.main_arg3) (ix3 1 2 k)) k.val k.isLt).symm
  g3 k := (Cert.FfnModel.vec_at (fun k => m ((c.tc : Thread Cert.Kernel2Ideal.nD Cert.Kernel2Ideal.τ).loc Cert.Kernel2Ideal.main_arg3) (ix3 1 3 k)) k.val k.isLt).symm
  h7 j := (Cert.FfnModel.vec_at (fun j => m ((c.tc : Thread Cert.Kernel2Ideal.nD Cert.Kernel2Ideal.τ).loc Cert.Kernel2Ideal.main_arg7) (ix2 1 j)) j.val j.isLt).symm

theorem ffn_algebraic : Cert.algebraic_Kernel2Ideal_Reference2Ideal_pre_finite_gate_weights := by
  intro m ρ m' ρ' hpre hagree
  refine ⟨fun c => Cert.Kernel2Ideal.Value.G11 m c, Cert.Kernel2Ideal.Value.run (F := Ideal) m ρ, ?_⟩
  refine (θ_run Cert.Reference2Ideal.defs _ _).mono (fun _ h c => ⟨(h c).1.trans ?_, (h c).2⟩) (Cert.Reference2Ideal.Value.run (F := Ideal) m' ρ')
  obtain ⟨a0, a1, a2, a3, a4, a5, a6, a7, a8⟩ := hagree c
  refine (Cert.Reference2Ideal.Read.val_main_v95_eq (F := Ideal) (Idealize.ShloMosaic.StableHlo.launchContents m' c)).trans ?_
  refine (congr (congr (congr (congr (congr (congr (congr (congr (congrArg (Cert.Reference2Ideal.Read.val_main_v95 (F := Ideal)) a0) a1) a2) a3) a4) a5) a6) a7) a8).trans ?_
  funext i
  rw [Idealize.ShloMosaic.eq_ix2 i]
  have hf := Cert.Pre_finite_gate_weights.Ffn.finGate _ _ _ _ _ _ _ _ _ (ffn_reads m c) (hpre c)
  exact (Cert.Reference2Ideal.Ffn.v95_at (ffn_reads m c) hf _ _).trans (Cert.Kernel2Ideal.Ffn.array_at m c _ _).symm

/-- The second reference leaves its arguments alone and owns no semaphore. -/
theorem ffn_reference_frame : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run (F := Ideal) m ρ)

/-! ## The second layer's projections -/

/-- The third reference's arguments, at the kernel's arguments. -/
theorem odd_reads (m : (ℓ : Loc Cert.Kernel3Ideal.nD Cert.Kernel3Ideal.τ Cert.Kernel3Ideal.sig) → Buf (Elt Ideal) ℓ) (c : Dev Cert.Kernel3Ideal.nD) :
    Cert.Reference3Ideal.Odd.Holds (Cert.Kernel3Ideal.Odd.args m c)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)) where
  h0 r k := (Cert.FfnModel.mat_at (fun r k => m ((c.tc : Thread Cert.Kernel3Ideal.nD Cert.Kernel3Ideal.τ).loc Cert.Kernel3Ideal.main_arg0) (ix2 r k)) r.val k.val r.isLt k.isLt).symm
  h1 k := (Cert.FfnModel.vec_at (fun k => m ((c.tc : Thread Cert.Kernel3Ideal.nD Cert.Kernel3Ideal.τ).loc Cert.Kernel3Ideal.main_arg1) (ix3 1 0 k)) k.val k.isLt).symm
  h2 k j := (Cert.FfnModel.mat_at (fun k j => m ((c.tc : Thread Cert.Kernel3Ideal.nD Cert.Kernel3Ideal.τ).loc Cert.Kernel3Ideal.main_arg2) (ix2 k j)) k.val j.val k.isLt j.isLt).symm
  h3 i j := (Cert.FfnModel.mat_at (fun i j => m ((c.tc : Thread Cert.Kernel3Ideal.nD Cert.Kernel3Ideal.τ).loc Cert.Kernel3Ideal.main_arg3) (ix2 i j)) i.val j.val i.isLt j.isLt).symm
  h4 k j := (Cert.FfnModel.mat_at (fun k j => m ((c.tc : Thread Cert.Kernel3Ideal.nD Cert.Kernel3Ideal.τ).loc Cert.Kernel3Ideal.main_arg4) (ix2 k j)) k.val j.val k.isLt j.isLt).symm
  h5 j := (Cert.FfnModel.vec_at (fun j => m ((c.tc : Thread Cert.Kernel3Ideal.nD Cert.Kernel3Ideal.τ).loc Cert.Kernel3Ideal.main_arg5) (ix1 j)) j.val j.isLt).symm

theorem odd_algebraic : Cert.algebraic_Kernel3Ideal_Reference3Ideal_pre_finite_silu_weights := by
  intro m ρ m' ρ' hpre hagree
  refine ⟨fun c => Cert.Kernel3Ideal.Value.G6 m c, Cert.Kernel3Ideal.Value.run (F := Ideal) m ρ, ?_⟩
  refine (θ_run Cert.Reference3Ideal.defs _ _).mono (fun _ h c => ⟨(h c).1.trans ?_, (h c).2⟩) (Cert.Reference3Ideal.Value.run (F := Ideal) m' ρ')
  obtain ⟨a0, a1, a2, a3, a4, a5⟩ := hagree c
  refine (Cert.Reference3Ideal.Read.val_main_v109_eq (F := Ideal) m' c).trans ?_
  refine (congr (congr (congr (congr (congr (congrArg (Cert.Reference3Ideal.Read.val_main_v109 (F := Ideal)) a0) a1) a2) a3) a4) a5).trans ?_
  funext i
  rw [Idealize.ShloMosaic.eq_ix2 i]
  have hf := Cert.Pre_finite_silu_weights.Odd.finGate _ _ _ _ _ _ (odd_reads m c) (hpre c)
  exact (Cert.Reference3Ideal.Odd.v109_at (odd_reads m c) hf _ _).trans (Cert.Kernel3Ideal.Odd.array_at m c _ _).symm

/-- The third reference leaves its arguments alone and owns no semaphore. -/
theorem odd_reference_frame : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run (F := Ideal) m ρ)

/-! ## The first layer's projections -/

/-- The fourth reference's arguments, at the kernel's arguments. -/
theorem even_reads (m : (ℓ : Loc Cert.Kernel4Ideal.nD Cert.Kernel4Ideal.τ Cert.Kernel4Ideal.sig) → Buf (Elt Ideal) ℓ) (c : Dev Cert.Kernel4Ideal.nD) :
    Cert.Reference4Ideal.Even.Holds (Cert.Kernel4Ideal.Even.args m c)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) where
  h0 r k := (Cert.FfnModel.mat_at (fun r k => m ((c.tc : Thread Cert.Kernel4Ideal.nD Cert.Kernel4Ideal.τ).loc Cert.Kernel4Ideal.main_arg0) (ix2 r k)) r.val k.val r.isLt k.isLt).symm
  h1 k := (Cert.FfnModel.vec_at (fun k => m ((c.tc : Thread Cert.Kernel4Ideal.nD Cert.Kernel4Ideal.τ).loc Cert.Kernel4Ideal.main_arg1) (ix3 0 0 k)) k.val k.isLt).symm
  h2 k j := (Cert.FfnModel.mat_at (fun k j => m ((c.tc : Thread Cert.Kernel4Ideal.nD Cert.Kernel4Ideal.τ).loc Cert.Kernel4Ideal.main_arg2) (ix2 k j)) k.val j.val k.isLt j.isLt).symm
  h3 k j := (Cert.FfnModel.mat_at (fun k j => m ((c.tc : Thread Cert.Kernel4Ideal.nD Cert.Kernel4Ideal.τ).loc Cert.Kernel4Ideal.main_arg3) (ix2 k j)) k.val j.val k.isLt j.isLt).symm

theorem even_algebraic : Cert.algebraic_Kernel4Ideal_Reference4Ideal_pre_finite_even_weights := by
  intro m ρ m' ρ' hpre hagree
  refine ⟨fun c => Cert.Kernel4Ideal.Value.G4 m c, fun c => Cert.Kernel4Ideal.Value.G5 m c, fun c => Cert.Kernel4Ideal.Value.G6 m c,
    fun c => Cert.Kernel4Ideal.Value.G7 m c, Cert.Kernel4Ideal.Value.run (F := Ideal) m ρ, ?_⟩
  refine (θ_run Cert.Reference4Ideal.defs _ _).mono (fun _ h c => ⟨(h c).1.trans ?_, (h c).2.1.trans ?_, (h c).2.2.1.trans ?_, (h c).2.2.2.1.trans ?_,
    (h c).2.2.2.2⟩) (Cert.Reference4Ideal.Value.run (F := Ideal) m' ρ')
  all_goals
    obtain ⟨a0, a1, a2, a3⟩ := hagree c
    have hf := Cert.Pre_finite_even_weights.Even.finGate _ _ _ _ (even_reads m c) (hpre c)
  · refine (Cert.Reference4Ideal.Read.val_main_v84_eq (F := Ideal) (Idealize.ShloMosaic.StableHlo.launchContents m' c)).trans ?_
    refine (congr (congr (congrArg (Cert.Reference4Ideal.Read.val_main_v84 (F := Ideal)) a0) a1) a2).trans ?_
    funext i
    rw [Idealize.ShloMosaic.eq_ix2 i]
    exact (Cert.Reference4Ideal.Even.v84_at (even_reads m c) _ _).trans (Cert.Kernel4Ideal.Even.qkv_array_at m c _ _).symm
  · refine (Cert.Reference4Ideal.Read.val_main_v88_eq (F := Ideal) (Idealize.ShloMosaic.StableHlo.launchContents m' c)).trans ?_
    refine (congr (congr (congr (congrArg (Cert.Reference4Ideal.Read.val_main_v88 (F := Ideal)) a0) a1) a2) a3).trans ?_
    funext i
    rw [Idealize.ShloMosaic.eq_ix2 i]
    exact (Cert.Reference4Ideal.Even.v88_at (even_reads m c) hf _ _).trans (Cert.Kernel4Ideal.Even.act_array_at m c _ _).symm
  · refine (Cert.Reference4Ideal.Read.val_main_v90_eq (F := Ideal) (Idealize.ShloMosaic.StableHlo.launchContents m' c)).trans ?_
    refine (congr (congr (congrArg (Cert.Reference4Ideal.Read.val_main_v90 (F := Ideal)) a0) a1) a2).trans ?_
    funext i
    rw [Idealize.ShloMosaic.eq_ix2 i]
    exact (Cert.Reference4Ideal.Even.v90_at (even_reads m c) hf _ _).trans (Cert.Kernel4Ideal.Even.gate_array_at m c _ _).symm
  · refine (Cert.Reference4Ideal.Read.val_main_v96_eq (F := Ideal) (Idealize.ShloMosaic.StableHlo.launchContents m' c)).trans ?_
    refine (congr (congr (congrArg (Cert.Reference4Ideal.Read.val_main_v96 (F := Ideal)) a0) a1) a2).trans ?_
    funext i
    rw [Idealize.ShloMosaic.eq_ix2 i]
    exact (Cert.Reference4Ideal.Even.v96_at (even_reads m c) _ _).trans (Cert.Kernel4Ideal.Even.small_array_at m c _ _).symm

/-- The fourth reference leaves its arguments alone and owns no semaphore. -/
theorem even_reference_frame : Cert.quiescent_Reference4Ideal := fun m ρ _ =>
  (θ_run Cert.Reference4Ideal.defs _ _).mono (fun r h => ⟨fun c => (h c).2.2.2.2,
    Idealize.ShloMosaic.sem_eq_zero_of_no_sems (by decide) r.2⟩) (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_gate_weights.Gen.facts, Cert.Pre_finite_silu_weights.Gen.facts, Cert.Pre_finite_even_weights.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2,
      Idealize.ShloMosaic.sem_eq_zero_of_no_sems (by decide) r.2⟩) (Cert.ReferenceIdeal.Value.run (F := Ideal) m ρ),
  fun m ρ _ => Cert.Kernel2.Gen.frame m ρ, fun m ρ _ => Cert.Kernel2Ideal.Gen.frame m ρ,
  fun m ρ _ => Cert.Kernel2Ideal.Gen.frame m ρ, ffn_reference_frame, fun m ρ _ => ffn_reference_frame m ρ trivial,
  fun m ρ _ => Cert.Kernel3.Gen.frame m ρ, fun m ρ _ => Cert.Kernel3Ideal.Gen.frame m ρ,
  fun m ρ _ => Cert.Kernel3Ideal.Gen.frame m ρ, odd_reference_frame, fun m ρ _ => odd_reference_frame m ρ trivial,
  fun m ρ _ => Cert.Kernel4.Gen.frame m ρ, fun m ρ _ => Cert.Kernel4Ideal.Gen.frame m ρ,
  fun m ρ _ => Cert.Kernel4Ideal.Gen.frame m ρ, even_reference_frame, fun m ρ _ => even_reference_frame m ρ trivial,
  trivial, ssd_algebraic, trivial, ffn_algebraic, trivial, odd_algebraic, trivial, even_algebraic⟩

end Cert.Proof

end
